-- ==== Defs.lean ====
def Pre_Kernel (m : (ℓ : Loc Cert.Kernel.nD Cert.Kernel.τ Cert.Kernel.sig) → Buf (Elt Bits) ℓ) : Prop :=
  True

def Pre_Kernel_steps_finite [hPre_steps_finite : Cert.Pre_steps_finite.Facts] (m : (ℓ : Loc Cert.Kernel.nD Cert.Kernel.τ Cert.Kernel.sig) → Buf (Elt Bits) ℓ) : Prop :=
  ∀ c : Dev Cert.Kernel.nD,
    (Cert.Pre_steps_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_steps_finite : Cert.Pre_steps_finite.Facts] (m : (ℓ : Loc Cert.KernelIdeal.nD Cert.KernelIdeal.τ Cert.KernelIdeal.sig) → Buf (Elt Ideal) ℓ) : Prop :=
  ∀ c : Dev Cert.KernelIdeal.nD,
    (Cert.Pre_steps_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_finite [hPre_steps_finite : Cert.Pre_steps_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15_gate_gradient_finite [hPre_gate_gradient_finite : Cert.Pre_gate_gradient_finite.Facts] (m : (ℓ : Loc Cert.Kernel15.nD Cert.Kernel15.τ Cert.Kernel15.sig) → Buf (Elt Bits) ℓ) : Prop :=
  ∀ c : Dev Cert.Kernel15.nD,
    (Cert.Pre_gate_gradient_finite.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2)) (m ((c.tc : Thread Cert.Kernel15.nD Cert.Kernel15.τ).loc Cert.Kernel15.main_arg3))) = (fun _ => 1#1)

def Pre_Kernel15Ideal [hPre_gate_gradient_finite : Cert.Pre_gate_gradient_finite.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_gate_gradient_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_gate_gradient_finite [hPre_gate_gradient_finite : Cert.Pre_gate_gradient_finite.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_gate_gradient_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18_first_norm_gradient_finite [hPre_first_norm_gradient_finite : Cert.Pre_first_norm_gradient_finite.Facts] (m : (ℓ : Loc Cert.Kernel18.nD Cert.Kernel18.τ Cert.Kernel18.sig) → Buf (Elt Bits) ℓ) : Prop :=
  ∀ c : Dev Cert.Kernel18.nD,
    (Cert.Pre_first_norm_gradient_finite.fn (F := Bits) (m ((c.tc : Thread Cert.Kernel18.nD Cert.Kernel18.τ).loc Cert.Kernel18.main_arg0)) (m ((c.tc : Thread Cert.Kernel18.nD Cert.Kernel18.τ).loc Cert.Kernel18.main_arg1)) (m ((c.tc : Thread Cert.Kernel18.nD Cert.Kernel18.τ).loc Cert.Kernel18.main_arg2)) (m ((c.tc : Thread Cert.Kernel18.nD Cert.Kernel18.τ).loc Cert.Kernel18.main_arg3)) (m ((c.tc : Thread Cert.Kernel18.nD Cert.Kernel18.τ).loc Cert.Kernel18.main_arg4)) (m ((c.tc : Thread Cert.Kernel18.nD Cert.Kernel18.τ).loc Cert.Kernel18.main_arg5))) = (fun _ => 1#1)

def Pre_Kernel18Ideal [hPre_first_norm_gradient_finite : Cert.Pre_first_norm_gradient_finite.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_first_norm_gradient_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_first_norm_gradient_finite [hPre_first_norm_gradient_finite : Cert.Pre_first_norm_gradient_finite.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_first_norm_gradient_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))) = (fun _ => 1#1)

def Pre_Kernel19 (m : (ℓ : Loc Cert.Kernel19.nD Cert.Kernel19.τ Cert.Kernel19.sig) → Buf (Elt Bits) ℓ) : Prop :=
  True

def Pre_Kernel19_second_norm_gradient_finite [hPre_second_norm_gradient_finite : Cert.Pre_second_norm_gradient_finite.Facts] (m : (ℓ : Loc Cert.Kernel19.nD Cert.Kernel19.τ Cert.Kernel19.sig) → Buf (Elt Bits) ℓ) : Prop :=
  ∀ c : Dev Cert.Kernel19.nD,
    (Cert.Pre_second_norm_gradient_finite.fn (F := Bits) (m ((c.tc : Thread Cert.Kernel19.nD Cert.Kernel19.τ).loc Cert.Kernel19.main_arg0)) (m ((c.tc : Thread Cert.Kernel19.nD Cert.Kernel19.τ).loc Cert.Kernel19.main_arg1)) (m ((c.tc : Thread Cert.Kernel19.nD Cert.Kernel19.τ).loc Cert.Kernel19.main_arg2)) (m ((c.tc : Thread Cert.Kernel19.nD Cert.Kernel19.τ).loc Cert.Kernel19.main_arg3)) (m ((c.tc : Thread Cert.Kernel19.nD Cert.Kernel19.τ).loc Cert.Kernel19.main_arg4))) = (fun _ => 1#1)

def Pre_Kernel19Ideal [hPre_second_norm_gradient_finite : Cert.Pre_second_norm_gradient_finite.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_second_norm_gradient_finite.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_second_norm_gradient_finite [hPre_second_norm_gradient_finite : Cert.Pre_second_norm_gradient_finite.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_second_norm_gradient_finite.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel_pre_steps_finite [hKernel : Cert.Kernel.Facts] [hPre_steps_finite : Cert.Pre_steps_finite.Facts] : Prop :=
  ∀ (m : (ℓ : Loc Cert.Kernel.nD Cert.Kernel.τ Cert.Kernel.sig) → Buf (Elt Bits) ℓ) (g : Dev Cert.Kernel.nD → PrngReg), Pre_Kernel_steps_finite m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_steps_finite [hReferenceIdeal : Cert.ReferenceIdeal.Facts] [hPre_steps_finite : Cert.Pre_steps_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15_pre_gate_gradient_finite [hKernel15 : Cert.Kernel15.Facts] [hPre_gate_gradient_finite : Cert.Pre_gate_gradient_finite.Facts] : Prop :=
  ∀ (m : (ℓ : Loc Cert.Kernel15.nD Cert.Kernel15.τ Cert.Kernel15.sig) → Buf (Elt Bits) ℓ) (g : Dev Cert.Kernel15.nD → PrngReg), Pre_Kernel15_gate_gradient_finite m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] [hPre_gate_gradient_finite : Cert.Pre_gate_gradient_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_gate_gradient_finite [hReference15Ideal : Cert.Reference15Ideal.Facts] [hPre_gate_gradient_finite : Cert.Pre_gate_gradient_finite.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_gate_gradient_finite m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18_pre_first_norm_gradient_finite [hKernel18 : Cert.Kernel18.Facts] [hPre_first_norm_gradient_finite : Cert.Pre_first_norm_gradient_finite.Facts] : Prop :=
  ∀ (m : (ℓ : Loc Cert.Kernel18.nD Cert.Kernel18.τ Cert.Kernel18.sig) → Buf (Elt Bits) ℓ) (g : Dev Cert.Kernel18.nD → PrngReg), Pre_Kernel18_first_norm_gradient_finite m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] [hPre_first_norm_gradient_finite : Cert.Pre_first_norm_gradient_finite.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Reference18Ideal_pre_first_norm_gradient_finite [hReference18Ideal : Cert.Reference18Ideal.Facts] [hPre_first_norm_gradient_finite : Cert.Pre_first_norm_gradient_finite.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_first_norm_gradient_finite m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19_pre_second_norm_gradient_finite [hKernel19 : Cert.Kernel19.Facts] [hPre_second_norm_gradient_finite : Cert.Pre_second_norm_gradient_finite.Facts] : Prop :=
  ∀ (m : (ℓ : Loc Cert.Kernel19.nD Cert.Kernel19.τ Cert.Kernel19.sig) → Buf (Elt Bits) ℓ) (g : Dev Cert.Kernel19.nD → PrngReg), Pre_Kernel19_second_norm_gradient_finite m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] [hPre_second_norm_gradient_finite : Cert.Pre_second_norm_gradient_finite.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Reference19Ideal_pre_second_norm_gradient_finite [hReference19Ideal : Cert.Reference19Ideal.Facts] [hPre_second_norm_gradient_finite : Cert.Pre_second_norm_gradient_finite.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_second_norm_gradient_finite m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v2) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v5) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v18) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] [hPre_gate_gradient_finite : Cert.Pre_gate_gradient_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v5_0)) (v1 : (c : Dev Cert.Kernel15Ideal.nD) → Buf (Elt Ideal) ((c.tc : Thread Cert.Kernel15Ideal.nD Cert.Kernel15Ideal.τ).loc Cert.Kernel15Ideal.main_v5_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5_0) = v0 c
          ∧ r.2.mem ((c.tc : Thread Cert.Kernel15Ideal.nD Cert.Kernel15Ideal.τ).loc Cert.Kernel15Ideal.main_v5_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_v8) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v6_0)) (v1 : (c : Dev Cert.Kernel17Ideal.nD) → Buf (Elt Ideal) ((c.tc : Thread Cert.Kernel17Ideal.nD Cert.Kernel17Ideal.τ).loc Cert.Kernel17Ideal.main_v6_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v6_0) = v0 c
          ∧ r.2.mem ((c.tc : Thread Cert.Kernel17Ideal.nD Cert.Kernel17Ideal.τ).loc Cert.Kernel17Ideal.main_v6_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v27) = v0 c
          ∧ r.2.mem ((c.tc : Thread Cert.Reference17Ideal.nD Cert.Reference17Ideal.τ).loc Cert.Reference17Ideal.main_v52) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  True

def algebraic_Kernel18Ideal_Reference18Ideal [hKernel18Ideal : Cert.Kernel18Ideal.Facts] [hReference18Ideal : Cert.Reference18Ideal.Facts] [hPre_first_norm_gradient_finite : Cert.Pre_first_norm_gradient_finite.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v8_0)) (v1 : (c : Dev Cert.Kernel18Ideal.nD) → Buf (Elt Ideal) ((c.tc : Thread Cert.Kernel18Ideal.nD Cert.Kernel18Ideal.τ).loc Cert.Kernel18Ideal.main_v8_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v8_0) = v0 c
          ∧ r.2.mem ((c.tc : Thread Cert.Kernel18Ideal.nD Cert.Kernel18Ideal.τ).loc Cert.Kernel18Ideal.main_v8_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v63) = v0 c
          ∧ r.2.mem ((c.tc : Thread Cert.Reference18Ideal.nD Cert.Reference18Ideal.τ).loc Cert.Reference18Ideal.main_v64) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] [hPre_second_norm_gradient_finite : Cert.Pre_second_norm_gradient_finite.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v58) = v0 c
          ∧ r.2.mem ((c.tc : Thread Cert.Reference19Ideal.nD Cert.Reference19Ideal.τ).loc Cert.Reference19Ideal.main_v59) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_steps_finite : Cert.Pre_steps_finite.Facts) (hPre_gate_gradient_finite : Cert.Pre_gate_gradient_finite.Facts) (hPre_first_norm_gradient_finite : Cert.Pre_first_norm_gradient_finite.Facts) (hPre_second_norm_gradient_finite : Cert.Pre_second_norm_gradient_finite.Facts),
    quiescent_Kernel (hKernel := hKernel)
    ∧ quiescent_Kernel_pre_steps_finite (hKernel := hKernel) (hPre_steps_finite := hPre_steps_finite)
    ∧ quiescent_KernelIdeal (hKernelIdeal := hKernelIdeal) (hPre_steps_finite := hPre_steps_finite)
    ∧ quiescent_ReferenceIdeal (hReferenceIdeal := hReferenceIdeal)
    ∧ quiescent_ReferenceIdeal_pre_steps_finite (hReferenceIdeal := hReferenceIdeal) (hPre_steps_finite := hPre_steps_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15_pre_gate_gradient_finite (hKernel15 := hKernel15) (hPre_gate_gradient_finite := hPre_gate_gradient_finite)
    ∧ quiescent_Kernel15Ideal (hKernel15Ideal := hKernel15Ideal) (hPre_gate_gradient_finite := hPre_gate_gradient_finite)
    ∧ quiescent_Reference15Ideal (hReference15Ideal := hReference15Ideal)
    ∧ quiescent_Reference15Ideal_pre_gate_gradient_finite (hReference15Ideal := hReference15Ideal) (hPre_gate_gradient_finite := hPre_gate_gradient_finite)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18_pre_first_norm_gradient_finite (hKernel18 := hKernel18) (hPre_first_norm_gradient_finite := hPre_first_norm_gradient_finite)
    ∧ quiescent_Kernel18Ideal (hKernel18Ideal := hKernel18Ideal) (hPre_first_norm_gradient_finite := hPre_first_norm_gradient_finite)
    ∧ quiescent_Reference18Ideal (hReference18Ideal := hReference18Ideal)
    ∧ quiescent_Reference18Ideal_pre_first_norm_gradient_finite (hReference18Ideal := hReference18Ideal) (hPre_first_norm_gradient_finite := hPre_first_norm_gradient_finite)
    ∧ quiescent_Kernel19 (hKernel19 := hKernel19)
    ∧ quiescent_Kernel19_pre_second_norm_gradient_finite (hKernel19 := hKernel19) (hPre_second_norm_gradient_finite := hPre_second_norm_gradient_finite)
    ∧ quiescent_Kernel19Ideal (hKernel19Ideal := hKernel19Ideal) (hPre_second_norm_gradient_finite := hPre_second_norm_gradient_finite)
    ∧ quiescent_Reference19Ideal (hReference19Ideal := hReference19Ideal)
    ∧ quiescent_Reference19Ideal_pre_second_norm_gradient_finite (hReference19Ideal := hReference19Ideal) (hPre_second_norm_gradient_finite := hPre_second_norm_gradient_finite)
    ∧ preserves_Kernel_KernelIdeal
    ∧ algebraic_KernelIdeal_ReferenceIdeal (hKernelIdeal := hKernelIdeal) (hReferenceIdeal := hReferenceIdeal) (hPre_steps_finite := hPre_steps_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal) (hPre_gate_gradient_finite := hPre_gate_gradient_finite)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal) (hPre_first_norm_gradient_finite := hPre_first_norm_gradient_finite)
    ∧ preserves_Kernel19_Kernel19Ideal
    ∧ algebraic_Kernel19Ideal_Reference19Ideal (hKernel19Ideal := hKernel19Ideal) (hReference19Ideal := hReference19Ideal) (hPre_second_norm_gradient_finite := hPre_second_norm_gradient_finite)
-- ==== Pre_first_norm_gradient_finite.lean ====
abbrev S16384x2816 : Shape := ⟨2, ![16384, 2816]⟩
abbrev S16384x1024 : Shape := ⟨2, ![16384, 1024]⟩
abbrev S1024 : Shape := ⟨1, ![1024]⟩
abbrev S1024x5632 : Shape := ⟨2, ![1024, 5632]⟩
abbrev S_ : Shape := ⟨0, ![]⟩
abbrev S16384x5632 : Shape := ⟨2, ![16384, 5632]⟩
abbrev S5632x1024 : Shape := ⟨2, ![5632, 1024]⟩
abbrev S1x1024 : Shape := ⟨2, ![1, 1024]⟩

class Facts : Prop where
  bcast_S_S16384x1024 : S_.BroadcastsInDim S16384x1024 (![] : Fin 0 → Fin S16384x1024.rank)
  concatenates_S16384x2816_S16384x2816_S16384x5632_d1 : Shape.Concatenates [S16384x2816, S16384x2816] S16384x5632 1
  transposes_S1024x5632_S5632x1024_1_0 : S1024x5632.Transposes [1, 0] S5632x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x5632_S5632x1024_S16384x1024_1_0_0_1_n_n_wf : DotDims.WF S16384x5632 S5632x1024 S16384x1024 [1] [0] [0] [1] [] []

variable [Facts]

def dot_S16384x5632_S5632x1024_S16384x1024_1_0_0_1_n_n : DotDims S16384x5632 S5632x1024 S16384x1024 where
  lhsContracting := [1]
  rhsContracting := [0]
  lhsNonContracting := [0]
  rhsNonContracting := [1]
  lhsBatch := []
  rhsBatch := []
  wf := dot_S16384x5632_S5632x1024_S16384x1024_1_0_0_1_n_n_wf
def fn {F : FTy → Type} [FloatOps F] (main_arg0 : FVec F S16384x2816 .f32) (main_arg1 : FVec F S16384x2816 .f32) (main_arg2 : FVec F S16384x1024 .f32) (main_arg3 : FVec F S16384x1024 .f32) (main_arg4 : FVec F S1024 .f32) (main_arg5 : FVec F S1024x5632 .f32) : IVec S16384x1024 1 :=
  let main_cst : FVec F S_ .f32 := constant S_ .f32 0x3FB504F3#32
  let main_v0 : FVec F S16384x1024 .f32 := broadcastInDim S16384x1024 ![] bcast_S_S16384x1024 main_cst
  let main_v1 : FVec F S16384x1024 .f32 := mulf main_v0 main_arg2
  let main_v2 : FVec F S16384x5632 .f32 := (fun a b => concatenate S16384x5632 1 [⟨S16384x2816, a⟩, ⟨S16384x2816, b⟩] concatenates_S16384x2816_S16384x2816_S16384x5632_d1) main_arg0 main_arg1
  let main_v3 : FVec F S5632x1024 .f32 := (transpose S5632x1024 [1, 0] · transposes_S1024x5632_S5632x1024_1_0) main_arg5
  let main_v4 : FVec F S16384x1024 .f32 := (fun l r => Host.dotGeneral dot_S16384x5632_S5632x1024_S16384x1024_1_0_0_1_n_n none l r) main_v2 main_v3
  let main_v5 : FVec F S16384x1024 .f32 := addf main_v1 main_v4
  let main_v6 : FVec F S1x1024 .f32 := broadcastInDim S1x1024 ![1] bcast_S1024_S1x1024_1 main_arg4
  let main_v7 : FVec F S16384x1024 .f32 := broadcastInDim S16384x1024 ![0, 1] bcast_S1x1024_S16384x1024_0_1 main_v6
  let main_v8 : FVec F S16384x1024 .f32 := mulf main_v5 main_v7
  let main_v9 : FVec F S16384x1024 .f32 := Host.absf main_v8
  let main_cst_0 : FVec F S_ .f32 := constant S_ .f32 0x7F800000#32
  let main_v10 : FVec F S16384x1024 .f32 := broadcastInDim S16384x1024 ![] bcast_S_S16384x1024 main_cst_0
  let main_v11 : IVec S16384x1024 1 := cmpf .olt main_v9 main_v10
  main_v11
-- ==== Pre_gate_gradient_finite.lean ====
abbrev S16384x1024 : Shape := ⟨2, ![16384, 1024]⟩
abbrev S2816x1024 : Shape := ⟨2, ![2816, 1024]⟩
abbrev S16384x2816 : Shape := ⟨2, ![16384, 2816]⟩
abbrev S1024x2816 : Shape := ⟨2, ![1024, 2816]⟩
abbrev S_ : Shape := ⟨0, ![]⟩

class Facts : Prop where
  transposes_S2816x1024_S1024x2816_1_0 : S2816x1024.Transposes [1, 0] S1024x2816
  bcast_S_S16384x2816 : S_.BroadcastsInDim S16384x2816 (![] : Fin 0 → Fin S16384x2816.rank)
  dot_S16384x1024_S1024x2816_S16384x2816_1_0_0_1_n_n_wf : DotDims.WF S16384x1024 S1024x2816 S16384x2816 [1] [0] [0] [1] [] []

variable [Facts]

def dot_S16384x1024_S1024x2816_S16384x2816_1_0_0_1_n_n : DotDims S16384x1024 S1024x2816 S16384x2816 where
  lhsContracting := [1]
  rhsContracting := [0]
  lhsNonContracting := [0]
  rhsNonContracting := [1]
  lhsBatch := []
  rhsBatch := []
  wf := dot_S16384x1024_S1024x2816_S16384x2816_1_0_0_1_n_n_wf
def fn {F : FTy → Type} [FloatOps F] (main_arg0 : FVec F S16384x1024 .f32) (main_arg1 : FVec F S2816x1024 .f32) (main_arg2 : FVec F S16384x2816 .f32) (main_arg3 : FVec F S16384x2816 .f32) : IVec S16384x2816 1 :=
  let main_v0 : FVec F S1024x2816 .f32 := (transpose S1024x2816 [1, 0] · transposes_S2816x1024_S1024x2816_1_0) main_arg1
  let main_v1 : FVec F S16384x2816 .f32 := (fun l r => Host.dotGeneral dot_S16384x1024_S1024x2816_S16384x2816_1_0_0_1_n_n none l r) main_arg0 main_v0
  let main_v2 : FVec F S16384x2816 .f32 := mulf main_v1 main_arg3
  let main_v3 : FVec F S16384x2816 .f32 := Host.absf main_v2
  let main_cst : FVec F S_ .f32 := constant S_ .f32 0x7F800000#32
  let main_v4 : FVec F S16384x2816 .f32 := broadcastInDim S16384x2816 ![] bcast_S_S16384x2816 main_cst
  let main_v5 : IVec S16384x2816 1 := cmpf .olt main_v3 main_v4
  main_v5
-- ==== Pre_second_norm_gradient_finite.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

class Facts : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def fn {F : FTy → Type} [FloatOps F] (main_arg0 : FVec F S16384x1024 .f32) (main_arg1 : FVec F S16384x1024 .f32) (main_arg2 : FVec F S16384x1024 .f32) (main_arg3 : FVec F S1024 .f32) (main_arg4 : FVec F S1024x1024 .f32) : IVec S16384x1024 1 :=
  let main_v0 : FVec F S1024x1024 .f32 := (transpose S1024x1024 [1, 0] · transposes_S1024x1024_S1024x1024_1_0) main_arg4
  let main_v1 : FVec F S16384x1024 .f32 := (fun l r => Host.dotGeneral dot_S16384x1024_S1024x1024_S16384x1024_1_0_0_1_n_n none l r) main_arg0 main_v0
  let main_v2 : FVec F S16384x1024 .f32 := addf main_arg1 main_v1
  let main_v3 : FVec F S1x1024 .f32 := broadcastInDim S1x1024 ![1] bcast_S1024_S1x1024_1 main_arg3
  let main_v4 : FVec F S16384x1024 .f32 := broadcastInDim S16384x1024 ![0, 1] bcast_S1x1024_S16384x1024_0_1 main_v3
  let main_v5 : FVec F S16384x1024 .f32 := mulf main_v2 main_v4
  let main_v6 : FVec F S16384x1024 .f32 := Host.absf main_v5
  let main_cst : FVec F S_ .f32 := constant S_ .f32 0x7F800000#32
  let main_v7 : FVec F S16384x1024 .f32 := broadcastInDim S16384x1024 ![] bcast_S_S16384x1024 main_cst
  let main_v8 : IVec S16384x1024 1 := cmpf .olt main_v6 main_v7
  main_v8
-- ==== Pre_steps_finite.lean ====
abbrev S2048x16384 : Shape := ⟨2, ![2048, 16384]⟩
abbrev S16384x2048 : Shape := ⟨2, ![16384, 2048]⟩
abbrev S16384x128 : Shape := ⟨2, ![16384, 128]⟩
abbrev S128x8x256x128 : Shape := ⟨4, ![128, 8, 256, 128]⟩
abbrev S32 : Shape := ⟨1, ![32]⟩
abbrev S16384x32 : Shape := ⟨2, ![16384, 32]⟩
abbrev S1x32 : Shape := ⟨2, ![1, 32]⟩
abbrev S_ : Shape := ⟨0, ![]⟩

class Facts : Prop where
  slices_S16384x128_S16384x32_0_0 : S16384x128.Slices ![0, 0] S16384x32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)

variable [Facts]

def fn {F : FTy → Type} [FloatOps F] (main_arg0 : FVec F S2048x16384 .f32) (main_arg1 : FVec F S16384x2048 .f32) (main_arg2 : FVec F S16384x128 .f32) (main_arg3 : FVec F S2048x16384 .f32) (main_arg4 : FVec F S128x8x256x128 .f32) (main_arg5 : FVec F S32 .f32) (main_arg6 : FVec F S32 .f32) : IVec S16384x32 1 :=
  let main_v0 : FVec F S16384x32 .f32 := (extractStridedSlice S16384x32 ![0, 0] · slices_S16384x128_S16384x32_0_0) main_arg2
  let main_v1 : FVec F S1x32 .f32 := broadcastInDim S1x32 ![1] bcast_S32_S1x32_1 main_arg5
  let main_v2 : FVec F S16384x32 .f32 := broadcastInDim S16384x32 ![0, 1] bcast_S1x32_S16384x32_0_1 main_v1
  let main_v3 : FVec F S16384x32 .f32 := addf main_v0 main_v2
  let main_cst : FVec F S_ .f32 := constant S_ .f32 0x7F800000#32
  let main_v4 : FVec F S16384x32 .f32 := broadcastInDim S16384x32 ![] bcast_S_S16384x32 main_cst
  let main_v5 : IVec S16384x32 1 := cmpf .olt main_v3 main_v4
  main_v5
-- ==== Kernel.lean ====
abbrev S2048x16384 : Shape := ⟨2, ![2048, 16384]⟩
abbrev S16384x2048 : Shape := ⟨2, ![16384, 2048]⟩
abbrev S16384x128 : Shape := ⟨2, ![16384, 128]⟩
abbrev S128x8x256x128 : Shape := ⟨4, ![128, 8, 256, 128]⟩
abbrev S32 : Shape := ⟨1, ![32]⟩
abbrev S_ : Shape := ⟨0, ![]⟩
abbrev S128 : Shape := ⟨1, ![128]⟩
abbrev S128x1 : Shape := ⟨2, ![128, 1]⟩
abbrev S128x128 : Shape := ⟨2, ![128, 128]⟩
abbrev S16384x4096 : Shape := ⟨2, ![16384, 4096]⟩
abbrev S2048x128 : Shape := ⟨2, ![2048, 128]⟩
abbrev S128x2048 : Shape := ⟨2, ![128, 2048]⟩
abbrev S1x8x256x128 : Shape := ⟨4, ![1, 8, 256, 128]⟩
abbrev S128x4096 : Shape := ⟨2, ![128, 4096]⟩
abbrev S8x256x128 : Shape := ⟨3, ![8, 256, 128]⟩
abbrev S1x1x256x128 : Shape := ⟨4, ![1, 1, 256, 128]⟩
abbrev S256x128 : Shape := ⟨2, ![256, 128]⟩
abbrev S1x256x128 : Shape := ⟨3, ![1, 256, 128]⟩
abbrev S1x128 : Shape := ⟨2, ![1, 128]⟩
abbrev S64x128 : Shape := ⟨2, ![64, 128]⟩
abbrev S128x256 : Shape := ⟨2, ![128, 256]⟩

abbrev nBuf : Space → Nat
  | .hbm => 20
  | .vmem => 22
  | .smem => 0
  | _ => 0

abbrev bufTy : (tb : Table) → Fin (tcTables nBuf tb) → BufTy
  | .hbm, ⟨0, _⟩ => ⟨S2048x16384, .f32⟩
  | .hbm, ⟨1, _⟩ => ⟨S16384x2048, .f32⟩
  | .hbm, ⟨2, _⟩ => ⟨S16384x128, .f32⟩
  | .hbm, ⟨3, _⟩ => ⟨S2048x16384, .f32⟩
  | .hbm, ⟨4, _⟩ => ⟨S128x8x256x128, .f32⟩
  | .hbm, ⟨5, _⟩ => ⟨S32, .f32⟩
  | .hbm, ⟨6, _⟩ => ⟨S32, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S128x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S128x128, .f32⟩
  | .hbm, ⟨17, _⟩ => ⟨S16384x4096, .f32⟩
  | .hbm, ⟨18, _⟩ => ⟨S16384x128, .f32⟩
  | .hbm, ⟨19, _⟩ => ⟨S128x128, .f32⟩
  | .local _ .vmem, ⟨0, _⟩ => ⟨S2048x128, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S128x128, .f32⟩
  | .local _ .vmem, ⟨5, _⟩ => ⟨S128x128, .f32⟩
  | .local _ .vmem, ⟨6, _⟩ => ⟨S2048x128, .f32⟩
  | .local _ .vmem, ⟨7, _⟩ => ⟨S2048x128, .f32⟩
  | .local _ .vmem, ⟨8, _⟩ => ⟨S1x8x256x128, .f32⟩
  | .local _ .vmem, ⟨9, _⟩ => ⟨S1x8x256x128, .f32⟩
  | .local _ .vmem, ⟨10, _⟩ => ⟨S128x128, .f32⟩
  | .local _ .vmem, ⟨11, _⟩ => ⟨S128x128, .f32⟩
  | .local _ .vmem, ⟨12, _⟩ => ⟨S128x4096, .f32⟩
  | .local _ .vmem, ⟨13, _⟩ => ⟨S128x4096, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S8x256x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x16384 : Shape := ⟨2, ![2048, 16384]⟩
abbrev S16384x2048 : Shape := ⟨2, ![16384, 2048]⟩
abbrev S16384x128 : Shape := ⟨2, ![16384, 128]⟩
abbrev S128x8x256x128 : Shape := ⟨4, ![128, 8, 256, 128]⟩
abbrev S32 : Shape := ⟨1, ![32]⟩
abbrev S16384x32 : Shape := ⟨2, ![16384, 32]⟩
abbrev S1x16384x32 : Shape := ⟨3, ![1, 16384, 32]⟩
abbrev S1x1x32 : Shape := ⟨3, ![1, 1, 32]⟩
abbrev S_ : Shape := ⟨0, ![]⟩
abbrev S1x128x128x8x4 : Shape := ⟨5, ![1, 128, 128, 8, 4]⟩
abbrev S1x128x8x4x128 : Shape := ⟨5, ![1, 128, 8, 4, 128]⟩
abbrev S16384x1024 : Shape := ⟨2, ![16384, 1024]⟩
abbrev S1x128x128x8x128 : Shape := ⟨5, ![1, 128, 128, 8, 128]⟩
abbrev S1x128x128x8x4x64 : Shape := ⟨6, ![1, 128, 128, 8, 4, 64]⟩
abbrev S1x128x8x4x64x128 : Shape := ⟨6, ![1, 128, 8, 4, 64, 128]⟩
abbrev S1x128x128x8x4x1 : Shape := ⟨6, ![1, 128, 128, 8, 4, 1]⟩
abbrev S1x8x4x64x128 : Shape := ⟨5, ![1, 8, 4, 64, 128]⟩
abbrev S128x1x8x4x64x128 : Shape := ⟨6, ![128, 1, 8, 4, 64, 128]⟩
abbrev S1x128x8x4x1 : Shape := ⟨5, ![1, 128, 8, 4, 1]⟩
abbrev S1x128x8x4 : Shape := ⟨4, ![1, 128, 8, 4]⟩
abbrev S128x1x8x4 : Shape := ⟨4, ![128, 1, 8, 4]⟩
abbrev S1x1x8x4x64x128 : Shape := ⟨6, ![1, 1, 8, 4, 64, 128]⟩
abbrev S1x1x8x4 : Shape := ⟨4, ![1, 1, 8, 4]⟩
abbrev S1x8x4 : Shape := ⟨3, ![1, 8, 4]⟩
abbrev S1x8x4x1x1 : Shape := ⟨5, ![1, 8, 4, 1, 1]⟩
abbrev S1x16384x32x64 : Shape := ⟨4, ![1, 16384, 32, 64]⟩
abbrev S1x16384x32x1 : Shape := ⟨4, ![1, 16384, 32, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x8x4x128x1 : Shape := ⟨6, ![1, 128, 8, 4, 128, 1]⟩
abbrev S1x128x8x4x1x128 : Shape := ⟨6, ![1, 128, 8, 4, 1, 128]⟩
abbrev S1x128x8x4x128x128 : Shape := ⟨6, ![1, 128, 8, 4, 128, 128]⟩
abbrev S1x128x8x128x128 : Shape := ⟨5, ![1, 128, 8, 128, 128]⟩
abbrev S1x128x8x1x128x128 : Shape := ⟨6, ![1, 128, 8, 1, 128, 128]⟩
abbrev S1x128x8x4x1x1 : Shape := ⟨6, ![1, 128, 8, 4, 1, 1]⟩
abbrev S128x8x4 : Shape := ⟨3, ![128, 8, 4]⟩
abbrev S128x128x8x4 : Shape := ⟨4, ![128, 128, 8, 4]⟩
abbrev S128x8x128x128 : Shape := ⟨4, ![128, 8, 128, 128]⟩
abbrev S128x8x4x128 : Shape := ⟨4, ![128, 8, 4, 128]⟩
abbrev S1x32 : Shape := ⟨2, ![1, 32]⟩
abbrev S16384x4096 : Shape := ⟨2, ![16384, 4096]⟩

abbrev nBuf : Space → Nat
  | .hbm => 351
  | .vmem => 0
  | .smem => 0
  | _ => 0

abbrev hbmTy0_0 (i : Nat) : BufTy := match i % 128 with
  | 0 => ⟨S2048x16384, .f32⟩
  | 1 => ⟨S16384x2048, .f32⟩
  | 2 => ⟨S16384x128, .f32⟩
  | 3 => ⟨S2048x16384, .f32⟩
  | 4 => ⟨S128x8x256x128, .f32⟩
  | 5 => ⟨S32, .f32⟩
  | 6 => ⟨S32, .f32⟩
  | 7 => ⟨S16384x32, .f32⟩
  | 8 => ⟨S1x16384x32, .f32⟩
  | 9 => ⟨S1x1x32, .f32⟩
  | 10 => ⟨S1x16384x32, .f32⟩
  | 11 => ⟨S1x16384x32, .f32⟩
  | 12 => ⟨S_, .f32⟩
  | 13 => ⟨S1x16384x32, .f32⟩
  | 14 => ⟨S1x16384x32, .f32⟩
  | 15 => ⟨S1x16384x32, .f32⟩
  | 16 => ⟨S1x16384x32, .f32⟩
  | 17 => ⟨S1x16384x32, .i1⟩
  | 18 => ⟨S1x16384x32, .f32⟩
  | 19 => ⟨S1x16384x32, .f32⟩
  | 20 => ⟨S1x16384x32, .f32⟩
  | 21 => ⟨S1x16384x32, .f32⟩
  | 22 => ⟨S1x16384x32, .f32⟩
  | 23 => ⟨S1x16384x32, .f32⟩
  | 24 => ⟨S1x16384x32, .f32⟩
  | 25 => ⟨S1x16384x32, .f32⟩
  | 26 => ⟨S32, .f32⟩
  | 27 => ⟨S32, .f32⟩
  | 28 => ⟨S1x1x32, .f32⟩
  | 29 => ⟨S1x16384x32, .f32⟩
  | 30 => ⟨S1x16384x32, .f32⟩
  | 31 => ⟨S1x128x128x8x4, .f32⟩
  | 32 => ⟨S1x128x8x4x128, .f32⟩
  | 33 => ⟨S_, .f32⟩
  | 34 => ⟨S_, .f32⟩
  | 35 => ⟨S1x128x8x4x128, .f32⟩
  | 36 => ⟨S16384x1024, .f32⟩
  | 37 => ⟨S1x128x128x8x128, .f32⟩
  | 38 => ⟨S16384x2048, .f32⟩
  | 39 => ⟨S1x128x128x8x4x64, .f32⟩
  | 40 => ⟨S_, .f32⟩
  | 41 => ⟨S1x128x8x4x64x128, .f32⟩
  | 42 => ⟨S1x128x8x4x128, .f32⟩
  | 43 => ⟨S1x128x128x8x4, .f32⟩
  | 44 => ⟨S1x128x8x4x64x128, .f32⟩
  | 45 => ⟨S1x128x128x8x4x64, .f32⟩
  | 46 => ⟨S1x128x128x8x4x1, .f32⟩
  | 47 => ⟨S1x128x128x8x4x64, .f32⟩
  | 48 => ⟨S1x128x128x8x4x64, .f32⟩
  | 49 => ⟨S1x128x128x8x4x64, .f32⟩
  | 50 => ⟨S1x128x128x8x4x64, .f32⟩
  | 51 => ⟨S1x128x8x4x64x128, .f32⟩
  | 52 => ⟨S1x128x8x4x64x128, .f32⟩
  | 53 => ⟨S_, .f32⟩
  | 54 => ⟨S1x8x4x64x128, .f32⟩
  | 55 => ⟨S128x1x8x4x64x128, .f32⟩
  | 56 => ⟨S1x128x8x4x1, .f32⟩
  | 57 => ⟨S1x128x8x4, .f32⟩
  | 58 => ⟨S1x128x8x4, .f32⟩
  | 59 => ⟨S128x1x8x4, .f32⟩
  | 60 => ⟨S_, .f32⟩
  | 61 => ⟨S128x1x8x4x64x128, .f32⟩
  | 62 => ⟨S_, .i32⟩
  | 63 => ⟨S128x1x8x4x64x128, .f32⟩
  | 64 => ⟨S128x1x8x4, .f32⟩
  | 65 => ⟨S_, .i32⟩
  | 66 => ⟨S1x8x4x64x128, .f32⟩
  | 67 => ⟨S128x1x8x4x64x128, .f32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S1x1x8x4x64x128, .f32⟩
  | 80 => ⟨S1x8x4x64x128, .f32⟩
  | 81 => ⟨S_, .i32⟩
  | 82 => ⟨S_, .i32⟩
  | 83 => ⟨S_, .i32⟩
  | 84 => ⟨S1x1x8x4, .f32⟩
  | 85 => ⟨S1x8x4, .f32⟩
  | 86 => ⟨S1x8x4x1x1, .f32⟩
  | 87 => ⟨S1x8x4x64x128, .f32⟩
  | 88 => ⟨S1x8x4x64x128, .f32⟩
  | 89 => ⟨S1x8x4x64x128, .f32⟩
  | 90 => ⟨S1x1x8x4x64x128, .f32⟩
  | 91 => ⟨S_, .i32⟩
  | 92 => ⟨S_, .i32⟩
  | 93 => ⟨S_, .i32⟩
  | 94 => ⟨S_, .i32⟩
  | 95 => ⟨S_, .i32⟩
  | 96 => ⟨S128x1x8x4x64x128, .f32⟩
  | 97 => ⟨S_, .i32⟩
  | 98 => ⟨S_, .i32⟩
  | 99 => ⟨S1x128x8x4x64x128, .f32⟩
  | 100 => ⟨S16384x2048, .f32⟩
  | 101 => ⟨S1x16384x32x64, .f32⟩
  | 102 => ⟨S16384x2048, .f32⟩
  | 103 => ⟨S1x128x128x8x4x64, .f32⟩
  | 104 => ⟨S16384x1024, .f32⟩
  | 105 => ⟨S1x128x128x8x128, .f32⟩
  | 106 => ⟨S16384x1024, .f32⟩
  | 107 => ⟨S1x128x128x8x128, .f32⟩
  | 108 => ⟨S1x128x8x4x64x128, .f32⟩
  | 109 => ⟨S16384x32, .f32⟩
  | 110 => ⟨S1x16384x32, .f32⟩
  | 111 => ⟨S1x1x32, .f32⟩
  | 112 => ⟨S1x16384x32, .f32⟩
  | 113 => ⟨S1x16384x32, .f32⟩
  | 114 => ⟨S_, .f32⟩
  | 115 => ⟨S1x16384x32, .f32⟩
  | 116 => ⟨S1x16384x32, .f32⟩
  | 117 => ⟨S1x16384x32, .f32⟩
  | 118 => ⟨S1x16384x32, .f32⟩
  | 119 => ⟨S1x16384x32, .i1⟩
  | 120 => ⟨S1x16384x32, .f32⟩
  | 121 => ⟨S1x16384x32, .f32⟩
  | 122 => ⟨S1x16384x32, .f32⟩
  | 123 => ⟨S1x16384x32, .f32⟩
  | 124 => ⟨S1x16384x32, .f32⟩
  | 125 => ⟨S1x16384x32, .f32⟩
  | 126 => ⟨S1x16384x32, .f32⟩
  | 127 => ⟨S1x16384x32, .f32⟩
  | _ => ⟨S2048x16384, .f32⟩

abbrev hbmTy0_1 (i : Nat) : BufTy := match i % 128 with
  | 0 => ⟨S_, .f32⟩
  | 1 => ⟨S1x16384x32, .f32⟩
  | 2 => ⟨S1x16384x32, .i1⟩
  | 3 => ⟨S_, .f32⟩
  | 4 => ⟨S1x16384x32, .f32⟩
  | 5 => ⟨S1x16384x32, .f32⟩
  | 6 => ⟨S_, .f32⟩
  | 7 => ⟨S1x16384x32, .f32⟩
  | 8 => ⟨S1x16384x32, .i1⟩
  | 9 => ⟨S_, .f32⟩
  | 10 => ⟨S1x16384x32, .f32⟩
  | 11 => ⟨S1x16384x32, .f32⟩
  | 12 => ⟨S1x16384x32, .f32⟩
  | 13 => ⟨S1x16384x32, .f32⟩
  | 14 => ⟨S_, .f32⟩
  | 15 => ⟨S_, .f32⟩
  | 16 => ⟨S_, .i1⟩
  | 17 => ⟨S_, .f32⟩
  | 18 => ⟨S_, .f32⟩
  | 19 => ⟨S_, .f32⟩
  | 20 => ⟨S_, .f32⟩
  | 21 => ⟨S1x16384x32, .f32⟩
  | 22 => ⟨S1x16384x32, .i1⟩
  | 23 => ⟨S_, .f32⟩
  | 24 => ⟨S1x16384x32, .f32⟩
  | 25 => ⟨S1x16384x32, .f32⟩
  | 26 => ⟨S1x16384x32, .f32⟩
  | 27 => ⟨S1x16384x32, .f32⟩
  | 28 => ⟨S1x16384x32, .f32⟩
  | 29 => ⟨S_, .f32⟩
  | 30 => ⟨S1x16384x32, .f32⟩
  | 31 => ⟨S1x16384x32, .f32⟩
  | 32 => ⟨S32, .f32⟩
  | 33 => ⟨S32, .f32⟩
  | 34 => ⟨S1x1x32, .f32⟩
  | 35 => ⟨S1x16384x32, .f32⟩
  | 36 => ⟨S1x16384x32, .f32⟩
  | 37 => ⟨S1x128x128x8x4, .f32⟩
  | 38 => ⟨S1x128x8x4x128, .f32⟩
  | 39 => ⟨S_, .f32⟩
  | 40 => ⟨S_, .f32⟩
  | 41 => ⟨S1x128x8x4x128, .f32⟩
  | 42 => ⟨S1x16384x32x1, .f32⟩
  | 43 => ⟨S1x16384x32x64, .f32⟩
  | 44 => ⟨S1x16384x32x64, .f32⟩
  | 45 => ⟨S1x128x128x8x4x64, .f32⟩
  | 46 => ⟨S128, .i32⟩
  | 47 => ⟨S128x1, .i32⟩
  | 48 => ⟨S1x128, .i32⟩
  | 49 => ⟨S128x128, .i32⟩
  | 50 => ⟨S128x128, .i32⟩
  | 51 => ⟨S128x128, .i1⟩
  | 52 => ⟨S1x128x8x4x128x1, .f32⟩
  | 53 => ⟨S1x128x8x4x1x128, .f32⟩
  | 54 => ⟨S1x128x8x4x128x128, .f32⟩
  | 55 => ⟨S1x128x8x4x128x128, .f32⟩
  | 56 => ⟨S1x128x8x4x128x128, .f32⟩
  | 57 => ⟨S_, .f32⟩
  | 58 => ⟨S_, .f32⟩
  | 59 => ⟨S1x128x8x4x128x128, .i1⟩
  | 60 => ⟨S1x128x8x4x128x128, .f32⟩
  | 61 => ⟨S1x128x8x4x128x128, .f32⟩
  | 62 => ⟨S_, .f32⟩
  | 63 => ⟨S1x128x8x4x128x128, .f32⟩
  | 64 => ⟨S1x128x8x4x128x128, .f32⟩
  | 65 => ⟨S1x128x8x128x128, .f32⟩
  | 66 => ⟨S1x128x8x1x128x128, .f32⟩
  | 67 => ⟨S1x128x8x4x128x128, .f32⟩
  | 68 => ⟨S1x128x8x4x128x128, .f32⟩
  | 69 => ⟨S1x128x8x4x64x128, .f32⟩
  | 70 => ⟨S1x128x128x8x4x64, .f32⟩
  | 71 => ⟨S1x128x8x4x1, .f32⟩
  | 72 => ⟨S1x128x8x4x128, .f32⟩
  | 73 => ⟨S1x128x8x4x128, .f32⟩
  | 74 => ⟨S1x128x8x4x128, .f32⟩
  | 75 => ⟨S1x128x128x8x4, .f32⟩
  | 76 => ⟨S1x128x128x8x4x1, .f32⟩
  | 77 => ⟨S1x128x128x8x4x64, .f32⟩
  | 78 => ⟨S1x128x128x8x4x64, .f32⟩
  | 79 => ⟨S1x128x8x4x64x128, .f32⟩
  | 80 => ⟨S1x128x8x4x1, .f32⟩
  | 81 => ⟨S1x128x8x4, .f32⟩
  | 82 => ⟨S1x128x8x4, .f32⟩
  | 83 => ⟨S1x128x8x4x128, .f32⟩
  | 84 => ⟨S1x128x128x8x4, .f32⟩
  | 85 => ⟨S1x128x8x4x64x128, .f32⟩
  | 86 => ⟨S1x128x128x8x4x64, .f32⟩
  | 87 => ⟨S1x128x128x8x4x1, .f32⟩
  | 88 => ⟨S1x128x128x8x4x64, .f32⟩
  | 89 => ⟨S1x128x128x8x4x64, .f32⟩
  | 90 => ⟨S1x128x128x8x4x64, .f32⟩
  | 91 => ⟨S1x128x8x4x1x1, .f32⟩
  | 92 => ⟨S1x128x8x4x64x128, .f32⟩
  | 93 => ⟨S1x128x8x4x64x128, .f32⟩
  | 94 => ⟨S1x128x8x4x64x128, .f32⟩
  | 95 => ⟨S1x128x8x4x64x128, .f32⟩
  | 96 => ⟨S_, .f32⟩
  | 97 => ⟨S1x128x8x4, .f32⟩
  | 98 => ⟨S1x128x8x4x1x1, .f32⟩
  | 99 => ⟨S1x128x8x4x64x128, .f32⟩
  | 100 => ⟨S1x128x8x4x64x128, .f32⟩
  | 101 => ⟨S_, .f32⟩
  | 102 => ⟨S128x8x4, .f32⟩
  | 103 => ⟨S1x128x8x4, .f32⟩
  | 104 => ⟨S1x128x128x8x4x64, .f32⟩
  | 105 => ⟨S_, .f32⟩
  | 106 => ⟨S1x128x128x8x4, .f32⟩
  | 107 => ⟨S1x128x128x8x4x1, .f32⟩
  | 108 => ⟨S1x128x128x8x4x64, .f32⟩
  | 109 => ⟨S1x128x128x8x4x64, .f32⟩
  | 110 => ⟨S_, .f32⟩
  | 111 => ⟨S128x128x8x4, .f32⟩
  | 112 => ⟨S1x128x128x8x4, .f32⟩
  | 113 => ⟨S1x128x8x4x64x128, .f32⟩
  | 114 => ⟨S1x128x8x128x128, .f32⟩
  | 115 => ⟨S1x128x128x8x128, .f32⟩
  | 116 => ⟨S1x128x8x4x64x128, .f32⟩
  | 117 => ⟨S1x128x8x4x64x128, .f32⟩
  | 118 => ⟨S1x128x8x4x128, .f32⟩
  | 119 => ⟨S1x128x8x4x128, .f32⟩
  | 120 => ⟨S1x128x8x4, .f32⟩
  | 121 => ⟨S1x128x8x4x1, .f32⟩
  | 122 => ⟨S_, .f32⟩
  | 123 => ⟨S1x128x8x4x128, .f32⟩
  | 124 => ⟨S1x128x8x4x128, .f32⟩
  | 125 => ⟨S1x128x8x128x128, .f32⟩
  | 126 => ⟨S1x128x128x8x128, .f32⟩
  | 127 => ⟨S1x128x8x4x64x128, .f32⟩
  | _ => ⟨S2048x16384, .f32⟩

abbrev hbmTy0_2 (i : Nat) : BufTy := match i % 128 with
  | 0 => ⟨S1x128x128x8x4x64, .f32⟩
  | 1 => ⟨S1x128x128x8x4x64, .f32⟩
  | 2 => ⟨S_, .f32⟩
  | 3 => ⟨S1x128x128x8x4, .f32⟩
  | 4 => ⟨S1x128x128x8x4x1, .f32⟩
  | 5 => ⟨S1x128x128x8x4x64, .f32⟩
  | 6 => ⟨S1x128x128x8x4x64, .f32⟩
  | 7 => ⟨S_, .f32⟩
  | 8 => ⟨S128x128x8x4, .f32⟩
  | 9 => ⟨S1x128x128x8x4, .f32⟩
  | 10 => ⟨S1x128x8x4x128, .f32⟩
  | 11 => ⟨S1x128x8x4x128, .f32⟩
  | 12 => ⟨S_, .f32⟩
  | 13 => ⟨S1x128x8x4, .f32⟩
  | 14 => ⟨S1x128x8x4x1, .f32⟩
  | 15 => ⟨S1x128x8x4x128, .f32⟩
  | 16 => ⟨S1x128x8x4x128, .f32⟩
  | 17 => ⟨S_, .f32⟩
  | 18 => ⟨S1x128x8x4x128, .f32⟩
  | 19 => ⟨S1x128x8x4x128, .f32⟩
  | 20 => ⟨S1x128x8x4x64x128, .f32⟩
  | 21 => ⟨S1x128x8x4x128x128, .f32⟩
  | 22 => ⟨S1x128x8x4x64x128, .f32⟩
  | 23 => ⟨S1x128x128x8x4x64, .f32⟩
  | 24 => ⟨S1x128x128x8x4x64, .f32⟩
  | 25 => ⟨S1x128x8x4x128x128, .f32⟩
  | 26 => ⟨S1x128x8x4x128x128, .f32⟩
  | 27 => ⟨S1x128x8x4x128x128, .f32⟩
  | 28 => ⟨S_, .f32⟩
  | 29 => ⟨S1x128x8x128x128, .f32⟩
  | 30 => ⟨S1x128x8x1x128x128, .f32⟩
  | 31 => ⟨S_, .f32⟩
  | 32 => ⟨S128x8x128x128, .f32⟩
  | 33 => ⟨S1x128x8x128x128, .f32⟩
  | 34 => ⟨S1x128x8x128x128, .f32⟩
  | 35 => ⟨S1x128x128x8x128, .f32⟩
  | 36 => ⟨S1x128x128x8x128, .f32⟩
  | 37 => ⟨S1x128x8x128x128, .f32⟩
  | 38 => ⟨S1x128x128x8x128, .f32⟩
  | 39 => ⟨S1x128x128x8x128, .f32⟩
  | 40 => ⟨S1x128x8x4x128x128, .f32⟩
  | 41 => ⟨S_, .f32⟩
  | 42 => ⟨S1x128x8x4x128x128, .f32⟩
  | 43 => ⟨S1x128x8x4x128x128, .f32⟩
  | 44 => ⟨S_, .f32⟩
  | 45 => ⟨S1x128x8x4x128, .f32⟩
  | 46 => ⟨S1x128x8x4x128x1, .f32⟩
  | 47 => ⟨S1x128x8x4x128x128, .f32⟩
  | 48 => ⟨S_, .f32⟩
  | 49 => ⟨S1x128x8x4x128, .f32⟩
  | 50 => ⟨S1x128x8x4x1x128, .f32⟩
  | 51 => ⟨S_, .f32⟩
  | 52 => ⟨S128x8x4x128, .f32⟩
  | 53 => ⟨S1x128x8x4x128, .f32⟩
  | 54 => ⟨S1x128x8x4x128, .f32⟩
  | 55 => ⟨S_, .f32⟩
  | 56 => ⟨S128x8x4x128, .f32⟩
  | 57 => ⟨S1x128x8x4x128, .f32⟩
  | 58 => ⟨S1x128x8x4x128, .f32⟩
  | 59 => ⟨S1x16384x32x64, .f32⟩
  | 60 => ⟨S1x16384x32x64, .f32⟩
  | 61 => ⟨S_, .f32⟩
  | 62 => ⟨S1x16384x32, .f32⟩
  | 63 => ⟨S1x16384x32x1, .f32⟩
  | 64 => ⟨S1x16384x32x64, .f32⟩
  | 65 => ⟨S1x16384x32x64, .f32⟩
  | 66 => ⟨S_, .f32⟩
  | 67 => ⟨S16384x32, .f32⟩
  | 68 => ⟨S1x16384x32, .f32⟩
  | 69 => ⟨S_, .f32⟩
  | 70 => ⟨S_, .f32⟩
  | 71 => ⟨S1x128x8x4x128, .f32⟩
  | 72 => ⟨S1x128x128x8x4, .f32⟩
  | 73 => ⟨S1x16384x32, .f32⟩
  | 74 => ⟨S1x16384x32, .f32⟩
  | 75 => ⟨S_, .f32⟩
  | 76 => ⟨S1x32, .f32⟩
  | 77 => ⟨S1x1x32, .f32⟩
  | 78 => ⟨S1x16384x32, .f32⟩
  | 79 => ⟨S1x16384x32, .f32⟩
  | 80 => ⟨S1x16384x32, .f32⟩
  | 81 => ⟨S_, .f32⟩
  | 82 => ⟨S32, .f32⟩
  | 83 => ⟨S32, .f32⟩
  | 84 => ⟨S32, .f32⟩
  | 85 => ⟨S1x16384x32, .f32⟩
  | 86 => ⟨S_, .f32⟩
  | 87 => ⟨S1x32, .f32⟩
  | 88 => ⟨S1x1x32, .f32⟩
  | 89 => ⟨S_, .f32⟩
  | 90 => ⟨S32, .f32⟩
  | 91 => ⟨S16384x2048, .f32⟩
  | 92 => ⟨S16384x1024, .f32⟩
  | 93 => ⟨S16384x1024, .f32⟩
  | 94 => ⟨S16384x4096, .f32⟩
  | _ => ⟨S2048x16384, .f32⟩

abbrev hbmTy (i : Nat) : BufTy := match i / 128 with
  | 0 => hbmTy0_0 i
  | 1 => hbmTy0_1 i
  | 2 => hbmTy0_2 i
  | _ => ⟨S2048x16384, .f32⟩

abbrev bufTy : (tb : Table) → Fin (tcTables nBuf tb) → BufTy
  | .hbm, ⟨i, _⟩ => hbmTy i
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call1_call0_cst : Ref sig .tc := ⟨.hbm, 33, rfl⟩
abbrev main_call1_call0_v0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_1 : Ref sig .tc := ⟨.hbm, 60, rfl⟩
abbrev main_v36 : Ref sig .tc := ⟨.hbm, 61, rfl⟩
abbrev main_c : Ref sig .tc := ⟨.hbm, 62, rfl⟩
abbrev main_v37_0 : Ref sig .tc := ⟨.hbm, 63, rfl⟩
abbrev main_v37_1 : Ref sig .tc := ⟨.hbm, 64, rfl⟩
abbrev main_v37_2 : Ref sig .tc := ⟨.hbm, 65, rfl⟩
abbrev main_v37_3 : Ref sig .tc := ⟨.hbm, 66, rfl⟩
abbrev main_v37_4 : Ref sig .tc := ⟨.hbm, 67, rfl⟩
abbrev main_while0c_c_28 : Ref sig .tc := ⟨.hbm, 68, rfl⟩
abbrev main_while0c_v212 : Ref sig .tc := ⟨.hbm, 69, rfl⟩
abbrev main_while0b_c_28 : Ref sig .tc := ⟨.hbm, 70, rfl⟩
abbrev main_while0b_v212 : Ref sig .tc := ⟨.hbm, 71, rfl⟩
abbrev main_while0b_c_29 : Ref sig .tc := ⟨.hbm, 72, rfl⟩
abbrev main_while0b_v213 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_c_2 : Ref sig .tc := ⟨.hbm, 77, rfl⟩
abbrev main_while0b_call2_c_3 : Ref sig .tc := ⟨.hbm, 78, rfl⟩
abbrev main_while0b_call2_v0 : Ref sig .tc := ⟨.hbm, 79, rfl⟩
abbrev main_while0b_v214 : Ref sig .tc := ⟨.hbm, 80, rfl⟩
abbrev main_while0b_call3_c : Ref sig .tc := ⟨.hbm, 81, rfl⟩
abbrev main_while0b_call3_c_0 : Ref sig .tc := ⟨.hbm, 82, rfl⟩
abbrev main_while0b_call3_c_1 : Ref sig .tc := ⟨.hbm, 83, rfl⟩
abbrev main_while0b_call3_v0 : Ref sig .tc := ⟨.hbm, 84, rfl⟩
abbrev main_while0b_v215 : Ref sig .tc := ⟨.hbm, 85, rfl⟩
abbrev main_while0b_v216 : Ref sig .tc := ⟨.hbm, 86, rfl⟩
abbrev main_while0b_v217 : Ref sig .tc := ⟨.hbm, 87, rfl⟩
abbrev main_while0b_v218 : Ref sig .tc := ⟨.hbm, 88, rfl⟩
abbrev main_while0b_v219 : Ref sig .tc := ⟨.hbm, 89, rfl⟩
abbrev main_while0b_call4_v0 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_c_1 : Ref sig .tc := ⟨.hbm, 93, rfl⟩
abbrev main_while0b_call4_c_2 : Ref sig .tc := ⟨.hbm, 94, rfl⟩
abbrev main_while0b_call4_c_3 : Ref sig .tc := ⟨.hbm, 95, rfl⟩
abbrev main_while0b_v220 : Ref sig .tc := ⟨.hbm, 96, rfl⟩
abbrev main_while0b_c_30 : Ref sig .tc := ⟨.hbm, 97, rfl⟩
abbrev main_while0b_v221 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_call5_cst : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_call5_v5 : Ref sig .tc := ⟨.hbm, 120, rfl⟩
abbrev main_call5_v6 : Ref sig .tc := ⟨.hbm, 121, rfl⟩
abbrev main_call5_v7 : Ref sig .tc := ⟨.hbm, 122, rfl⟩
abbrev main_call5_v8 : Ref sig .tc := ⟨.hbm, 123, rfl⟩
abbrev main_call5_v9 : Ref sig .tc := ⟨.hbm, 124, rfl⟩
abbrev main_call5_v10 : Ref sig .tc := ⟨.hbm, 125, rfl⟩
abbrev main_call5_v11 : Ref sig .tc := ⟨.hbm, 126, rfl⟩
abbrev main_v53_0 : Ref sig .tc := ⟨.hbm, 127, rfl⟩
abbrev main_call5_cst_0 : Ref sig .tc := ⟨.hbm, 128, rfl⟩
abbrev main_call5_v13 : Ref sig .tc := ⟨.hbm, 129, rfl⟩
abbrev main_call5_v14 : Ref sig .tc := ⟨.hbm, 130, rfl⟩
abbrev main_call5_cst_1 : Ref sig .tc := ⟨.hbm, 131, rfl⟩
abbrev main_call5_v15 : Ref sig .tc := ⟨.hbm, 132, rfl⟩
abbrev main_call5_v16 : Ref sig .tc := ⟨.hbm, 133, rfl⟩
abbrev main_call5_cst_2 : Ref sig .tc := ⟨.hbm, 134, rfl⟩
abbrev main_call5_v17 : Ref sig .tc := ⟨.hbm, 135, rfl⟩
abbrev main_call5_v18 : Ref sig .tc := ⟨.hbm, 136, rfl⟩
abbrev main_call5_cst_3 : Ref sig .tc := ⟨.hbm, 137, rfl⟩
abbrev main_call5_v19 : Ref sig .tc := ⟨.hbm, 138, rfl⟩
abbrev main_call5_v20 : Ref sig .tc := ⟨.hbm, 139, rfl⟩
abbrev main_call5_v21 : Ref sig .tc := ⟨.hbm, 140, rfl⟩
abbrev main_v53_1 : Ref sig .tc := ⟨.hbm, 141, rfl⟩
abbrev main_call5_cst_4 : Ref sig .tc := ⟨.hbm, 142, rfl⟩
abbrev main_call5_cst_5 : Ref sig .tc := ⟨.hbm, 143, rfl⟩
abbrev main_call5_v23 : Ref sig .tc := ⟨.hbm, 144, rfl⟩
abbrev main_call5_cst_6 : Ref sig .tc := ⟨.hbm, 145, rfl⟩
abbrev main_call5_cst_7 : Ref sig .tc := ⟨.hbm, 146, rfl⟩
abbrev main_call5_v24 : Ref sig .tc := ⟨.hbm, 147, rfl⟩
abbrev main_call5_cst_8 : Ref sig .tc := ⟨.hbm, 148, rfl⟩
abbrev main_call5_v25 : Ref sig .tc := ⟨.hbm, 149, rfl⟩
abbrev main_call5_v26 : Ref sig .tc := ⟨.hbm, 150, rfl⟩
abbrev main_call5_cst_9 : Ref sig .tc := ⟨.hbm, 151, rfl⟩
abbrev main_call5_v27 : Ref sig .tc := ⟨.hbm, 152, rfl⟩
abbrev main_call5_v28 : Ref sig .tc := ⟨.hbm, 153, rfl⟩
abbrev main_call5_v29 : Ref sig .tc := ⟨.hbm, 154, rfl⟩
abbrev main_call5_v30 : Ref sig .tc := ⟨.hbm, 155, rfl⟩
abbrev main_call5_v31 : Ref sig .tc := ⟨.hbm, 156, rfl⟩
abbrev main_call5_cst_10 : Ref sig .tc := ⟨.hbm, 157, rfl⟩
abbrev main_call5_v32 : Ref sig .tc := ⟨.hbm, 158, rfl⟩
abbrev main_v53_2 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_v60 : Ref sig .tc := ⟨.hbm, 166, rfl⟩
abbrev main_call6_call0_cst : Ref sig .tc := ⟨.hbm, 167, rfl⟩
abbrev main_call6_call0_v0 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_cst_2 : Ref sig .tc := ⟨.hbm, 185, rfl⟩
abbrev main_call7_v0 : Ref sig .tc := ⟨.hbm, 186, rfl⟩
abbrev main_v77_1 : Ref sig .tc := ⟨.hbm, 187, rfl⟩
abbrev main_call7_v2 : Ref sig .tc := ⟨.hbm, 188, rfl⟩
abbrev main_v77_0 : Ref sig .tc := ⟨.hbm, 189, rfl⟩
abbrev main_call7_cst : Ref sig .tc := ⟨.hbm, 190, rfl⟩
abbrev main_v77_2 : Ref sig .tc := ⟨.hbm, 191, rfl⟩
abbrev main_v78 : Ref sig .tc := ⟨.hbm, 192, rfl⟩
abbrev main_v79 : Ref sig .tc := ⟨.hbm, 193, rfl⟩
abbrev main_v80 : Ref sig .tc := ⟨.hbm, 194, rfl⟩
abbrev main_v81 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_cst_3 : Ref sig .tc := ⟨.hbm, 224, rfl⟩
abbrev main_v110 : Ref sig .tc := ⟨.hbm, 225, rfl⟩
abbrev main_v111 : Ref sig .tc := ⟨.hbm, 226, rfl⟩
abbrev main_v112 : Ref sig .tc := ⟨.hbm, 227, rfl⟩
abbrev main_v113 : Ref sig .tc := ⟨.hbm, 228, rfl⟩
abbrev main_cst_4 : Ref sig .tc := ⟨.hbm, 229, rfl⟩
abbrev main_v114 : Ref sig .tc := ⟨.hbm, 230, rfl⟩
abbrev main_v115 : Ref sig .tc := ⟨.hbm, 231, rfl⟩
abbrev main_v116 : Ref sig .tc := ⟨.hbm, 232, rfl⟩
abbrev main_cst_5 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩
abbrev main_v120 : Ref sig .tc := ⟨.hbm, 237, rfl⟩
abbrev main_cst_6 : Ref sig .tc := ⟨.hbm, 238, rfl⟩
abbrev main_v121 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_cst_7 : Ref sig .tc := ⟨.hbm, 250, rfl⟩
abbrev main_v132 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩
abbrev main_v136 : Ref sig .tc := ⟨.hbm, 255, rfl⟩
abbrev main_v137 : Ref sig .tc := ⟨.hbm, 256, rfl⟩
abbrev main_v138 : Ref sig .tc := ⟨.hbm, 257, rfl⟩
abbrev main_cst_8 : Ref sig .tc := ⟨.hbm, 258, rfl⟩
abbrev main_v139 : Ref sig .tc := ⟨.hbm, 259, rfl⟩
abbrev main_v140 : Ref sig .tc := ⟨.hbm, 260, rfl⟩
abbrev main_v141 : Ref sig .tc := ⟨.hbm, 261, rfl⟩
abbrev main_v142 : Ref sig .tc := ⟨.hbm, 262, rfl⟩
abbrev main_cst_9 : Ref sig .tc := ⟨.hbm, 263, rfl⟩
abbrev main_v143 : Ref sig .tc := ⟨.hbm, 264, rfl⟩
abbrev main_v144 : Ref sig .tc := ⟨.hbm, 265, rfl⟩
abbrev main_v145 : Ref sig .tc := ⟨.hbm, 266, rfl⟩
abbrev main_v146 : Ref sig .tc := ⟨.hbm, 267, rfl⟩
abbrev main_cst_10 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_v150 : Ref sig .tc := ⟨.hbm, 272, rfl⟩
abbrev main_cst_11 : Ref sig .tc := ⟨.hbm, 273, rfl⟩
abbrev main_v151 : Ref sig .tc := ⟨.hbm, 274, rfl⟩
abbrev main_v152 : Ref sig .tc := ⟨.hbm, 275, rfl⟩
abbrev main_v153 : Ref sig .tc := ⟨.hbm, 276, rfl⟩
abbrev main_v154 : Ref sig .tc := ⟨.hbm, 277, rfl⟩
abbrev main_v155 : Ref sig .tc := ⟨.hbm, 278, rfl⟩
abbrev main_v156 : Ref sig .tc := ⟨.hbm, 279, rfl⟩
abbrev main_v157 : Ref sig .tc := ⟨.hbm, 280, rfl⟩
abbrev main_v158 : Ref sig .tc := ⟨.hbm, 281, rfl⟩
abbrev main_v159 : Ref sig .tc := ⟨.hbm, 282, rfl⟩
abbrev main_v160 : Ref sig .tc := ⟨.hbm, 283, rfl⟩
abbrev main_cst_12 : Ref sig .tc := ⟨.hbm, 284, rfl⟩
abbrev main_v161 : Ref sig .tc := ⟨.hbm, 285, rfl⟩
abbrev main_v162 : Ref sig .tc := ⟨.hbm, 286, rfl⟩
abbrev main_cst_13 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩
abbrev main_call8_cst : Ref sig .tc := ⟨.hbm, 297, rfl⟩
abbrev main_call8_v0 : Ref sig .tc := ⟨.hbm, 298, rfl⟩
abbrev main_v172 : Ref sig .tc := ⟨.hbm, 299, rfl⟩
abbrev main_cst_14 : Ref sig .tc := ⟨.hbm, 300, rfl⟩
abbrev main_v173 : Ref sig .tc := ⟨.hbm, 301, rfl⟩
abbrev main_v174 : Ref sig .tc := ⟨.hbm, 302, rfl⟩
abbrev main_v175 : Ref sig .tc := ⟨.hbm, 303, rfl⟩
abbrev main_cst_15 : Ref sig .tc := ⟨.hbm, 304, rfl⟩
abbrev main_v176 : Ref sig .tc := ⟨.hbm, 305, rfl⟩
abbrev main_v177 : Ref sig .tc := ⟨.hbm, 306, rfl⟩
abbrev main_cst_16 : Ref sig .tc := ⟨.hbm, 307, rfl⟩
abbrev main_v178 : Ref sig .tc := ⟨.hbm, 308, rfl⟩
abbrev main_v179 : Ref sig .tc := ⟨.hbm, 309, rfl⟩
abbrev main_v180 : Ref sig .tc := ⟨.hbm, 310, rfl⟩
abbrev main_cst_17 : Ref sig .tc := ⟨.hbm, 311, rfl⟩
abbrev main_v181 : Ref sig .tc := ⟨.hbm, 312, rfl⟩
abbrev main_v182 : Ref sig .tc := ⟨.hbm, 313, rfl⟩
abbrev main_v183 : Ref sig .tc := ⟨.hbm, 314, rfl⟩
abbrev main_v184 : Ref sig .tc := ⟨.hbm, 315, rfl⟩
abbrev main_v185 : Ref sig .tc := ⟨.hbm, 316, rfl⟩
abbrev main_cst_18 : Ref sig .tc := ⟨.hbm, 317, rfl⟩
abbrev main_v186 : Ref sig .tc := ⟨.hbm, 318, rfl⟩
abbrev main_v187 : Ref sig .tc := ⟨.hbm, 319, rfl⟩
abbrev main_v188 : Ref sig .tc := ⟨.hbm, 320, rfl⟩
abbrev main_v189 : Ref sig .tc := ⟨.hbm, 321, rfl⟩
abbrev main_cst_19 : Ref sig .tc := ⟨.hbm, 322, rfl⟩
abbrev main_v190 : Ref sig .tc := ⟨.hbm, 323, rfl⟩
abbrev main_v191 : Ref sig .tc := ⟨.hbm, 324, rfl⟩
abbrev main_call9_call0_cst : Ref sig .tc := ⟨.hbm, 325, rfl⟩
abbrev main_call9_call0_v0 : Ref sig .tc := ⟨.hbm, 326, rfl⟩
abbrev main_v192 : Ref sig .tc := ⟨.hbm, 327, rfl⟩
abbrev main_v193 : Ref sig .tc := ⟨.hbm, 328, rfl⟩
abbrev main_v194 : Ref sig .tc := ⟨.hbm, 329, rfl⟩
abbrev main_v195 : Ref sig .tc := ⟨.hbm, 330, rfl⟩
abbrev main_cst_20 : Ref sig .tc := ⟨.hbm, 331, rfl⟩
abbrev main_v196 : Ref sig .tc := ⟨.hbm, 332, rfl⟩
abbrev main_v197 : Ref sig .tc := ⟨.hbm, 333, rfl⟩
abbrev main_v198 : Ref sig .tc := ⟨.hbm, 334, rfl⟩
abbrev main_v199 : Ref sig .tc := ⟨.hbm, 335, rfl⟩
abbrev main_v200 : Ref sig .tc := ⟨.hbm, 336, rfl⟩
abbrev main_cst_21 : Ref sig .tc := ⟨.hbm, 337, rfl⟩
abbrev main_v201 : Ref sig .tc := ⟨.hbm, 338, rfl⟩
abbrev main_v202 : Ref sig .tc := ⟨.hbm, 339, rfl⟩
abbrev main_v203 : Ref sig .tc := ⟨.hbm, 340, rfl⟩
abbrev main_v204 : Ref sig .tc := ⟨.hbm, 341, rfl⟩
abbrev main_cst_22 : Ref sig .tc := ⟨.hbm, 342, rfl⟩
abbrev main_v205 : Ref sig .tc := ⟨.hbm, 343, rfl⟩
abbrev main_v206 : Ref sig .tc := ⟨.hbm, 344, rfl⟩
abbrev main_cst_23 : Ref sig .tc := ⟨.hbm, 345, rfl⟩
abbrev main_v207 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_v211 : Ref sig .tc := ⟨.hbm, 350, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x10240 : Shape := ⟨2, ![16384, 10240]⟩
abbrev S16384x128 : Shape := ⟨2, ![16384, 128]⟩
abbrev S16384x1024 : Shape := ⟨2, ![16384, 1024]⟩
abbrev S1024x10304 : Shape := ⟨2, ![1024, 10304]⟩
abbrev S1024x10240 : Shape := ⟨2, ![1024, 10240]⟩
abbrev S1024x64 : Shape := ⟨2, ![1024, 64]⟩
abbrev S_ : Shape := ⟨0, ![]⟩
abbrev S1024x128 : Shape := ⟨2, ![1024, 128]⟩
abbrev S10240x1024 : Shape := ⟨2, ![10240, 1024]⟩
abbrev S128x1024 : Shape := ⟨2, ![128, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 15
  | .vmem => 12
  | .smem => 0
  | _ => 0

abbrev bufTy : (tb : Table) → Fin (tcTables nBuf tb) → BufTy
  | .hbm, ⟨0, _⟩ => ⟨S16384x10240, .f32⟩
  | .hbm, ⟨1, _⟩ => ⟨S16384x128, .f32⟩
  | .hbm, ⟨2, _⟩ => ⟨S16384x1024, .f32⟩
  | .hbm, ⟨3, _⟩ => ⟨S1024x10304, .f32⟩
  | .hbm, ⟨4, _⟩ => ⟨S16384x10240, .bf16⟩
  | .hbm, ⟨5, _⟩ => ⟨S16384x128, .bf16⟩
  | .hbm, ⟨6, _⟩ => ⟨S1024x10304, .bf16⟩
  | .hbm, ⟨7, _⟩ => ⟨S1024x10240, .bf16⟩
  | .hbm, ⟨8, _⟩ => ⟨S1024x64, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S10240x1024, .bf16⟩
  | .hbm, ⟨13, _⟩ => ⟨S128x1024, .bf16⟩
  | .hbm, ⟨14, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x128, .bf16⟩
  | .local _ .vmem, ⟨5, _⟩ => ⟨S1024x128, .bf16⟩
  | .local _ .vmem, ⟨6, _⟩ => ⟨S128x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 16, 5], ![false, false, false]⟩

def k0_cond3 (i : grid0.Coords) : BitVec 1 :=
  let arg2 : BitVec 32 := BitVec.ofNat 32 (i 2).val
  let c4_i32 : BitVec 32 := 4#32
  let v6 : BitVec 1 := Scalar.cmpi .eq arg2 c4_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S16384x10240 : Shape := ⟨2, ![16384, 10240]⟩
abbrev S16384x128 : Shape := ⟨2, ![16384, 128]⟩
abbrev S16384x1024 : Shape := ⟨2, ![16384, 1024]⟩
abbrev S1024x10304 : Shape := ⟨2, ![1024, 10304]⟩
abbrev S_ : Shape := ⟨0, ![]⟩
abbrev S16384x10304 : Shape := ⟨2, ![16384, 10304]⟩
abbrev S16384x64 : Shape := ⟨2, ![16384, 64]⟩

abbrev nBuf : Space → Nat
  | .hbm => 17
  | .vmem => 0
  | .smem => 0
  | _ => 0

abbrev bufTy : (tb : Table) → Fin (tcTables nBuf tb) → BufTy
  | .hbm, ⟨0, _⟩ => ⟨S16384x10240, .f32⟩
  | .hbm, ⟨1, _⟩ => ⟨S16384x128, .f32⟩
  | .hbm, ⟨2, _⟩ => ⟨S16384x1024, .f32⟩
  | .hbm, ⟨3, _⟩ => ⟨S1024x10304, .f32⟩
  | .hbm, ⟨4, _⟩ => ⟨S_, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x10304, .f32⟩
  | .hbm, ⟨10, _⟩ => ⟨S16384x64, .f32⟩
  | .hbm, ⟨11, _⟩ => ⟨S16384x10304, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | _, _ => ⟨S16384x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel3.lean ====
abbrev S16384x1024 : Shape := ⟨2, ![16384, 1024]⟩
abbrev S16384x10240 : Shape := ⟨2, ![16384, 10240]⟩
abbrev S1024x10240 : Shape := ⟨2, ![1024, 10240]⟩
abbrev S1024x1024 : Shape := ⟨2, ![1024, 1024]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x10240, .f32⟩
  | .hbm, ⟨2, _⟩ => ⟨S16384x1024, .bf16⟩
  | .hbm, ⟨3, _⟩ => ⟨S16384x10240, .bf16⟩
  | .hbm, ⟨4, _⟩ => ⟨S1024x10240, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x1024 : Shape := ⟨2, ![16384, 1024]⟩
abbrev S16384x10240 : Shape := ⟨2, ![16384, 10240]⟩
abbrev S_ : Shape := ⟨0, ![]⟩
abbrev S1024x10240 : Shape := ⟨2, ![1024, 10240]⟩
abbrev S10240x1024 : Shape := ⟨2, ![10240, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x10240, .f32⟩
  | .hbm, ⟨2, _⟩ => ⟨S_, .f32⟩
  | .hbm, ⟨3, _⟩ => ⟨S1024x10240, .f32⟩
  | .hbm, ⟨4, _⟩ => ⟨S16384x10240, .f32⟩
  | .hbm, ⟨5, _⟩ => ⟨S10240x1024, .f32⟩
  | .hbm, ⟨6, _⟩ => ⟨S1024x10240, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S16384x1024 : Shape := ⟨2, ![16384, 1024]⟩
abbrev S16384x2816 : Shape := ⟨2, ![16384, 2816]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x1024, .bf16⟩
  | .hbm, ⟨3, _⟩ => ⟨S16384x2816, .bf16⟩
  | .hbm, ⟨4, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S1024x2816, .f32⟩
  | .hbm, ⟨4, _⟩ => ⟨S16384x2816, .f32⟩
  | .hbm, ⟨5, _⟩ => ⟨S2816x1024, .f32⟩
  | .hbm, ⟨6, _⟩ => ⟨S1024x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S16384x1024, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x2048, .bf16⟩
  | .hbm, ⟨3, _⟩ => ⟨S16384x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S_, .f32⟩
  | .hbm, ⟨3, _⟩ => ⟨S2048x1024, .f32⟩
  | .hbm, ⟨4, _⟩ => ⟨S16384x1024, .f32⟩
  | .hbm, ⟨5, _⟩ => ⟨S1024x2048, .f32⟩
  | .hbm, ⟨6, _⟩ => ⟨S2048x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x256 : Shape := ⟨2, ![16384, 256]⟩
abbrev S16384x1024 : Shape := ⟨2, ![16384, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S16384x256, .bf16⟩
  | .hbm, ⟨3, _⟩ => ⟨S16384x1024, .bf16⟩
  | .hbm, ⟨4, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .f32⟩
  | .hbm, ⟨2, _⟩ => ⟨S_, .f32⟩
  | .hbm, ⟨3, _⟩ => ⟨S256x1024, .f32⟩
  | .hbm, ⟨4, _⟩ => ⟨S16384x1024, .f32⟩
  | .hbm, ⟨5, _⟩ => ⟨S1024x256, .f32⟩
  | .hbm, ⟨6, _⟩ => ⟨S256x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S16384x1024 : Shape := ⟨2, ![16384, 1024]⟩
abbrev S1024x10304 : Shape := ⟨2, ![1024, 10304]⟩
abbrev S1024x10240 : Shape := ⟨2, ![1024, 10240]⟩
abbrev S16384x10240 : Shape := ⟨2, ![16384, 10240]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x10304, .f32⟩
  | .hbm, ⟨2, _⟩ => ⟨S16384x1024, .bf16⟩
  | .hbm, ⟨3, _⟩ => ⟨S1024x10304, .bf16⟩
  | .hbm, ⟨4, _⟩ => ⟨S1024x10240, .bf16⟩
  | .hbm, ⟨5, _⟩ => ⟨S16384x10240, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S1024x10304 : Shape := ⟨2, ![1024, 10304]⟩
abbrev S1024x10240 : Shape := ⟨2, ![1024, 10240]⟩
abbrev S16384x10240 : Shape := ⟨2, ![16384, 10240]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x10304, .f32⟩
  | .hbm, ⟨2, _⟩ => ⟨S1024x10240, .f32⟩
  | .hbm, ⟨3, _⟩ => ⟨S16384x10240, .f32⟩
  | .hbm, ⟨4, _⟩ => ⟨S16384x10240, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S16384x256 : Shape := ⟨2, ![16384, 256]⟩
abbrev S256x1024 : Shape := ⟨2, ![256, 1024]⟩
abbrev S16384x1024 : Shape := ⟨2, ![16384, 1024]⟩
abbrev S1024x256 : Shape := ⟨2, ![1024, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x256, .bf16⟩
  | .hbm, ⟨3, _⟩ => ⟨S256x1024, .bf16⟩
  | .hbm, ⟨4, _⟩ => ⟨S16384x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x256 : Shape := ⟨2, ![16384, 256]⟩
abbrev S256x1024 : Shape := ⟨2, ![256, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S16384x1024 : Shape := ⟨2, ![16384, 1024]⟩
abbrev S1024x5632 : Shape := ⟨2, ![1024, 5632]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x1024, .bf16⟩
  | .hbm, ⟨3, _⟩ => ⟨S1024x5632, .bf16⟩
  | .hbm, ⟨4, _⟩ => ⟨S16384x2816, .f32⟩
  | .hbm, ⟨5, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x2816, .f32⟩
  | .hbm, ⟨4, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S16384x1024 : Shape := ⟨2, ![16384, 1024]⟩
abbrev S1024x5632 : Shape := ⟨2, ![1024, 5632]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x2816, .f32⟩
  | .hbm, ⟨3, _⟩ => ⟨S16384x1024, .bf16⟩
  | .hbm, ⟨4, _⟩ => ⟨S1024x5632, .bf16⟩
  | .hbm, ⟨5, _⟩ => ⟨S16384x2816, .bf16⟩
  | .hbm, ⟨6, _⟩ => ⟨S16384x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference13Ideal.lean ====
abbrev S16384x1024 : Shape := ⟨2, ![16384, 1024]⟩
abbrev S1024x5632 : Shape := ⟨2, ![1024, 5632]⟩
abbrev S16384x2816 : Shape := ⟨2, ![16384, 2816]⟩
abbrev S16384x5632 : Shape := ⟨2, ![16384, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x2816, .f32⟩
  | .hbm, ⟨3, _⟩ => ⟨S16384x5632, .f32⟩
  | .hbm, ⟨4, _⟩ => ⟨S16384x2816, .f32⟩
  | .hbm, ⟨5, _⟩ => ⟨S16384x2816, .bf16⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel14.lean ====
abbrev S16384x2048 : Shape := ⟨2, ![16384, 2048]⟩
abbrev S2048x1024 : Shape := ⟨2, ![2048, 1024]⟩
abbrev S16384x10240 : Shape := ⟨2, ![16384, 10240]⟩
abbrev S16384x1024 : Shape := ⟨2, ![16384, 1024]⟩
abbrev S512x2048 : Shape := ⟨2, ![512, 2048]⟩
abbrev S512x1024 : Shape := ⟨2, ![512, 1024]⟩

abbrev nBuf : Space → Nat
  | .hbm => 9
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x10240, .f32⟩
  | .hbm, ⟨3, _⟩ => ⟨S16384x1024, .f32⟩
  | .hbm, ⟨4, _⟩ => ⟨S16384x10240, .bf16⟩
  | .hbm, ⟨5, _⟩ => ⟨S16384x2048, .bf16⟩
  | .hbm, ⟨6, _⟩ => ⟨S2048x1024, .bf16⟩
  | .hbm, ⟨7, _⟩ => ⟨S16384x1024, .f32⟩
  | .hbm, ⟨8, _⟩ => ⟨S16384x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference14Ideal.lean ====
abbrev S16384x2048 : Shape := ⟨2, ![16384, 2048]⟩
abbrev S2048x1024 : Shape := ⟨2, ![2048, 1024]⟩
abbrev S16384x10240 : Shape := ⟨2, ![16384, 10240]⟩
abbrev S16384x1024 : Shape := ⟨2, ![16384, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x10240, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel15.lean ====
abbrev S16384x1024 : Shape := ⟨2, ![16384, 1024]⟩
abbrev S2816x1024 : Shape := ⟨2, ![2816, 1024]⟩
abbrev S16384x2816 : Shape := ⟨2, ![16384, 2816]⟩
abbrev S1024x2816 : Shape := ⟨2, ![1024, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S16384x2816, .f32⟩
  | .hbm, ⟨3, _⟩ => ⟨S16384x2816, .f32⟩
  | .hbm, ⟨4, _⟩ => ⟨S16384x1024, .bf16⟩
  | .hbm, ⟨5, _⟩ => ⟨S2816x1024, .bf16⟩
  | .hbm, ⟨6, _⟩ => ⟨S1024x2816, .bf16⟩
  | .hbm, ⟨7, _⟩ => ⟨S16384x2816, .bf16⟩
  | .hbm, ⟨8, _⟩ => ⟨S16384x2816, .bf16⟩
  | .hbm, ⟨9, _⟩ => ⟨S16384x2816, .bf16⟩
  | .hbm, ⟨10, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference15Ideal.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .bf16⟩
  | .hbm, ⟨27, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel16.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S16384x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference16Ideal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel17.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S16384x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference17Ideal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel18.lean ====
abbrev S16384x2816 : Shape := ⟨2, ![16384, 2816]⟩
abbrev S16384x1024 : Shape := ⟨2, ![16384, 1024]⟩
abbrev S1024 : Shape := ⟨1, ![1024]⟩
abbrev S1024x5632 : Shape := ⟨2, ![1024, 5632]⟩
abbrev S1024x2816 : Shape := ⟨2, ![1024, 2816]⟩
abbrev S2816x1024 : Shape := ⟨2, ![2816, 1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 18
  | .vmem => 17
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024x5632, .f32⟩
  | .hbm, ⟨6, _⟩ => ⟨S1024x5632, .bf16⟩
  | .hbm, ⟨7, _⟩ => ⟨S16384x2816, .bf16⟩
  | .hbm, ⟨8, _⟩ => ⟨S1024x2816, .bf16⟩
  | .hbm, ⟨9, _⟩ => ⟨S2816x1024, .bf16⟩
  | .hbm, ⟨10, _⟩ => ⟨S16384x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S16384x1024, .f32⟩
  | .hbm, ⟨15, _⟩ => ⟨S16384x1024, .bf16⟩
  | .hbm, ⟨16, _⟩ => ⟨S8x1024, .f32⟩
  | .hbm, ⟨17, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | .local _ .vmem, ⟨16, _⟩ => ⟨S8x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![1, 32, 1], ![false, false, false]⟩

def k0_cond1 (i : grid0.Coords) : BitVec 1 :=
  let arg1 : BitVec 32 := BitVec.ofNat 32 (i 1).val
  let c0_i32 : BitVec 32 := 0#32
  let v58 : BitVec 1 := Scalar.cmpi .eq arg1 c0_i32
  let v59 : BitVec 32 := Scalar.extui v58
  let c0_i32_29 : BitVec 32 := 0#32
  let v60 : BitVec 1 := Scalar.cmpi .ne v59 c0_i32_29
  v60

def k0_cond2 (i : grid0.Coords) : BitVec 1 :=
  let arg1 : BitVec 32 := BitVec.ofNat 32 (i 1).val
  let c0_i32_30 : BitVec 32 := 0#32
  let v61 : BitVec 1 := Scalar.cmpi .sgt arg1 c0_i32_30
  let v62 : BitVec 32 := Scalar.extui v61
  let c0_i32_31 : BitVec 32 := 0#32
  let v63 : BitVec 1 := Scalar.cmpi .ne v62 c0_i32_31
  v63

def k0_cond3 (i : grid0.Coords) : BitVec 1 :=
  let arg1 : BitVec 32 := BitVec.ofNat 32 (i 1).val
  let c0_i32_33 : BitVec 32 := 0#32
  let v66 : BitVec 1 := Scalar.cmpi .eq arg1 c0_i32_33
  let v67 : BitVec 32 := Scalar.extui v66
  let c0_i32_34 : BitVec 32 := 0#32
  let v68 : BitVec 1 := Scalar.cmpi .ne v67 c0_i32_34
  v68

def k0_cond4 (i : grid0.Coords) : BitVec 1 :=
  let arg1 : BitVec 32 := BitVec.ofNat 32 (i 1).val
  let c0_i32_35 : BitVec 32 := 0#32
  let v69 : BitVec 1 := Scalar.cmpi .sgt arg1 c0_i32_35
  let v70 : BitVec 32 := Scalar.extui v69
  let c0_i32_36 : BitVec 32 := 0#32
  let v71 : BitVec 1 := Scalar.cmpi .ne v70 c0_i32_36
  v71

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false, false]
-- ==== Reference18Ideal.lean ====
abbrev S16384x2816 : Shape := ⟨2, ![16384, 2816]⟩
abbrev S16384x1024 : Shape := ⟨2, ![16384, 1024]⟩
abbrev S1024 : Shape := ⟨1, ![1024]⟩
abbrev S1024x5632 : Shape := ⟨2, ![1024, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩

abbrev nBuf : Space → Nat
  | .hbm => 88
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024x5632, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x5632, .f32⟩
  | .hbm, ⟨48, _⟩ => ⟨S16384x5632, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S16384x1, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S16384x1024, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384, .f32⟩
  | .hbm, ⟨85, _⟩ => ⟨S16384x1024, .f32⟩
  | .hbm, ⟨86, _⟩ => ⟨S16384x1024, .f32⟩
  | .hbm, ⟨87, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Kernel19.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024x1024, .f32⟩
  | .hbm, ⟨5, _⟩ => ⟨S16384x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S16384x1024, .f32⟩
  | .hbm, ⟨10, _⟩ => ⟨S16384x1024, .bf16⟩
  | .hbm, ⟨11, _⟩ => ⟨S8x1024, .f32⟩
  | .hbm, ⟨12, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![1, 32, 1], ![false, false, false]⟩

def k0_cond1 (i : grid0.Coords) : BitVec 1 :=
  let arg1 : BitVec 32 := BitVec.ofNat 32 (i 1).val
  let c0_i32 : BitVec 32 := 0#32
  let v52 : BitVec 1 := Scalar.cmpi .eq arg1 c0_i32
  let v53 : BitVec 32 := Scalar.extui v52
  let c0_i32_24 : BitVec 32 := 0#32
  let v54 : BitVec 1 := Scalar.cmpi .ne v53 c0_i32_24
  v54

def k0_cond2 (i : grid0.Coords) : BitVec 1 :=
  let arg1 : BitVec 32 := BitVec.ofNat 32 (i 1).val
  let c0_i32_25 : BitVec 32 := 0#32
  let v55 : BitVec 1 := Scalar.cmpi .sgt arg1 c0_i32_25
  let v56 : BitVec 32 := Scalar.extui v55
  let c0_i32_26 : BitVec 32 := 0#32
  let v57 : BitVec 1 := Scalar.cmpi .ne v56 c0_i32_26
  v57

def k0_cond3 (i : grid0.Coords) : BitVec 1 :=
  let arg1 : BitVec 32 := BitVec.ofNat 32 (i 1).val
  let c0_i32_28 : BitVec 32 := 0#32
  let v60 : BitVec 1 := Scalar.cmpi .eq arg1 c0_i32_28
  let v61 : BitVec 32 := Scalar.extui v60
  let c0_i32_29 : BitVec 32 := 0#32
  let v62 : BitVec 1 := Scalar.cmpi .ne v61 c0_i32_29
  v62

def k0_cond4 (i : grid0.Coords) : BitVec 1 :=
  let arg1 : BitVec 32 := BitVec.ofNat 32 (i 1).val
  let c0_i32_30 : BitVec 32 := 0#32
  let v63 : BitVec 1 := Scalar.cmpi .sgt arg1 c0_i32_30
  let v64 : BitVec 32 := Scalar.extui v63
  let c0_i32_31 : BitVec 32 := 0#32
  let v65 : BitVec 1 := Scalar.cmpi .ne v64 c0_i32_31
  v65

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false, false]
-- ==== Reference19Ideal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x1024, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384, .f32⟩
  | .hbm, ⟨77, _⟩ => ⟨S16384x1024, .f32⟩
  | .hbm, ⟨78, _⟩ => ⟨S16384x1024, .f32⟩
  | .hbm, ⟨79, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Proof.Tiles.lean ====
/- The tiles a grid point computes for one group of heads, as functions of what it loads, and the lists of its stores. -/
module

public import proofs.«01_k».proof.Proof.Gen.KernelIdeal.Value
public import Idealize.ShloMosaic.Lib.Pipeline.ValueKit

@[expose] public section

set_option maxRecDepth 16384

noncomputable section

namespace Cert.KernelIdeal.Ssd

open Cert.KernelIdeal Cert.KernelIdeal.Gen Idealize.ShloMosaic

variable {F : FTy → Type} [FloatOps F] [Named F]

/-! ## The group step of the kernel body, written once

The kernel's body treats the eight groups one after the other, in the same way.  Below, each tile it forms is a function of the
number of a head or of a group and of the tiles read before it. -/

/-- One row of a 128×128 table may be cut out. -/
theorem slRow (h : ℕ) (hh : h < 128) : S128x128.Slices ![h, 0] S1x128 :=
  ⟨rfl, fun a => by fin_cases a <;> simp [S128x128, S1x128] <;> omega⟩

/-- One column of a 128×128 table may be cut out. -/
theorem slCol (h : ℕ) (hh : h < 128) : S128x128.Slices ![0, h] S128x1 :=
  ⟨rfl, fun a => by fin_cases a <;> simp [S128x128, S128x1] <;> omega⟩

/-- The 64 rows of one of a group's four heads may be cut out. -/
theorem slHead (r : ℕ) (hr : r < 4) : S256x128.Slices ![64 * r, 0] S64x128 :=
  ⟨rfl, fun a => by fin_cases a <;> simp [S256x128, S64x128] <;> omega⟩

/-- The 64 rows of head `r` of a group. -/
def head (x : FVec F S256x128 .f32) (r : ℕ) (hr : r < 4) : FVec F S64x128 .f32 :=
  extractStridedSlice S64x128 ![64 * r, 0] x (slHead r hr)

/-- Row `h` of a table, repeated 64 times. -/
def rowUp (x : FVec F S128x128 .f32) (h : ℕ) (hh : h < 128) : FVec F S64x128 .f32 :=
  broadcastTo S64x128 (extractStridedSlice S1x128 ![h, 0] x (slRow h hh)) broadcasts_S1x128_S64x128

/-- Four tiles of 64 rows put under one another. -/
def stack (a b c d : FVec F S64x128 .f32) : FVec F S256x128 .f32 :=
  concatenate S256x128 0 [⟨S64x128, a⟩, ⟨S64x128, b⟩, ⟨S64x128, c⟩, ⟨S64x128, d⟩] concatenates_S64x128_S64x128_S64x128_S64x128_S256x128_d0

/-- The decay from position `s` up to position `l` in head `h`: the exponential of a difference of running sums, nothing above
the diagonal. -/
def decayTile (cs : FVec F S128x128 .f32) (h : ℕ) (hh : h < 128) : FVec F S128x128 .f32 :=
  exp (select (cmpi CmpIPredicate.sge (iota .tc S128x128 32 [0] iota_S128x128_d0_w32) (iota .tc S128x128 32 [1] iota_S128x128_d1_w32))
    (subf (broadcastTo S128x128 (extractStridedSlice S128x1 ![0, h] (transpose S128x128 [1, 0] cs transposes_S128x128_p1_0_S128x128) (slCol h hh)) broadcasts_S128x1_S128x128)
      (broadcastTo S128x128 (extractStridedSlice S1x128 ![h, 0] cs (slRow h hh)) broadcasts_S1x128_S128x128))
    (broadcast S128x128 (Named.named κ "mask" 0xF149F2CA#32)))

/-- The decay from each position to the chunk's end, and over the whole chunk, for all heads: the running sum's last column, repeated. -/
def lastUp (cs : FVec F S128x128 .f32) : FVec F S128x128 .f32 :=
  broadcastTo S128x128 (shapeCast S128x1 (extractStridedSlice S128x1 ![0, 127] cs slices_S128x128_o0_127_S128x1) shapeCasts_S128x1_S128x1)
    broadcasts_S128x1_S128x128

/-- The decay from each position to the end of the chunk. -/
def toEnd (cs : FVec F S128x128 .f32) : FVec F S128x128 .f32 := exp (subf (lastUp cs) cs)

/-- The four heads of a group: a function of a head's place in the group, stacked. -/
def heads (f : (r : ℕ) → r < 4 → FVec F S64x128 .f32) : FVec F S256x128 .f32 :=
  stack (f 0 (by decide)) (f 1 (by decide)) (f 2 (by decide)) (f 3 (by decide))

section group
variable (g : ℕ) (hg : g < 8)

/-- The number of a group's head in a table with one row per head. -/
theorem rowLt (hg : g < 8) (r : ℕ) (hr : r < 4) : 4 * g + r < 128 := by omega

/-- The gradient of the group's state arriving from the chunk's own outputs: the cotangent times its decay from the chunk's start. -/
def dyOut (cs : FVec F S128x128 .f32) (dy : FVec F S256x128 .f32) : FVec F S256x128 .bf16 :=
  truncf .bf16 (heads fun r hr => mulf (head dy r hr) (rowUp (exp cs) (4 * g + r) (rowLt g hg r hr))) bitsLt_bf16_f32

/-- What the group's inputs add to the state: each input times its step and its decay to the chunk's end. -/
def xIn (cs dt : FVec F S128x128 .f32) (x : FVec F S256x128 .f32) : FVec F S256x128 .bf16 :=
  truncf .bf16 (heads fun r hr => mulf (head x r hr) (rowUp (mulf (toEnd cs) dt) (4 * g + r) (rowLt g hg r hr))) bitsLt_bf16_f32

/-- One head's part of the gradient of the products `C·B` inside the chunk. -/
def dcbHead (cs dt : FVec F S128x128 .f32) (x dy : FVec F S256x128 .f32) (r : ℕ) (hr : r < 4) : FVec F S128x128 .f32 :=
  mulf (matmul dot_S64x128_S64x128_S128x128_0_0_1_1_n_n none (truncf .bf16 (head dy r hr) bitsLt_bf16_f32)
      (truncf .bf16 (head x r hr) bitsLt_bf16_f32) (constant S128x128 .f32 0x00000000#32))
    (mulf (decayTile cs (4 * g + r) (rowLt g hg r hr))
      (broadcastTo S128x128 (extractStridedSlice S1x128 ![4 * g + r, 0] dt (slRow (4 * g + r) (rowLt g hg r hr))) broadcasts_S1x128_S128x128))

/-- The gradient of the products `C·B` inside the chunk, the group's four heads together. -/
def dcb (cs dt : FVec F S128x128 .f32) (x dy : FVec F S256x128 .f32) : FVec F S128x128 .bf16 :=
  truncf .bf16 (addf (addf (addf (dcbHead g hg cs dt x dy 0 (by decide)) (dcbHead g hg cs dt x dy 1 (by decide)))
    (dcbHead g hg cs dt x dy 2 (by decide))) (dcbHead g hg cs dt x dy 3 (by decide))) bitsLt_bf16_f32

/-- The gradient of the group's `C`. -/
def gradC (cs dt : FVec F S128x128 .f32) (x dy : FVec F S256x128 .f32) (b : FVec F S128x128 .f32) (st : FVec F S1x1x256x128 .f32) :
    FVec F S128x128 .f32 :=
  addf (matmul dot_S128x128_S128x128_S128x128_1_0_0_1_n_n none (dcb g hg cs dt x dy) (truncf .bf16 b bitsLt_bf16_f32) (constant S128x128 .f32 0x00000000#32))
    (matmul dot_S256x128_S256x128_S128x128_0_0_1_1_n_n none (dyOut g hg cs dy)
      (truncf .bf16 (shapeCast S256x128 st shapeCasts_S1x1x256x128_S256x128) bitsLt_bf16_f32) (constant S128x128 .f32 0x00000000#32))

/-- The gradient of the group's `B`. -/
def gradB (cs dt : FVec F S128x128 .f32) (x dy : FVec F S256x128 .f32) (cc : FVec F S128x128 .f32) (dh : FVec F S1x256x128 .f32) :
    FVec F S128x128 .f32 :=
  addf (matmul dot_S128x128_S128x128_S128x128_0_0_1_1_n_n none (dcb g hg cs dt x dy) (truncf .bf16 cc bitsLt_bf16_f32) (constant S128x128 .f32 0x00000000#32))
    (matmul dot_S256x128_S256x128_S128x128_0_0_1_1_n_n none (xIn g hg cs dt x)
      (truncf .bf16 (shapeCast S256x128 dh shapeCasts_S1x256x128_S256x128) bitsLt_bf16_f32) (constant S128x128 .f32 0x00000000#32))

/-- The gradient of one head's inputs. -/
def gradXHead (cs dt : FVec F S128x128 .f32) (dy : FVec F S256x128 .f32) (b cc : FVec F S128x128 .f32) (dh : FVec F S1x256x128 .f32)
    (r : ℕ) (hr : r < 4) : FVec F S64x128 .f32 :=
  mulf (addf
      (matmul dot_S64x128_S128x128_S64x128_1_0_0_1_n_n none (truncf .bf16 (head dy r hr) bitsLt_bf16_f32)
        (truncf .bf16 (mulf (matmul dot_S128x128_S128x128_S128x128_1_1_0_0_n_n none (truncf .bf16 cc bitsLt_bf16_f32)
            (truncf .bf16 b bitsLt_bf16_f32) (constant S128x128 .f32 0x00000000#32)) (decayTile cs (4 * g + r) (rowLt g hg r hr))) bitsLt_bf16_f32)
        (constant S64x128 .f32 0x00000000#32))
      (mulf (head (matmul dot_S256x128_S128x128_S256x128_1_1_0_0_n_n none
          (truncf .bf16 (shapeCast S256x128 dh shapeCasts_S1x256x128_S256x128) bitsLt_bf16_f32)
          (truncf .bf16 b bitsLt_bf16_f32) (constant S256x128 .f32 0x00000000#32)) r hr)
        (rowUp (toEnd cs) (4 * g + r) (rowLt g hg r hr))))
    (rowUp dt (4 * g + r) (rowLt g hg r hr))

/-- The gradient of the group's inputs, positions along the rows. -/
def gradX (cs dt : FVec F S128x128 .f32) (dy : FVec F S256x128 .f32) (b cc : FVec F S128x128 .f32) (dh : FVec F S1x256x128 .f32) :
    FVec F S128x256 .f32 :=
  transpose S128x256 [1, 0] (heads fun r hr => gradXHead g hg cs dt dy b cc dh r hr) transposes_S256x128_p1_0_S128x256

/-- The gradient of the group's state one chunk further back. -/
def gradH (cs : FVec F S128x128 .f32) (dy : FVec F S256x128 .f32) (cc : FVec F S128x128 .f32) (dh : FVec F S1x256x128 .f32) :
    FVec F S1x256x128 .f32 :=
  shapeCast S1x256x128 (addf
      (mulf (shapeCast S256x128 dh shapeCasts_S1x256x128_S256x128)
        (heads fun r hr => broadcastTo S64x128 (shapeCast S1x128
          (extractStridedSlice S1x128 ![4 * g + r, 0] (exp (lastUp cs)) (slRow (4 * g + r) (rowLt g hg r hr))) shapeCasts_S1x128_S1x128) broadcasts_S1x128_S64x128))
      (matmul dot_S256x128_S128x128_S256x128_1_0_0_1_n_n none (dyOut g hg cs dy) (truncf .bf16 cc bitsLt_bf16_f32) (constant S256x128 .f32 0x00000000#32)))
    shapeCasts_S256x128_S1x256x128

end group

/-! ## The steps and their running sums -/

/-- The steps, one row per head: the softplus of the projection plus the head's bias. -/
def dtOf (x2 x5 : FVec F S128x128 .f32) : FVec F S128x128 .f32 :=
  have z := addf (transpose S128x128 [1, 0] x2 transposes_S128x128_p1_0_S128x128) (shapeCast S128x128 x5 shapeCasts_S128x128_S128x128)
  have o : FVec F S128x128 .f32 := broadcast S128x128 (Scalar.ofBits .f32 0x00000000#32)
  addf (maximumf z o) (log1p (exp (subf o (absf z))))

/-- Each step's logarithmic decay. -/
def aOf (x2 x5 x6 : FVec F S128x128 .f32) : FVec F S128x128 .f32 :=
  mulf (dtOf x2 x5) (subf (broadcast S128x128 (Scalar.ofBits .f32 0x00000000#32)) (exp (shapeCast S128x128 x6 shapeCasts_S128x128_S128x128)))

/-- The table with a one on and above the diagonal. -/
def upper : FVec F S128x128 .bf16 :=
  truncf .bf16 (sitofp .f32 (extui 32 (cmpi CmpIPredicate.sle (iota .tc S128x128 32 [0] iota_S128x128_d0_w32) (iota .tc S128x128 32 [1] iota_S128x128_d1_w32)) natLt_1_32)) bitsLt_bf16_f32

/-- The running sums of the decays along a chunk, one row per head: a product with a triangle of ones, the decays in three parts. -/
def csOf (a : FVec F S128x128 .f32) : FVec F S128x128 .f32 :=
  have a1 := truncf .bf16 a bitsLt_bf16_f32
  have r1 := subf a (extf .f32 a1 bitsLt_bf16_f32)
  have a2 := truncf .bf16 r1 bitsLt_bf16_f32
  have r2 := subf r1 (extf .f32 a2 bitsLt_bf16_f32)
  have a3 := truncf .bf16 r2 bitsLt_bf16_f32
  addf (addf (matmul dot_S128x128_S128x128_S128x128_1_0_0_1_n_n none a1 upper (constant S128x128 .f32 0x00000000#32))
    (matmul dot_S128x128_S128x128_S128x128_1_0_0_1_n_n none a2 upper (constant S128x128 .f32 0x00000000#32)))
    (matmul dot_S128x128_S128x128_S128x128_1_0_0_1_n_n none a3 upper (constant S128x128 .f32 0x00000000#32))

/-! ## What a grid point stores, as a list over the groups -/

theorem inbX (g : ℕ) (hg : g < 8) : ∀ a, (![256 * g, 0] : Fin 2 → ℕ) a + S256x128.size a ≤ S2048x128.size a :=
  fun a => by fin_cases a <;> simp [S2048x128, S256x128] <;> omega
theorem inbB (g : ℕ) (hg : g < 8) : ∀ a, (![0, 128 * g] : Fin 2 → ℕ) a + S128x128.size a ≤ S128x2048.size a :=
  fun a => by fin_cases a <;> simp [S128x2048, S128x128] <;> omega
theorem inbC (g : ℕ) (hg : g < 8) : ∀ a, (![0, 1024 + 128 * g] : Fin 2 → ℕ) a + S128x128.size a ≤ S128x2048.size a :=
  fun a => by fin_cases a <;> simp [S128x2048, S128x128] <;> omega
theorem inbS (g : ℕ) (hg : g < 8) : ∀ a, (![0, g, 0, 0] : Fin 4 → ℕ) a + S1x1x256x128.size a ≤ S1x8x256x128.size a :=
  fun a => by fin_cases a <;> simp [S1x8x256x128, S1x1x256x128] <;> omega
theorem inbH (g : ℕ) (hg : g < 8) : ∀ a, (![g, 0, 0] : Fin 3 → ℕ) a + S1x256x128.size a ≤ S8x256x128.size a :=
  fun a => by fin_cases a <;> simp [S8x256x128, S1x256x128] <;> omega
theorem inbDX (g : ℕ) (hg : g < 8) : ∀ a, (![0, 256 * g] : Fin 2 → ℕ) a + (![128, 256] : Fin 2 → ℕ) a ≤ S128x4096.size a :=
  fun a => by fin_cases a <;> simp [S128x4096] <;> omega
theorem inbDB (g : ℕ) (hg : g < 8) : ∀ a, (![0, 2048 + 128 * g] : Fin 2 → ℕ) a + (![128, 128] : Fin 2 → ℕ) a ≤ S128x4096.size a :=
  fun a => by fin_cases a <;> simp [S128x4096] <;> omega
theorem inbDC (g : ℕ) (hg : g < 8) : ∀ a, (![0, 3072 + 128 * g] : Fin 2 → ℕ) a + (![128, 128] : Fin 2 → ℕ) a ≤ S128x4096.size a :=
  fun a => by fin_cases a <;> simp [S128x4096] <;> omega

/-- The tiles one grid point reads: by group, the inputs, their cotangents, `B`, `C`, the state before the chunk, and the gradient of
the state after it; for all heads the running sums and the steps. -/
structure Tiles (F : FTy → Type) where
  cs : FVec F S128x128 .f32
  dt : FVec F S128x128 .f32
  x : (g : ℕ) → g < 8 → FVec F S256x128 .f32
  dy : (g : ℕ) → g < 8 → FVec F S256x128 .f32
  b : (g : ℕ) → g < 8 → FVec F S128x128 .f32
  c : (g : ℕ) → g < 8 → FVec F S128x128 .f32
  st : (g : ℕ) → g < 8 → FVec F S1x1x256x128 .f32
  dh : (g : ℕ) → g < 8 → FVec F S1x256x128 .f32

/-- The stores into the gradient block by the groups below `n`, the last one first. -/
def stores (T : Tiles F) : (n : ℕ) → n ≤ 8 → List (View.Piece (Elt F) S128x4096 .f32)
  | 0, _ => []
  | n + 1, h =>
    ⟨Rect.unit ![0, 3072 + 128 * n] ![128, 128] (inbDC n h), gradC n h T.cs T.dt (T.x n h) (T.dy n h) (T.b n h) (T.st n h)⟩ ::
    ⟨Rect.unit ![0, 2048 + 128 * n] ![128, 128] (inbDB n h), gradB n h T.cs T.dt (T.x n h) (T.dy n h) (T.c n h) (T.dh n h)⟩ ::
    ⟨Rect.unit ![0, 256 * n] ![128, 256] (inbDX n h), gradX n h T.cs T.dt (T.dy n h) (T.b n h) (T.c n h) (T.dh n h)⟩ ::
    stores T n (Nat.le_of_succ_le h)

/-- The stores into the scratch that carries the state's gradient by the groups below `n`, the last one first. -/
def storesH (T : Tiles F) (base : List (View.Piece (Elt F) S8x256x128 .f32)) : (n : ℕ) → n ≤ 8 → List (View.Piece (Elt F) S8x256x128 .f32)
  | 0, _ => base
  | n + 1, h =>
    ⟨Rect.unit ![n, 0, 0] ![1, 256, 128] (inbH n h), gradH n h T.cs (T.dy n h) (T.c n h) (T.dh n h)⟩ ::
    storesH T base n (Nat.le_of_succ_le h)

section point

variable (t : Fin cfg0.N) (x0 : Vec F S2048x128 .f32) (x1 : Vec F S128x2048 .f32) (x2 : Vec F S128x128 .f32) (x3 : Vec F S2048x128 .f32)
  (x4 : Vec F S1x8x256x128 .f32) (x5 x6 : Vec F S128x128 .f32)

/-- A whole 128×128 block as it is loaded. -/
abbrev ld2 : FVec F S128x128 .f32 := View.readAt (Elt F) (ms0_2 t).view (Rect.unit ![0, 0] S128x128.size inb_S128x128_S128x128_0_0).toLoadRect ((hs0_2 t).unread x2)
abbrev ld5 : FVec F S128x128 .f32 := View.readAt (Elt F) (ms0_5 t).view (Rect.unit ![0, 0] S128x128.size inb_S128x128_S128x128_0_0).toLoadRect ((hs0_5 t).unread x5)
abbrev ld6 : FVec F S128x128 .f32 := View.readAt (Elt F) (ms0_6 t).view (Rect.unit ![0, 0] S128x128.size inb_S128x128_S128x128_0_0).toLoadRect ((hs0_6 t).unread x6)

/-- The tiles a point loads out of its blocks, the state's gradient `dh` given. -/
def loaded (dh : (g : ℕ) → g < 8 → FVec F S1x256x128 .f32) : Tiles F where
  cs := csOf (aOf (ld2 t x2) (ld5 t x5) (ld6 t x6))
  dt := dtOf (ld2 t x2) (ld5 t x5)
  x g h := View.readAt (Elt F) (ms0_0 t).view (Rect.unit (s := S2048x128) ![256 * g, 0] S256x128.size (inbX g h)).toLoadRect ((hs0_0 t).unread x0)
  dy g h := View.readAt (Elt F) (ms0_3 t).view (Rect.unit (s := S2048x128) ![256 * g, 0] S256x128.size (inbX g h)).toLoadRect ((hs0_3 t).unread x3)
  b g h := View.readAt (Elt F) (ms0_1 t).view (Rect.unit (s := S128x2048) ![0, 128 * g] S128x128.size (inbB g h)).toLoadRect ((hs0_1 t).unread x1)
  c g h := View.readAt (Elt F) (ms0_1 t).view (Rect.unit (s := S128x2048) ![0, 1024 + 128 * g] S128x128.size (inbC g h)).toLoadRect ((hs0_1 t).unread x1)
  st g h := View.readAt (Elt F) (ms0_4 t).view (Rect.unit (s := S1x8x256x128) ![0, g, 0, 0] S1x1x256x128.size (inbS g h)).toLoadRect ((hs0_4 t).unread x4)
  dh := dh

/-- The state's gradient as a point after a run's first finds it in the scratch. -/
def dhB (xs0 : Vec F S8x256x128 .f32) (g : ℕ) (h : g < 8) : FVec F S1x256x128 .f32 :=
  View.readAt (Elt F) scM0_0.view (Rect.unit (s := S8x256x128) ![g, 0, 0] S1x256x128.size (inbH g h)).toLoadRect ((Memref.isWhole_whole _).unread xs0)

/-- The tile of zeros the state's gradient starts from. -/
def zeroH : FVec F S1x256x128 .f32 := fun _ => Scalar.ofBits .f32 0x00000000#32

/-- The scratch's stores after `k` pairs of groups at a run's first point, which first fills it with zeros; the two groups of a pair are
loaded before either is stored. -/
def pairsA (cs : FVec F S128x128 .f32) (dy : (g : ℕ) → g < 8 → FVec F S256x128 .f32) (cc : (g : ℕ) → g < 8 → FVec F S128x128 .f32) :
    (k : ℕ) → k ≤ 4 → List (View.Piece (Elt F) S8x256x128 .f32)
  | 0, _ => [⟨Rect.unit ![0, 0, 0] S8x256x128.size inb_S8x256x128_S8x256x128_0_0_0,
      shapeCast S8x256x128 (broadcast S8x256x128 (Scalar.ofBits .f32 0x00000000#32) : FVec F S8x256x128 .f32) shapeCasts_S8x256x128_S8x256x128⟩]
  | k + 1, h =>
    ⟨Rect.unit ![2 * k + 1, 0, 0] ![1, 256, 128] (inbH (2 * k + 1) (by omega)), gradH (2 * k + 1) (by omega) cs (dy (2 * k + 1) (by omega))
      (cc (2 * k + 1) (by omega)) (scM0_0.view.readCov (pairsA cs dy cc k (Nat.le_of_succ_le h))
        (Rect.unit (s := S8x256x128) ![2 * k + 1, 0, 0] S1x256x128.size (inbH (2 * k + 1) (by omega))).toLoadRect)⟩ ::
    ⟨Rect.unit ![2 * k, 0, 0] ![1, 256, 128] (inbH (2 * k) (by omega)), gradH (2 * k) (by omega) cs (dy (2 * k) (by omega))
      (cc (2 * k) (by omega)) (scM0_0.view.readCov (pairsA cs dy cc k (Nat.le_of_succ_le h))
        (Rect.unit (s := S8x256x128) ![2 * k, 0, 0] S1x256x128.size (inbH (2 * k) (by omega))).toLoadRect)⟩ ::
    pairsA cs dy cc k (Nat.le_of_succ_le h)

end point

end Cert.KernelIdeal.Ssd
-- ==== Proof.StoresHA.lean ====
/- The stores of the first grid point into the scratch that carries the state's gradient. -/
module

public import proofs.«01_k».proof.Proof.Tiles

@[expose] public section

set_option maxRecDepth 16384

noncomputable section

namespace Cert.KernelIdeal.Ssd

open Cert.KernelIdeal Cert.KernelIdeal.Gen Idealize.ShloMosaic

variable {F : FTy → Type} [FloatOps F] [Named F]

variable (t : Fin cfg0.N) (x0 : Vec F S2048x128 .f32) (x1 : Vec F S128x2048 .f32) (x2 : Vec F S128x128 .f32) (x3 : Vec F S2048x128 .f32)
  (x4 : Vec F S1x8x256x128 .f32) (x5 x6 : Vec F S128x128 .f32)

/-- The tiles of a run's first point that its scratch depends on. -/
abbrev tilesA : Tiles F := loaded t (fun _ => Scalar.ofBits .f32 0x00000000#32) x1 x2 x3 (fun _ => Scalar.ofBits .f32 0x00000000#32) x5 x6 (fun _ _ => zeroH)

/-- The scratch's stores after `k` pairs of groups at a run's first point, from the blocks. -/
abbrev scrA (k : ℕ) (hk : k ≤ 4) : List (View.Piece (Elt F) S8x256x128 .f32) :=
  pairsA (tilesA t x1 x2 x3 x5 x6).cs (tilesA t x1 x2 x3 x5 x6).dy (tilesA t x1 x2 x3 x5 x6).c k hk

/-- One more pair. -/
theorem scrA_succ (k : ℕ) (h : k + 1 ≤ 4) : scrA t x1 x2 x3 x5 x6 (k + 1) h =
    have T : Tiles F := tilesA t x1 x2 x3 x5 x6
    ⟨Rect.unit ![2 * k + 1, 0, 0] ![1, 256, 128] (inbH (2 * k + 1) (by omega)), gradH (2 * k + 1) (by omega) T.cs (T.dy (2 * k + 1) (by omega))
      (T.c (2 * k + 1) (by omega)) (scM0_0.view.readCov (scrA t x1 x2 x3 x5 x6 k (Nat.le_of_succ_le h))
        (Rect.unit (s := S8x256x128) ![2 * k + 1, 0, 0] S1x256x128.size (inbH (2 * k + 1) (by omega))).toLoadRect)⟩ ::
    ⟨Rect.unit ![2 * k, 0, 0] ![1, 256, 128] (inbH (2 * k) (by omega)), gradH (2 * k) (by omega) T.cs (T.dy (2 * k) (by omega))
      (T.c (2 * k) (by omega)) (scM0_0.view.readCov (scrA t x1 x2 x3 x5 x6 k (Nat.le_of_succ_le h))
        (Rect.unit (s := S8x256x128) ![2 * k, 0, 0] S1x256x128.size (inbH (2 * k) (by omega))).toLoadRect)⟩ ::
    scrA t x1 x2 x3 x5 x6 k (Nat.le_of_succ_le h) := rfl

variable (c : Dev nD)

/-- The generated list of stores before the first group. -/
theorem scr_0 : kernelRun0_A.sl.HS0_1 (F := F) = scrA t x1 x2 x3 x5 x6 0 (by decide) := rfl

set_option maxHeartbeats 2000000 in
theorem scr_1 : kernelRun0_A.sl.HS0_3 (F := F) c (ms0_1 t) (hs0_1 t) (ms0_2 t) (hs0_2 t) (ms0_3 t) (hs0_3 t) (ms0_5 t) (hs0_5 t) (ms0_6 t) (hs0_6 t) scM0_0 x1 x2 x3 x5 x6 = scrA t x1 x2 x3 x5 x6 1 (by decide) := by
  rw [scrA_succ, ← scr_0]
  rfl

set_option maxHeartbeats 2000000 in
theorem scr_2 : kernelRun0_A.sl.HS0_5 (F := F) c (ms0_1 t) (hs0_1 t) (ms0_2 t) (hs0_2 t) (ms0_3 t) (hs0_3 t) (ms0_5 t) (hs0_5 t) (ms0_6 t) (hs0_6 t) scM0_0 x1 x2 x3 x5 x6 = scrA t x1 x2 x3 x5 x6 2 (by decide) := by
  rw [scrA_succ, ← scr_1 (c := c)]
  rfl

set_option maxHeartbeats 2000000 in
theorem scr_3 : kernelRun0_A.sl.HS0_7 (F := F) c (ms0_1 t) (hs0_1 t) (ms0_2 t) (hs0_2 t) (ms0_3 t) (hs0_3 t) (ms0_5 t) (hs0_5 t) (ms0_6 t) (hs0_6 t) scM0_0 x1 x2 x3 x5 x6 = scrA t x1 x2 x3 x5 x6 3 (by decide) := by
  rw [scrA_succ, ← scr_2 (c := c)]
  rfl

set_option maxHeartbeats 2000000 in
/-- The stores into the carried scratch at a run's first point. -/
theorem storesH_A (h0 : t.val % 128 = 0) :
    (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) x0 x1 x2 x3 x4 x5 x6).2.2.2.1
      = scrA t x1 x2 x3 x5 x6 4 le_rfl := by
  rw [scrA_succ, ← scr_3 (c := c)]
  rfl

end Cert.KernelIdeal.Ssd
-- ==== Proof.ReadA.lean ====
/- At the first grid point, which fills the scratch with zeros, every group of heads still reads zeros. -/
module

public import Idealize.ShloMosaic.Lib.Pipeline.ReadBack
public import proofs.«01_k».proof.Proof.StoresHA

@[expose] public section

set_option maxRecDepth 16384

noncomputable section

namespace Cert.KernelIdeal.Ssd

open Cert.KernelIdeal Cert.KernelIdeal.Gen Idealize.ShloMosaic

variable {F : FTy → Type} [FloatOps F] [Named F]

variable (t : Fin cfg0.N) (x0 : Vec F S2048x128 .f32) (x1 : Vec F S128x2048 .f32) (x2 : Vec F S128x128 .f32) (x3 : Vec F S2048x128 .f32)
  (x4 : Vec F S1x8x256x128 .f32) (x5 x6 : Vec F S128x128 .f32)

variable (c : Dev nD)

/-- A store into the rows of an earlier group is not seen by a later group's load. -/
theorem readCov_later (L : List (View.Piece (Elt F) S8x256x128 .f32)) (n g : ℕ) (hn : n < 8) (hg : g < 8) (h : n < g) (w : FVec F S1x256x128 .f32) :
    scM0_0.view.readCov ((⟨Rect.unit (s := S8x256x128) ![n, 0, 0] ![1, 256, 128] (inbH n hn), w⟩ : View.Piece (Elt F) S8x256x128 .f32) :: L)
        (Rect.unit (s := S8x256x128) ![g, 0, 0] S1x256x128.size (inbH g hg)).toLoadRect
      = scM0_0.view.readCov L (Rect.unit (s := S8x256x128) ![g, 0, 0] S1x256x128.size (inbH g hg)).toLoadRect := by
  refine View.readCov_cons_of_disjoint _ _ _ _ ?_
  exact Rect.unit_disjoint (s := S8x256x128) (inb := inbH n hn) (inb' := inbH g hg) (0 : Fin 3) (Or.inl h)

/-- Before a group's own store the scratch still holds zeros in the group's rows. -/
theorem read_zero (cs : FVec F S128x128 .f32) (dy : (g : ℕ) → g < 8 → FVec F S256x128 .f32) (cc : (g : ℕ) → g < 8 → FVec F S128x128 .f32)
    (k : ℕ) (hk : k ≤ 4) (g : ℕ) (hg : g < 8) (h : 2 * k ≤ g) :
    scM0_0.view.readCov (pairsA cs dy cc k hk) (Rect.unit (s := S8x256x128) ![g, 0, 0] S1x256x128.size (inbH g hg)).toLoadRect = zeroH := by
  induction k with
  | zero =>
    refine (View.readCov_fill _ _ _ _ _ ?_).trans ?_
    · intro a; fin_cases a <;> rfl
    · funext j; rfl
  | succ k ih =>
    unfold pairsA
    exact (readCov_later _ (2 * k + 1) g (by omega) hg (by omega) _).trans ((readCov_later _ (2 * k) g (by omega) hg (by omega) _).trans (ih _ (by omega)))

include t x1 x2 x3 x5 x6 in
theorem read_0 : kernelRun0_A.sl.v66 (F := F) c scM0_0 = zeroH := by
  unfold kernelRun0_A.sl.v66
  rw [scr_0 t x1 x2 x3 x5 x6]
  exact read_zero _ _ _ 0 (by decide) 0 (by decide) (by decide)

include t x1 x2 x3 x5 x6 in
theorem read_1 : kernelRun0_A.sl.v68 (F := F) c scM0_0 = zeroH := by
  unfold kernelRun0_A.sl.v68
  rw [scr_0 t x1 x2 x3 x5 x6]
  exact read_zero _ _ _ 0 (by decide) 1 (by decide) (by decide)

include t x1 x2 x3 x5 x6 in
theorem read_2 : kernelRun0_A.sl.v796 (F := F) c (ms0_1 t) (hs0_1 t) (ms0_2 t) (hs0_2 t) (ms0_3 t) (hs0_3 t) (ms0_5 t) (hs0_5 t) (ms0_6 t) (hs0_6 t) scM0_0 x1 x2 x3 x5 x6 = zeroH := by
  unfold kernelRun0_A.sl.v796
  rw [scr_1 t x1 x2 x3 x5 x6 c]
  exact read_zero _ _ _ 1 (by decide) 2 (by decide) (by decide)

include t x1 x2 x3 x5 x6 in
theorem read_3 : kernelRun0_A.sl.v798 (F := F) c (ms0_1 t) (hs0_1 t) (ms0_2 t) (hs0_2 t) (ms0_3 t) (hs0_3 t) (ms0_5 t) (hs0_5 t) (ms0_6 t) (hs0_6 t) scM0_0 x1 x2 x3 x5 x6 = zeroH := by
  unfold kernelRun0_A.sl.v798
  rw [scr_1 t x1 x2 x3 x5 x6 c]
  exact read_zero _ _ _ 1 (by decide) 3 (by decide) (by decide)

include t x1 x2 x3 x5 x6 in
theorem read_4 : kernelRun0_A.sl.v1526 (F := F) c (ms0_1 t) (hs0_1 t) (ms0_2 t) (hs0_2 t) (ms0_3 t) (hs0_3 t) (ms0_5 t) (hs0_5 t) (ms0_6 t) (hs0_6 t) scM0_0 x1 x2 x3 x5 x6 = zeroH := by
  unfold kernelRun0_A.sl.v1526
  rw [scr_2 t x1 x2 x3 x5 x6 c]
  exact read_zero _ _ _ 2 (by decide) 4 (by decide) (by decide)

include t x1 x2 x3 x5 x6 in
theorem read_5 : kernelRun0_A.sl.v1528 (F := F) c (ms0_1 t) (hs0_1 t) (ms0_2 t) (hs0_2 t) (ms0_3 t) (hs0_3 t) (ms0_5 t) (hs0_5 t) (ms0_6 t) (hs0_6 t) scM0_0 x1 x2 x3 x5 x6 = zeroH := by
  unfold kernelRun0_A.sl.v1528
  rw [scr_2 t x1 x2 x3 x5 x6 c]
  exact read_zero _ _ _ 2 (by decide) 5 (by decide) (by decide)

include t x1 x2 x3 x5 x6 in
theorem read_6 : kernelRun0_A.sl.v2256 (F := F) c (ms0_1 t) (hs0_1 t) (ms0_2 t) (hs0_2 t) (ms0_3 t) (hs0_3 t) (ms0_5 t) (hs0_5 t) (ms0_6 t) (hs0_6 t) scM0_0 x1 x2 x3 x5 x6 = zeroH := by
  unfold kernelRun0_A.sl.v2256
  rw [scr_3 t x1 x2 x3 x5 x6 c]
  exact read_zero _ _ _ 3 (by decide) 6 (by decide) (by decide)

include t x1 x2 x3 x5 x6 in
theorem read_7 : kernelRun0_A.sl.v2258 (F := F) c (ms0_1 t) (hs0_1 t) (ms0_2 t) (hs0_2 t) (ms0_3 t) (hs0_3 t) (ms0_5 t) (hs0_5 t) (ms0_6 t) (hs0_6 t) scM0_0 x1 x2 x3 x5 x6 = zeroH := by
  unfold kernelRun0_A.sl.v2258
  rw [scr_3 t x1 x2 x3 x5 x6 c]
  exact read_zero _ _ _ 3 (by decide) 7 (by decide) (by decide)

end Cert.KernelIdeal.Ssd
-- ==== Proof.StoresA.lean ====
/- The stores of the first grid point into its gradient block, as one list built group by group. -/
module

public import proofs.«01_k».proof.Proof.ReadA

@[expose] public section

set_option maxRecDepth 16384

noncomputable section

namespace Cert.KernelIdeal.Ssd

open Cert.KernelIdeal Cert.KernelIdeal.Gen Idealize.ShloMosaic

variable {F : FTy → Type} [FloatOps F] [Named F]

variable (t : Fin cfg0.N) (x0 : Vec F S2048x128 .f32) (x1 : Vec F S128x2048 .f32) (x2 : Vec F S128x128 .f32) (x3 : Vec F S2048x128 .f32)
  (x4 : Vec F S1x8x256x128 .f32) (x5 x6 : Vec F S128x128 .f32)

variable (c : Dev nD)

/-- The stores into the gradient block at a run's first point, as generated. -/
abbrev outA (h0 : t.val % 128 = 0) : List (View.Piece (Elt F) S128x4096 .f32) :=
  (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) x0 x1 x2 x3 x4 x5 x6).1

/-- The three stores of a group. -/
def pieceC (T : Tiles F) (g : ℕ) (h : g < 8) : View.Piece (Elt F) S128x4096 .f32 :=
  ⟨Rect.unit ![0, 3072 + 128 * g] ![128, 128] (inbDC g h), gradC g h T.cs T.dt (T.x g h) (T.dy g h) (T.b g h) (T.st g h)⟩
def pieceB (T : Tiles F) (g : ℕ) (h : g < 8) (dh : FVec F S1x256x128 .f32) : View.Piece (Elt F) S128x4096 .f32 :=
  ⟨Rect.unit ![0, 2048 + 128 * g] ![128, 128] (inbDB g h), gradB g h T.cs T.dt (T.x g h) (T.dy g h) (T.c g h) dh⟩
def pieceX (T : Tiles F) (g : ℕ) (h : g < 8) (dh : FVec F S1x256x128 .f32) : View.Piece (Elt F) S128x4096 .f32 :=
  ⟨Rect.unit ![0, 256 * g] ![128, 256] (inbDX g h), gradX g h T.cs T.dt (T.dy g h) (T.b g h) (T.c g h) dh⟩

/-- The generated running sums and steps are those of the blocks. -/
theorem sums_A (c : Dev nD) : kernelRun0_A.sl.v40 (F := F) c (ms0_2 t) (hs0_2 t) (ms0_5 t) (hs0_5 t) (ms0_6 t) (hs0_6 t) x2 x5 x6 = csOf (aOf (ld2 t x2) (ld5 t x5) (ld6 t x6)) := rfl
theorem steps_A (c : Dev nD) : kernelRun0_A.sl.v17 (F := F) c (ms0_2 t) (hs0_2 t) (ms0_5 t) (hs0_5 t) x2 x5 = dtOf (ld2 t x2) (ld5 t x5) := rfl

/-- The point's tiles, the running sums and the steps under their generated names. -/
abbrev namedA : Tiles F := { loaded t x0 x1 x2 x3 x4 x5 x6 (fun _ _ => zeroH) with
    cs := kernelRun0_A.sl.v40 c (ms0_2 t) (hs0_2 t) (ms0_5 t) (hs0_5 t) (ms0_6 t) (hs0_6 t) x2 x5 x6
    dt := kernelRun0_A.sl.v17 c (ms0_2 t) (hs0_2 t) (ms0_5 t) (hs0_5 t) x2 x5 }

theorem namedA_eq : namedA t x0 x1 x2 x3 x4 x5 x6 c = loaded t x0 x1 x2 x3 x4 x5 x6 (fun _ _ => zeroH) := by
  unfold namedA
  rw [sums_A, steps_A]
  rfl

set_option maxHeartbeats 2000000 in
theorem stores_A_0 (h0 : t.val % 128 = 0) :
    (outA t x0 x1 x2 x3 x4 x5 x6 c h0)[21]? = some (pieceC (namedA t x0 x1 x2 x3 x4 x5 x6 c) 0 (by decide)) ∧
    (outA t x0 x1 x2 x3 x4 x5 x6 c h0)[22]? = some (pieceB (namedA t x0 x1 x2 x3 x4 x5 x6 c) 0 (by decide) (kernelRun0_A.sl.v66 c scM0_0)) ∧
    (outA t x0 x1 x2 x3 x4 x5 x6 c h0)[23]? = some (pieceX (namedA t x0 x1 x2 x3 x4 x5 x6 c) 0 (by decide) (kernelRun0_A.sl.v66 c scM0_0)) :=
  ⟨rfl, rfl, rfl⟩

set_option maxHeartbeats 2000000 in
theorem stores_A_1 (h0 : t.val % 128 = 0) :
    (outA t x0 x1 x2 x3 x4 x5 x6 c h0)[18]? = some (pieceC (namedA t x0 x1 x2 x3 x4 x5 x6 c) 1 (by decide)) ∧
    (outA t x0 x1 x2 x3 x4 x5 x6 c h0)[19]? = some (pieceB (namedA t x0 x1 x2 x3 x4 x5 x6 c) 1 (by decide) (kernelRun0_A.sl.v68 c scM0_0)) ∧
    (outA t x0 x1 x2 x3 x4 x5 x6 c h0)[20]? = some (pieceX (namedA t x0 x1 x2 x3 x4 x5 x6 c) 1 (by decide) (kernelRun0_A.sl.v68 c scM0_0)) :=
  ⟨rfl, rfl, rfl⟩

set_option maxHeartbeats 2000000 in
theorem stores_A_2 (h0 : t.val % 128 = 0) :
    (outA t x0 x1 x2 x3 x4 x5 x6 c h0)[15]? = some (pieceC (namedA t x0 x1 x2 x3 x4 x5 x6 c) 2 (by decide)) ∧
    (outA t x0 x1 x2 x3 x4 x5 x6 c h0)[16]? = some (pieceB (namedA t x0 x1 x2 x3 x4 x5 x6 c) 2 (by decide) (kernelRun0_A.sl.v796 c (ms0_1 t) (hs0_1 t) (ms0_2 t) (hs0_2 t) (ms0_3 t) (hs0_3 t) (ms0_5 t) (hs0_5 t) (ms0_6 t) (hs0_6 t) scM0_0 x1 x2 x3 x5 x6)) ∧
    (outA t x0 x1 x2 x3 x4 x5 x6 c h0)[17]? = some (pieceX (namedA t x0 x1 x2 x3 x4 x5 x6 c) 2 (by decide) (kernelRun0_A.sl.v796 c (ms0_1 t) (hs0_1 t) (ms0_2 t) (hs0_2 t) (ms0_3 t) (hs0_3 t) (ms0_5 t) (hs0_5 t) (ms0_6 t) (hs0_6 t) scM0_0 x1 x2 x3 x5 x6)) :=
  ⟨rfl, rfl, rfl⟩

set_option maxHeartbeats 2000000 in
theorem stores_A_3 (h0 : t.val % 128 = 0) :
    (outA t x0 x1 x2 x3 x4 x5 x6 c h0)[12]? = some (pieceC (namedA t x0 x1 x2 x3 x4 x5 x6 c) 3 (by decide)) ∧
    (outA t x0 x1 x2 x3 x4 x5 x6 c h0)[13]? = some (pieceB (namedA t x0 x1 x2 x3 x4 x5 x6 c) 3 (by decide) (kernelRun0_A.sl.v798 c (ms0_1 t) (hs0_1 t) (ms0_2 t) (hs0_2 t) (ms0_3 t) (hs0_3 t) (ms0_5 t) (hs0_5 t) (ms0_6 t) (hs0_6 t) scM0_0 x1 x2 x3 x5 x6)) ∧
    (outA t x0 x1 x2 x3 x4 x5 x6 c h0)[14]? = some (pieceX (namedA t x0 x1 x2 x3 x4 x5 x6 c) 3 (by decide) (kernelRun0_A.sl.v798 c (ms0_1 t) (hs0_1 t) (ms0_2 t) (hs0_2 t) (ms0_3 t) (hs0_3 t) (ms0_5 t) (hs0_5 t) (ms0_6 t) (hs0_6 t) scM0_0 x1 x2 x3 x5 x6)) :=
  ⟨rfl, rfl, rfl⟩

set_option maxHeartbeats 2000000 in
theorem stores_A_4 (h0 : t.val % 128 = 0) :
    (outA t x0 x1 x2 x3 x4 x5 x6 c h0)[9]? = some (pieceC (namedA t x0 x1 x2 x3 x4 x5 x6 c) 4 (by decide)) ∧
    (outA t x0 x1 x2 x3 x4 x5 x6 c h0)[10]? = some (pieceB (namedA t x0 x1 x2 x3 x4 x5 x6 c) 4 (by decide) (kernelRun0_A.sl.v1526 c (ms0_1 t) (hs0_1 t) (ms0_2 t) (hs0_2 t) (ms0_3 t) (hs0_3 t) (ms0_5 t) (hs0_5 t) (ms0_6 t) (hs0_6 t) scM0_0 x1 x2 x3 x5 x6)) ∧
    (outA t x0 x1 x2 x3 x4 x5 x6 c h0)[11]? = some (pieceX (namedA t x0 x1 x2 x3 x4 x5 x6 c) 4 (by decide) (kernelRun0_A.sl.v1526 c (ms0_1 t) (hs0_1 t) (ms0_2 t) (hs0_2 t) (ms0_3 t) (hs0_3 t) (ms0_5 t) (hs0_5 t) (ms0_6 t) (hs0_6 t) scM0_0 x1 x2 x3 x5 x6)) :=
  ⟨rfl, rfl, rfl⟩

set_option maxHeartbeats 2000000 in
theorem stores_A_5 (h0 : t.val % 128 = 0) :
    (outA t x0 x1 x2 x3 x4 x5 x6 c h0)[6]? = some (pieceC (namedA t x0 x1 x2 x3 x4 x5 x6 c) 5 (by decide)) ∧
    (outA t x0 x1 x2 x3 x4 x5 x6 c h0)[7]? = some (pieceB (namedA t x0 x1 x2 x3 x4 x5 x6 c) 5 (by decide) (kernelRun0_A.sl.v1528 c (ms0_1 t) (hs0_1 t) (ms0_2 t) (hs0_2 t) (ms0_3 t) (hs0_3 t) (ms0_5 t) (hs0_5 t) (ms0_6 t) (hs0_6 t) scM0_0 x1 x2 x3 x5 x6)) ∧
    (outA t x0 x1 x2 x3 x4 x5 x6 c h0)[8]? = some (pieceX (namedA t x0 x1 x2 x3 x4 x5 x6 c) 5 (by decide) (kernelRun0_A.sl.v1528 c (ms0_1 t) (hs0_1 t) (ms0_2 t) (hs0_2 t) (ms0_3 t) (hs0_3 t) (ms0_5 t) (hs0_5 t) (ms0_6 t) (hs0_6 t) scM0_0 x1 x2 x3 x5 x6)) :=
  ⟨rfl, rfl, rfl⟩

set_option maxHeartbeats 2000000 in
theorem stores_A_6 (h0 : t.val % 128 = 0) :
    (outA t x0 x1 x2 x3 x4 x5 x6 c h0)[3]? = some (pieceC (namedA t x0 x1 x2 x3 x4 x5 x6 c) 6 (by decide)) ∧
    (outA t x0 x1 x2 x3 x4 x5 x6 c h0)[4]? = some (pieceB (namedA t x0 x1 x2 x3 x4 x5 x6 c) 6 (by decide) (kernelRun0_A.sl.v2256 c (ms0_1 t) (hs0_1 t) (ms0_2 t) (hs0_2 t) (ms0_3 t) (hs0_3 t) (ms0_5 t) (hs0_5 t) (ms0_6 t) (hs0_6 t) scM0_0 x1 x2 x3 x5 x6)) ∧
    (outA t x0 x1 x2 x3 x4 x5 x6 c h0)[5]? = some (pieceX (namedA t x0 x1 x2 x3 x4 x5 x6 c) 6 (by decide) (kernelRun0_A.sl.v2256 c (ms0_1 t) (hs0_1 t) (ms0_2 t) (hs0_2 t) (ms0_3 t) (hs0_3 t) (ms0_5 t) (hs0_5 t) (ms0_6 t) (hs0_6 t) scM0_0 x1 x2 x3 x5 x6)) :=
  ⟨rfl, rfl, rfl⟩

set_option maxHeartbeats 2000000 in
theorem stores_A_7 (h0 : t.val % 128 = 0) :
    (outA t x0 x1 x2 x3 x4 x5 x6 c h0)[0]? = some (pieceC (namedA t x0 x1 x2 x3 x4 x5 x6 c) 7 (by decide)) ∧
    (outA t x0 x1 x2 x3 x4 x5 x6 c h0)[1]? = some (pieceB (namedA t x0 x1 x2 x3 x4 x5 x6 c) 7 (by decide) (kernelRun0_A.sl.v2258 c (ms0_1 t) (hs0_1 t) (ms0_2 t) (hs0_2 t) (ms0_3 t) (hs0_3 t) (ms0_5 t) (hs0_5 t) (ms0_6 t) (hs0_6 t) scM0_0 x1 x2 x3 x5 x6)) ∧
    (outA t x0 x1 x2 x3 x4 x5 x6 c h0)[2]? = some (pieceX (namedA t x0 x1 x2 x3 x4 x5 x6 c) 7 (by decide) (kernelRun0_A.sl.v2258 c (ms0_1 t) (hs0_1 t) (ms0_2 t) (hs0_2 t) (ms0_3 t) (hs0_3 t) (ms0_5 t) (hs0_5 t) (ms0_6 t) (hs0_6 t) scM0_0 x1 x2 x3 x5 x6)) :=
  ⟨rfl, rfl, rfl⟩

set_option maxHeartbeats 2000000 in
/-- The stores into the gradient block at a run's first point are those of the groups, from a state's gradient of zeros. -/
theorem stores_A (h0 : t.val % 128 = 0) :
    (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) x0 x1 x2 x3 x4 x5 x6).1
      = stores (loaded t x0 x1 x2 x3 x4 x5 x6 (fun _ _ => zeroH)) 8 le_rfl := by
  refine List.ext_getElem? fun i => ?_
  match i with
  | 0 => exact (stores_A_7 t x0 x1 x2 x3 x4 x5 x6 c h0).1.trans (congrArg (fun T => some (pieceC T 7 (by decide))) (namedA_eq t x0 x1 x2 x3 x4 x5 x6 c))
  | 1 => exact (stores_A_7 t x0 x1 x2 x3 x4 x5 x6 c h0).2.1.trans (congrArg₂ (fun T d => some (pieceB T 7 (by decide) d)) (namedA_eq t x0 x1 x2 x3 x4 x5 x6 c) (read_7 t x1 x2 x3 x5 x6 c))
  | 2 => exact (stores_A_7 t x0 x1 x2 x3 x4 x5 x6 c h0).2.2.trans (congrArg₂ (fun T d => some (pieceX T 7 (by decide) d)) (namedA_eq t x0 x1 x2 x3 x4 x5 x6 c) (read_7 t x1 x2 x3 x5 x6 c))
  | 3 => exact (stores_A_6 t x0 x1 x2 x3 x4 x5 x6 c h0).1.trans (congrArg (fun T => some (pieceC T 6 (by decide))) (namedA_eq t x0 x1 x2 x3 x4 x5 x6 c))
  | 4 => exact (stores_A_6 t x0 x1 x2 x3 x4 x5 x6 c h0).2.1.trans (congrArg₂ (fun T d => some (pieceB T 6 (by decide) d)) (namedA_eq t x0 x1 x2 x3 x4 x5 x6 c) (read_6 t x1 x2 x3 x5 x6 c))
  | 5 => exact (stores_A_6 t x0 x1 x2 x3 x4 x5 x6 c h0).2.2.trans (congrArg₂ (fun T d => some (pieceX T 6 (by decide) d)) (namedA_eq t x0 x1 x2 x3 x4 x5 x6 c) (read_6 t x1 x2 x3 x5 x6 c))
  | 6 => exact (stores_A_5 t x0 x1 x2 x3 x4 x5 x6 c h0).1.trans (congrArg (fun T => some (pieceC T 5 (by decide))) (namedA_eq t x0 x1 x2 x3 x4 x5 x6 c))
  | 7 => exact (stores_A_5 t x0 x1 x2 x3 x4 x5 x6 c h0).2.1.trans (congrArg₂ (fun T d => some (pieceB T 5 (by decide) d)) (namedA_eq t x0 x1 x2 x3 x4 x5 x6 c) (read_5 t x1 x2 x3 x5 x6 c))
  | 8 => exact (stores_A_5 t x0 x1 x2 x3 x4 x5 x6 c h0).2.2.trans (congrArg₂ (fun T d => some (pieceX T 5 (by decide) d)) (namedA_eq t x0 x1 x2 x3 x4 x5 x6 c) (read_5 t x1 x2 x3 x5 x6 c))
  | 9 => exact (stores_A_4 t x0 x1 x2 x3 x4 x5 x6 c h0).1.trans (congrArg (fun T => some (pieceC T 4 (by decide))) (namedA_eq t x0 x1 x2 x3 x4 x5 x6 c))
  | 10 => exact (stores_A_4 t x0 x1 x2 x3 x4 x5 x6 c h0).2.1.trans (congrArg₂ (fun T d => some (pieceB T 4 (by decide) d)) (namedA_eq t x0 x1 x2 x3 x4 x5 x6 c) (read_4 t x1 x2 x3 x5 x6 c))
  | 11 => exact (stores_A_4 t x0 x1 x2 x3 x4 x5 x6 c h0).2.2.trans (congrArg₂ (fun T d => some (pieceX T 4 (by decide) d)) (namedA_eq t x0 x1 x2 x3 x4 x5 x6 c) (read_4 t x1 x2 x3 x5 x6 c))
  | 12 => exact (stores_A_3 t x0 x1 x2 x3 x4 x5 x6 c h0).1.trans (congrArg (fun T => some (pieceC T 3 (by decide))) (namedA_eq t x0 x1 x2 x3 x4 x5 x6 c))
  | 13 => exact (stores_A_3 t x0 x1 x2 x3 x4 x5 x6 c h0).2.1.trans (congrArg₂ (fun T d => some (pieceB T 3 (by decide) d)) (namedA_eq t x0 x1 x2 x3 x4 x5 x6 c) (read_3 t x1 x2 x3 x5 x6 c))
  | 14 => exact (stores_A_3 t x0 x1 x2 x3 x4 x5 x6 c h0).2.2.trans (congrArg₂ (fun T d => some (pieceX T 3 (by decide) d)) (namedA_eq t x0 x1 x2 x3 x4 x5 x6 c) (read_3 t x1 x2 x3 x5 x6 c))
  | 15 => exact (stores_A_2 t x0 x1 x2 x3 x4 x5 x6 c h0).1.trans (congrArg (fun T => some (pieceC T 2 (by decide))) (namedA_eq t x0 x1 x2 x3 x4 x5 x6 c))
  | 16 => exact (stores_A_2 t x0 x1 x2 x3 x4 x5 x6 c h0).2.1.trans (congrArg₂ (fun T d => some (pieceB T 2 (by decide) d)) (namedA_eq t x0 x1 x2 x3 x4 x5 x6 c) (read_2 t x1 x2 x3 x5 x6 c))
  | 17 => exact (stores_A_2 t x0 x1 x2 x3 x4 x5 x6 c h0).2.2.trans (congrArg₂ (fun T d => some (pieceX T 2 (by decide) d)) (namedA_eq t x0 x1 x2 x3 x4 x5 x6 c) (read_2 t x1 x2 x3 x5 x6 c))
  | 18 => exact (stores_A_1 t x0 x1 x2 x3 x4 x5 x6 c h0).1.trans (congrArg (fun T => some (pieceC T 1 (by decide))) (namedA_eq t x0 x1 x2 x3 x4 x5 x6 c))
  | 19 => exact (stores_A_1 t x0 x1 x2 x3 x4 x5 x6 c h0).2.1.trans (congrArg₂ (fun T d => some (pieceB T 1 (by decide) d)) (namedA_eq t x0 x1 x2 x3 x4 x5 x6 c) (read_1 t x1 x2 x3 x5 x6 c))
  | 20 => exact (stores_A_1 t x0 x1 x2 x3 x4 x5 x6 c h0).2.2.trans (congrArg₂ (fun T d => some (pieceX T 1 (by decide) d)) (namedA_eq t x0 x1 x2 x3 x4 x5 x6 c) (read_1 t x1 x2 x3 x5 x6 c))
  | 21 => exact (stores_A_0 t x0 x1 x2 x3 x4 x5 x6 c h0).1.trans (congrArg (fun T => some (pieceC T 0 (by decide))) (namedA_eq t x0 x1 x2 x3 x4 x5 x6 c))
  | 22 => exact (stores_A_0 t x0 x1 x2 x3 x4 x5 x6 c h0).2.1.trans (congrArg₂ (fun T d => some (pieceB T 0 (by decide) d)) (namedA_eq t x0 x1 x2 x3 x4 x5 x6 c) (read_0 t x1 x2 x3 x5 x6 c))
  | 23 => exact (stores_A_0 t x0 x1 x2 x3 x4 x5 x6 c h0).2.2.trans (congrArg₂ (fun T d => some (pieceX T 0 (by decide) d)) (namedA_eq t x0 x1 x2 x3 x4 x5 x6 c) (read_0 t x1 x2 x3 x5 x6 c))
  | n + 24 => exact (List.getElem?_eq_none (by show 24 ≤ n + 24; omega)).trans (List.getElem?_eq_none (by show 24 ≤ n + 24; omega)).symm

end Cert.KernelIdeal.Ssd
-- ==== Proof.StoresB.lean ====
/- The stores of a later grid point into its gradient block, as one list built group by group. -/
module

public import proofs.«01_k».proof.Proof.Tiles

@[expose] public section

set_option maxRecDepth 16384

noncomputable section

namespace Cert.KernelIdeal.Ssd

open Cert.KernelIdeal Cert.KernelIdeal.Gen Idealize.ShloMosaic

variable {F : FTy → Type} [FloatOps F] [Named F]

variable (t : Fin cfg0.N) (x0 : Vec F S2048x128 .f32) (x1 : Vec F S128x2048 .f32) (x2 : Vec F S128x128 .f32) (x3 : Vec F S2048x128 .f32)
  (x4 : Vec F S1x8x256x128 .f32) (x5 x6 : Vec F S128x128 .f32)

/-- The generated running sums and steps are those of the blocks. -/
theorem sums_B (c : Dev nD) : kernelRun0_B.sl.v40 (F := F) c (ms0_2 t) (hs0_2 t) (ms0_5 t) (hs0_5 t) (ms0_6 t) (hs0_6 t) x2 x5 x6 = csOf (aOf (ld2 t x2) (ld5 t x5) (ld6 t x6)) := rfl
theorem steps_B (c : Dev nD) : kernelRun0_B.sl.v17 (F := F) c (ms0_2 t) (hs0_2 t) (ms0_5 t) (hs0_5 t) x2 x5 = dtOf (ld2 t x2) (ld5 t x5) := rfl

set_option maxHeartbeats 2000000 in
/-- The stores into the gradient block at a point after a run's first. -/
theorem stores_B (c : Dev nD) (h0 : ¬t.val % 128 = 0) (xo9 : Vec F S128x128 .f32) (xs0 : Vec F S8x256x128 .f32) (xs1 xs2 xs3 xs4 : Vec F S128x128 .f32) :
    (kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) x0 x1 x2 x3 x4 x5 x6 xo9 xs0 xs1 xs2 xs3 xs4).1
      = stores (loaded t x0 x1 x2 x3 x4 x5 x6 (dhB xs0)) 8 le_rfl := by
  have e : loaded t x0 x1 x2 x3 x4 x5 x6 (dhB xs0) = { loaded t x0 x1 x2 x3 x4 x5 x6 (dhB xs0) with
      cs := kernelRun0_B.sl.v40 c (ms0_2 t) (hs0_2 t) (ms0_5 t) (hs0_5 t) (ms0_6 t) (hs0_6 t) x2 x5 x6
      dt := kernelRun0_B.sl.v17 c (ms0_2 t) (hs0_2 t) (ms0_5 t) (hs0_5 t) x2 x5 } := by
    rw [sums_B, steps_B]; rfl
  rw [e]
  rfl

end Cert.KernelIdeal.Ssd
-- ==== Proof.StoresHB.lean ====
/- The stores of a later grid point into the scratch that carries the state's gradient. -/
module

public import proofs.«01_k».proof.Proof.Tiles

@[expose] public section

set_option maxRecDepth 16384

noncomputable section

namespace Cert.KernelIdeal.Ssd

open Cert.KernelIdeal Cert.KernelIdeal.Gen Idealize.ShloMosaic

variable {F : FTy → Type} [FloatOps F] [Named F]

variable (t : Fin cfg0.N) (x0 : Vec F S2048x128 .f32) (x1 : Vec F S128x2048 .f32) (x2 : Vec F S128x128 .f32) (x3 : Vec F S2048x128 .f32)
  (x4 : Vec F S1x8x256x128 .f32) (x5 x6 : Vec F S128x128 .f32)

set_option maxHeartbeats 2000000 in
/-- The stores into the carried scratch at a point after a run's first. -/
theorem storesH_B (c : Dev nD) (h0 : ¬t.val % 128 = 0) (xo9 : Vec F S128x128 .f32) (xs0 : Vec F S8x256x128 .f32) (xs1 xs2 xs3 xs4 : Vec F S128x128 .f32) :
    (kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) x0 x1 x2 x3 x4 x5 x6 xo9 xs0 xs1 xs2 xs3 xs4).2.2.2.1
      = storesH (loaded t x0 x1 x2 x3 x4 x5 x6 (dhB xs0)) [] 8 le_rfl := rfl

end Cert.KernelIdeal.Ssd
-- ==== Proof.Readings.lean ====
/- The tiles a grid point computes, read entry by entry over the ideal numbers. -/
module

public import proofs.«01_k».proof.Proof.Tiles
public import Idealize.ShloMosaic.Lib.Pointwise

@[expose] public section

set_option maxRecDepth 16384

noncomputable section

namespace Cert.KernelIdeal.Ssd

open Cert.KernelIdeal Cert.KernelIdeal.Gen Idealize.ShloMosaic

theorem head_apply (x : FVec Ideal S256x128 .f32) (r : ℕ) (hr : r < 4) (p : Fin 64) (l : Fin 128) :
    head x r hr (ix2 p l) = x (ix2 ⟨64 * r + p.val, by omega⟩ l) := by
  pointwise [head]

theorem rowUp_apply (x : FVec Ideal S128x128 .f32) (h : ℕ) (hh : h < 128) (p : Fin 64) (l : Fin 128) :
    rowUp x h hh (ix2 p l) = x (ix2 ⟨h, hh⟩ l) := by
  pointwise [rowUp]

theorem heads_apply (f : (r : ℕ) → r < 4 → FVec Ideal S64x128 .f32) (q : Fin 256) (l : Fin 128) :
    heads f (ix2 q l) = f (q.val / 64) (by omega) (ix2 ⟨q.val % 64, by omega⟩ l) := by
  pointwise [heads, stack]
  have key : ∀ (r p : ℕ) (hr : r < 4) (hp : p < 64), r = q.val / 64 → p = q.val % 64 →
      f r hr (ix2 ⟨p, hp⟩ l) = f (q.val / 64) (by omega) (ix2 ⟨q.val % 64, by omega⟩ l) := by
    intro r p hr hp h1 h2; subst h1; subst h2; rfl
  split
  · exact key _ _ _ _ (by omega) (by omega)
  · split
    · exact key _ _ _ _ (by omega) (by omega)
    · split
      · exact key _ _ _ _ (by omega) (by omega)
      · exact key _ _ _ _ (by omega) (by omega)

/-- A choice by the comparison of two positions is a choice by their order. -/
theorem select_le {α : Type} (l s : Fin 128) (a b : α) :
    Scalar.select (IntOp.cmpi CmpIPredicate.sge (BitVec.ofNat 32 ↑l) (BitVec.ofNat 32 ↑s)) a b = if s ≤ l then a else b := by
  have h : IntOp.cmpi CmpIPredicate.sge (BitVec.ofNat 32 ↑l) (BitVec.ofNat 32 ↑s) = 1#1 ↔ s ≤ l := by
    rw [Fin.le_def]; word_cmp
  by_cases hs : s ≤ l
  · rw [if_pos hs, h.mpr hs]; rfl
  · rw [if_neg hs]
    have : IntOp.cmpi CmpIPredicate.sge (BitVec.ofNat 32 ↑l) (BitVec.ofNat 32 ↑s) ≠ 1#1 := fun h' => hs (h.mp h')
    simp [Scalar.select, this]

theorem decayTile_apply (cs : FVec Ideal S128x128 .f32) (h : ℕ) (hh : h < 128) (l s : Fin 128) :
    decayTile cs h hh (ix2 l s) = Ideal.exp (if s ≤ l then cs (ix2 ⟨h, hh⟩ l) - cs (ix2 ⟨h, hh⟩ s) else ⊥) := by
  pointwise [decayTile]
  rw [select_le]; rfl

theorem lastUp_apply (cs : FVec Ideal S128x128 .f32) (h l : Fin 128) : lastUp cs (ix2 h l) = cs (ix2 h 127) := by
  pointwise [lastUp]

theorem upper_apply (k l : Fin 128) : upper (F := Ideal) (ix2 k l) = if k ≤ l then 1 else 0 := by
  pointwise [upper]
  have h : IntOp.cmpi CmpIPredicate.sle (BitVec.ofNat 32 ↑k) (BitVec.ofNat 32 ↑l) = if k ≤ l then 1#1 else 0#1 := by
    split
    · rename_i h; rw [Fin.le_def] at h; word_cmp
    · rename_i h; rw [Fin.le_def] at h; word_cmp
  rw [h]
  show ((((BitVec.setWidth 32 _).toInt : ℤ) : ℝ) : EReal) = _
  split <;> simp

/-- Three parts of a number that is not `⊤` sum to it. -/
theorem split3 (a : EReal) (h : a ≠ ⊤) : a + (a - a) + (a - a - (a - a)) = a := by
  induction a with
  | bot => rfl
  | top => exact absurd rfl h
  | coe r => rw [← EReal.coe_sub, ← EReal.coe_sub, ← EReal.coe_add, ← EReal.coe_add]; simp

/-- The running sums, as sums. -/
theorem csOf_apply (a : FVec Ideal S128x128 .f32) (h l : Fin 128) (ha : ∀ k, a (ix2 h k) ≠ ⊤) :
    csOf a (ix2 h l) = ∑ k : Fin 128, if k ≤ l then a (ix2 h k) else 0 := by
  pointwise [csOf]
  rw [← Finset.sum_add_distrib, ← Finset.sum_add_distrib]
  refine Finset.sum_congr rfl fun k _ => ?_
  rw [upper_apply]
  split
  · rw [mul_one, mul_one, mul_one, split3 _ (ha k)]
  · rw [mul_zero, mul_zero, mul_zero, add_zero, add_zero]

/-- The softplus of a number. -/
def softplus (z : EReal) : EReal := max z 0 + Ideal.log1p (Ideal.exp (-(max z (-z))))

theorem dtOf_apply (x2 x5 : FVec Ideal S128x128 .f32) (h l : Fin 128) :
    dtOf x2 x5 (ix2 h l) = softplus (x2 (ix2 l h) + x5 (ix2 h l)) := by
  pointwise [dtOf, softplus]
  rw [zero_sub]; rfl

theorem aOf_apply (x2 x5 x6 : FVec Ideal S128x128 .f32) (h l : Fin 128) :
    aOf x2 x5 x6 (ix2 h l) = dtOf x2 x5 (ix2 h l) * -Ideal.exp (x6 (ix2 h l)) := by
  pointwise [aOf]
  rw [zero_sub]

/-- A row of a group, from its head and its place in the head. -/
theorem whole (q : Fin 256) (h : 64 * (q.val / 64) + q.val % 64 < 256) : (⟨64 * (q.val / 64) + q.val % 64, h⟩ : Fin 256) = q :=
  Fin.ext (Nat.div_add_mod q.val 64)

/-! ## The group's tiles, entry by entry -/

section group
variable (g : ℕ) (hg : g < 8) (cs dt : FVec Ideal S128x128 .f32) (x dy : FVec Ideal S256x128 .f32) (b cc : FVec Ideal S128x128 .f32)
  (st : FVec Ideal S1x1x256x128 .f32) (dh : FVec Ideal S1x256x128 .f32)

/-- The table's row of a group's head. -/
def row (g : ℕ) (hg : g < 8) (r : ℕ) (hr : r < 4) : Fin 128 := ⟨4 * g + r, rowLt g hg r hr⟩

/-- The decay between two positions of a chunk in head `h`. -/
def decay (cs : FVec Ideal S128x128 .f32) (h l s : Fin 128) : EReal := Ideal.exp (if s ≤ l then cs (ix2 h l) - cs (ix2 h s) else ⊥)

theorem toEnd_apply (h l : Fin 128) : toEnd cs (ix2 h l) = Ideal.exp (cs (ix2 h 127) - cs (ix2 h l)) := by
  pointwise [toEnd]
  rw [lastUp_apply]

theorem dyOut_apply (q : Fin 256) (l : Fin 128) : dyOut g hg cs dy (ix2 q l) =
    dy (ix2 q l) * Ideal.exp (cs (ix2 (row g hg (q.val / 64) (by omega)) l)) := by
  pointwise [dyOut, heads_apply, head_apply, rowUp_apply]
  rw [whole]; rfl

theorem xIn_apply (q : Fin 256) (l : Fin 128) : xIn g hg cs dt x (ix2 q l) =
    x (ix2 q l) * (toEnd cs (ix2 (row g hg (q.val / 64) (by omega)) l) * dt (ix2 (row g hg (q.val / 64) (by omega)) l)) := by
  pointwise [xIn, heads_apply, head_apply, rowUp_apply]
  rw [whole]; rfl

theorem dcbHead_apply (r : ℕ) (hr : r < 4) (l s : Fin 128) : dcbHead g hg cs dt x dy r hr (ix2 l s) =
    (∑ p : Fin 64, dy (ix2 ⟨64 * r + p.val, by omega⟩ l) * x (ix2 ⟨64 * r + p.val, by omega⟩ s)) *
      (decay cs (row g hg r hr) l s * dt (ix2 (row g hg r hr) s)) := by
  pointwise [dcbHead, head_apply, decayTile_apply]
  rfl

theorem dcb_apply (l s : Fin 128) : dcb g hg cs dt x dy (ix2 l s) =
    ∑ r : Fin 4, (∑ p : Fin 64, dy (ix2 ⟨64 * r.val + p.val, by omega⟩ l) * x (ix2 ⟨64 * r.val + p.val, by omega⟩ s)) *
      (decay cs (row g hg r.val r.isLt) l s * dt (ix2 (row g hg r.val r.isLt) s)) := by
  pointwise [dcb]
  rw [dcbHead_apply, dcbHead_apply, dcbHead_apply, dcbHead_apply, Fin.sum_univ_four]
  rfl

theorem gradC_apply (l n : Fin 128) : gradC g hg cs dt x dy b st (ix2 l n) =
    ∑ s : Fin 128, dcb g hg cs dt x dy (ix2 l s) * b (ix2 s n) + ∑ q : Fin 256, dyOut g hg cs dy (ix2 q l) * st (ix4 0 0 q n) := by
  pointwise [gradC]

theorem gradB_apply (s n : Fin 128) : gradB g hg cs dt x dy cc dh (ix2 s n) =
    ∑ l : Fin 128, dcb g hg cs dt x dy (ix2 l s) * cc (ix2 l n) + ∑ q : Fin 256, xIn g hg cs dt x (ix2 q s) * dh (ix3 0 q n) := by
  pointwise [gradB]

theorem gradXHead_apply (r : ℕ) (hr : r < 4) (p : Fin 64) (s : Fin 128) : gradXHead g hg cs dt dy b cc dh r hr (ix2 p s) =
    (∑ l : Fin 128, dy (ix2 ⟨64 * r + p.val, by omega⟩ l) * ((∑ n : Fin 128, cc (ix2 l n) * b (ix2 s n)) * decay cs (row g hg r hr) l s) +
      (∑ n : Fin 128, dh (ix3 0 ⟨64 * r + p.val, by omega⟩ n) * b (ix2 s n)) * toEnd cs (ix2 (row g hg r hr) s)) * dt (ix2 (row g hg r hr) s) := by
  pointwise [gradXHead, head_apply, rowUp_apply, decayTile_apply]
  rfl

theorem gradX_apply (q : Fin 256) (s : Fin 128) : gradX g hg cs dt dy b cc dh (ix2 s q) =
    (∑ l : Fin 128, dy (ix2 q l) * ((∑ n : Fin 128, cc (ix2 l n) * b (ix2 s n)) * decay cs (row g hg (q.val / 64) (by omega)) l s) +
      (∑ n : Fin 128, dh (ix3 0 q n) * b (ix2 s n)) * toEnd cs (ix2 (row g hg (q.val / 64) (by omega)) s)) *
      dt (ix2 (row g hg (q.val / 64) (by omega)) s) := by
  pointwise [gradX, heads_apply]
  rw [gradXHead_apply]
  simp only [whole]

theorem gradH_apply (q : Fin 256) (n : Fin 128) : gradH g hg cs dy cc dh (ix3 0 q n) =
    dh (ix3 0 q n) * Ideal.exp (cs (ix2 (row g hg (q.val / 64) (by omega)) 127)) + ∑ l : Fin 128, dyOut g hg cs dy (ix2 q l) * cc (ix2 l n) := by
  pointwise [gradH, heads_apply]
  rw [lastUp_apply]; rfl

end group

end Cert.KernelIdeal.Ssd
-- ==== Proof.Spec.lean ====
/- The gradient of the chunked scan, as formulas over entries. -/
module

public import Idealize.ShloMosaic.Lib.Pointwise

@[expose] public section

noncomputable section

namespace Cert.Ssd

open Idealize.ShloMosaic

/-! ## What both programs compute

The gradients of one layer's scan in plain formulas over extended reals.  `x` and `dy` are read by channel and token, `bc` (`B` in
the first 1024 columns, `C` in the others) and `raw` (the steps before their softplus) by token and column. -/

/-- A chunk's token. -/
def tok (c l : Fin 128) : Fin 16384 := ⟨c.val * 128 + l.val, by omega⟩

/-- A channel's head. -/
def hd (j : Fin 2048) : Fin 32 := ⟨j.val / 64, by omega⟩

/-- A group's channel. -/
def chan (g : Fin 8) (q : Fin 256) : Fin 2048 := ⟨g.val * 256 + q.val, by omega⟩

/-- A head's place in its group, and one of its channels. -/
def chanAt (r : Fin 4) (p : Fin 64) : Fin 256 := ⟨r.val * 64 + p.val, by omega⟩

/-- A group's head. -/
def hdAt (g : Fin 8) (r : Fin 4) : Fin 32 := ⟨g.val * 4 + r.val, by omega⟩

/-- The columns of a group's `B` and of its `C`. -/
def colB (g : Fin 8) (n : Fin 128) : Fin 2048 := ⟨g.val * 128 + n.val, by omega⟩
def colC (g : Fin 8) (n : Fin 128) : Fin 2048 := ⟨1024 + (g.val * 128 + n.val), by omega⟩

/-- A channel's group. -/
def grp (j : Fin 2048) : Fin 8 := ⟨j.val / 256, by omega⟩

/-! ### Numbers put together and taken apart -/

theorem tok_self (s : Fin 16384) (h : s.val / 128 < 128) (h' : s.val % 128 < 128) : tok ⟨s.val / 128, h⟩ ⟨s.val % 128, h'⟩ = s :=
  Fin.ext (by simp only [tok]; omega)

theorem hd_chan (g : Fin 8) (r : Fin 4) (p : Fin 64) : hd (chan g (chanAt r p)) = hdAt g r :=
  Fin.ext (by simp only [hd, chan, chanAt, hdAt]; omega)

theorem grp_chan (g : Fin 8) (q : Fin 256) : grp (chan g q) = g := Fin.ext (by simp only [grp, chan]; omega)

/-- A sum over a group's channels is a sum over its heads and their channels. -/
theorem sum_chanAt (f : Fin 256 → EReal) : ∑ q : Fin 256, f q = ∑ r : Fin 4, ∑ p : Fin 64, f (chanAt r p) := by
  rw [← Fintype.sum_prod_type', ← Equiv.sum_comp (finProdFinEquiv (m := 4) (n := 64))]
  exact Finset.sum_congr rfl fun x _ => congrArg f (Fin.ext (by simp only [finProdFinEquiv, chanAt, Equiv.coe_fn_mk]; omega))

/-- The softplus of a number. -/
def softplus (z : EReal) : EReal := max z 0 + Ideal.log1p (Ideal.exp (-(max z (-z))))

section
variable (x : Fin 2048 → Fin 16384 → EReal) (bc : Fin 16384 → Fin 2048 → EReal) (raw : Fin 16384 → Fin 32 → EReal)
  (dy : Fin 2048 → Fin 16384 → EReal) (st : Fin 128 → Fin 8 → Fin 256 → Fin 128 → EReal) (db al : Fin 32 → EReal)

/-- A token's step in head `h`. -/
def step (s : Fin 16384) (h : Fin 32) : EReal := softplus (raw s h + db h)

/-- The running sum of a chunk's logarithmic decays up to position `l`. -/
def sums (c : Fin 128) (h : Fin 32) (l : Fin 128) : EReal :=
  ∑ k : Fin 128, if k ≤ l then step raw db (tok c k) h * -Ideal.exp (al h) else 0

/-- The decay from position `s` of a chunk up to position `l`; nothing when `s` comes later. -/
def decay (c : Fin 128) (h : Fin 32) (l s : Fin 128) : EReal :=
  Ideal.exp (if s ≤ l then sums raw db al c h l - sums raw db al c h s else ⊥)

/-- The decay from a position to the end of its chunk. -/
def toEnd (c : Fin 128) (h : Fin 32) (l : Fin 128) : EReal := Ideal.exp (sums raw db al c h 127 - sums raw db al c h l)

/-- A cotangent times its decay from the chunk's start. -/
def dyOut (c : Fin 128) (j : Fin 2048) (l : Fin 128) : EReal := dy j (tok c l) * Ideal.exp (sums raw db al c (hd j) l)

/-- The gradient of the state, `k` chunks before the end: nothing at the end; one chunk further back it has decayed over that chunk
and what the chunk's outputs send is added. -/
def stateGrad : ℕ → Fin 2048 → Fin 128 → EReal
  | 0, _, _ => 0
  | k + 1, j, n => stateGrad k j n * Ideal.exp (sums raw db al ⟨127 - k, by omega⟩ (hd j) 127) +
      ∑ l : Fin 128, dyOut raw dy db al ⟨127 - k, by omega⟩ j l * bc (tok ⟨127 - k, by omega⟩ l) (colC (grp j) n)

/-- The gradient of the products `C·B` inside a chunk, a group's four heads together. -/
def dcb (c : Fin 128) (g : Fin 8) (l s : Fin 128) : EReal :=
  ∑ r : Fin 4, (∑ p : Fin 64, dy (chan g (chanAt r p)) (tok c l) * x (chan g (chanAt r p)) (tok c s)) *
    (decay raw db al c (hdAt g r) l s * step raw db (tok c s) (hdAt g r))

/-- The gradient of a chunk's input at position `s`, channel `j`. -/
def gradX (c s : Fin 128) (j : Fin 2048) : EReal :=
  (∑ l : Fin 128, dy j (tok c l) *
      ((∑ n : Fin 128, bc (tok c l) (colC (grp j) n) * bc (tok c s) (colB (grp j) n)) * decay raw db al c (hd j) l s) +
    (∑ n : Fin 128, stateGrad bc raw dy db al (127 - c.val) j n * bc (tok c s) (colB (grp j) n)) * toEnd raw db al c (hd j) s) *
  step raw db (tok c s) (hd j)

/-- The gradient of a chunk's `B` at position `s`, column `n` of group `g`. -/
def gradB (c s : Fin 128) (g : Fin 8) (n : Fin 128) : EReal :=
  ∑ l : Fin 128, dcb x raw dy db al c g l s * bc (tok c l) (colC g n) +
    ∑ q : Fin 256, x (chan g q) (tok c s) * (toEnd raw db al c (hd (chan g q)) s * step raw db (tok c s) (hd (chan g q))) *
      stateGrad bc raw dy db al (127 - c.val) (chan g q) n

/-- The gradient of a chunk's `C` at position `l`, column `n` of group `g`. -/
def gradC (c l : Fin 128) (g : Fin 8) (n : Fin 128) : EReal :=
  ∑ s : Fin 128, dcb x raw dy db al c g l s * bc (tok c s) (colB g n) +
    ∑ q : Fin 256, dyOut raw dy db al c (chan g q) l * st c g q n

/-- The three gradients side by side, as both programs return them. -/
def result (s : Fin 16384) (j : Fin 4096) : EReal :=
  if h : j.val < 2048 then gradX bc raw dy db al ⟨s.val / 128, by omega⟩ ⟨s.val % 128, by omega⟩ ⟨j.val, h⟩
  else if h' : j.val - 2048 < 1024 then gradB x bc raw dy db al ⟨s.val / 128, by omega⟩ ⟨s.val % 128, by omega⟩
    ⟨(j.val - 2048) / 128, by omega⟩ ⟨(j.val - 2048) % 128, by omega⟩
  else gradC x bc raw dy st db al ⟨s.val / 128, by omega⟩ ⟨s.val % 128, by omega⟩
    ⟨(j.val - 2048 - 1024) / 128, by omega⟩ ⟨(j.val - 2048 - 1024) % 128, by omega⟩

end

end Cert.Ssd
-- ==== Proof.TileSpec.lean ====
/- The tiles of a point against the formulas: when the tiles hold a chunk's part of the arguments, what they compute is its part of the gradient. -/
module

public import proofs.«01_k».proof.Proof.Readings
public import proofs.«01_k».proof.Proof.Spec

@[expose] public section

set_option maxRecDepth 16384

noncomputable section

namespace Cert.KernelIdeal.Ssd

open Cert.KernelIdeal Cert.KernelIdeal.Gen Idealize.ShloMosaic
open Cert.Ssd (tok hd chan chanAt hdAt colB colC grp grp_chan step sums stateGrad)

/-! ## A point's tiles against the formulas

`Reads` says what the tiles hold at the point of chunk `c`; from it, each stored tile is the chunk's part of the result. -/

variable (T : Tiles Ideal) (c : Fin 128)
variable (x : Fin 2048 → Fin 16384 → EReal) (bc : Fin 16384 → Fin 2048 → EReal) (raw : Fin 16384 → Fin 32 → EReal)
  (dy : Fin 2048 → Fin 16384 → EReal) (st : Fin 128 → Fin 8 → Fin 256 → Fin 128 → EReal) (db al : Fin 32 → EReal)

/-- What the tiles of chunk `c` hold. -/
structure Reads : Prop where
  rcs : ∀ (i : Fin 128) (h : Fin 32), i.val = h.val → ∀ l, T.cs (ix2 i l) = sums raw db al c h l
  rdt : ∀ (i : Fin 128) (h : Fin 32), i.val = h.val → ∀ l, T.dt (ix2 i l) = step raw db (tok c l) h
  rx : ∀ g hg q l, T.x g hg (ix2 q l) = x (chan ⟨g, hg⟩ q) (tok c l)
  rdy : ∀ g hg q l, T.dy g hg (ix2 q l) = dy (chan ⟨g, hg⟩ q) (tok c l)
  rb : ∀ g hg l n, T.b g hg (ix2 l n) = bc (tok c l) (colB ⟨g, hg⟩ n)
  rc : ∀ g hg l n, T.c g hg (ix2 l n) = bc (tok c l) (colC ⟨g, hg⟩ n)
  rst : ∀ g hg q n, T.st g hg (ix4 0 0 q n) = st c ⟨g, hg⟩ q n
  rdh : ∀ g hg q n, T.dh g hg (ix3 0 q n) = stateGrad bc raw dy db al (127 - c.val) (chan ⟨g, hg⟩ q) n

variable {T c x bc raw dy st db al} (H : Reads T c x bc raw dy st db al) (g : ℕ) (hg : g < 8)

theorem row_hd (q : Fin 256) (h : q.val / 64 < 4) : (row g hg (q.val / 64) h).val = (hd (chan ⟨g, hg⟩ q)).val := by
  show 4 * g + q.val / 64 = (g * 256 + q.val) / 64
  omega

theorem row_hdAt (r : Fin 4) : (row g hg r.val r.isLt).val = (hdAt ⟨g, hg⟩ r).val := by
  show 4 * g + r.val = g * 4 + r.val
  omega

theorem at_chanAt (r : Fin 4) (p : Fin 64) (h : 64 * r.val + p.val < 256) : (⟨64 * r.val + p.val, h⟩ : Fin 256) = chanAt r p :=
  Fin.ext (by show 64 * r.val + p.val = r.val * 64 + p.val; omega)

include H

theorem decay_eq (i : Fin 128) (h : Fin 32) (e : i.val = h.val) (l s : Fin 128) : decay T.cs i l s = Cert.Ssd.decay raw db al c h l s :=
  congrArg Ideal.exp (if_congr Iff.rfl (congrArg₂ (· - ·) (H.rcs i h e l) (H.rcs i h e s)) rfl)

theorem toEnd_eq (i : Fin 128) (h : Fin 32) (e : i.val = h.val) (l : Fin 128) : toEnd T.cs (ix2 i l) = Cert.Ssd.toEnd raw db al c h l :=
  (toEnd_apply _ _ _).trans (congrArg Ideal.exp (congrArg₂ (· - ·) (H.rcs i h e 127) (H.rcs i h e l)))

theorem dyOut_eq (q : Fin 256) (l : Fin 128) : dyOut g hg T.cs (T.dy g hg) (ix2 q l) = Cert.Ssd.dyOut raw dy db al c (chan ⟨g, hg⟩ q) l :=
  (dyOut_apply g hg _ _ q l).trans (congrArg₂ (· * ·) (H.rdy g hg q l) (congrArg Ideal.exp (H.rcs _ _ (row_hd g hg q _) l)))

theorem dcb_eq (l s : Fin 128) : dcb g hg T.cs T.dt (T.x g hg) (T.dy g hg) (ix2 l s) = Cert.Ssd.dcb x raw dy db al c ⟨g, hg⟩ l s := by
  refine (dcb_apply g hg _ _ _ _ l s).trans (Finset.sum_congr rfl fun r _ => congrArg₂ (· * ·) (Finset.sum_congr rfl fun p _ => ?_)
    (congrArg₂ (· * ·) (decay_eq H _ _ (row_hdAt g hg r) l s) (H.rdt _ _ (row_hdAt g hg r) s)))
  refine congrArg₂ (· * ·) ((H.rdy g hg _ l).trans ?_) ((H.rx g hg _ s).trans ?_)
  · exact congrArg (fun q => dy (chan ⟨g, hg⟩ q) (tok c l)) (at_chanAt r p _)
  · exact congrArg (fun q => x (chan ⟨g, hg⟩ q) (tok c s)) (at_chanAt r p _)

/-- The stored gradient of `C`. -/
theorem gradC_eq (l n : Fin 128) : gradC g hg T.cs T.dt (T.x g hg) (T.dy g hg) (T.b g hg) (T.st g hg) (ix2 l n) =
    Cert.Ssd.gradC x bc raw dy st db al c l ⟨g, hg⟩ n :=
  (gradC_apply g hg _ _ _ _ _ _ l n).trans (congrArg₂ (· + ·)
    (Finset.sum_congr rfl fun s _ => congrArg₂ (· * ·) (dcb_eq H g hg l s) (H.rb g hg s n))
    (Finset.sum_congr rfl fun q _ => congrArg₂ (· * ·) (dyOut_eq H g hg q l) (H.rst g hg q n)))

/-- The stored gradient of `B`. -/
theorem gradB_eq (s n : Fin 128) : gradB g hg T.cs T.dt (T.x g hg) (T.dy g hg) (T.c g hg) (T.dh g hg) (ix2 s n) =
    Cert.Ssd.gradB x bc raw dy db al c s ⟨g, hg⟩ n :=
  (gradB_apply g hg _ _ _ _ _ _ s n).trans (congrArg₂ (· + ·)
    (Finset.sum_congr rfl fun l _ => congrArg₂ (· * ·) (dcb_eq H g hg l s) (H.rc g hg l n))
    (Finset.sum_congr rfl fun q _ => congrArg₂ (· * ·)
      ((xIn_apply g hg _ _ _ q s).trans (congrArg₂ (· * ·) (H.rx g hg q s)
        (congrArg₂ (· * ·) (toEnd_eq H _ _ (row_hd g hg q _) s) (H.rdt _ _ (row_hd g hg q _) s)))) (H.rdh g hg q n)))

theorem b_eq (q : Fin 256) (l n : Fin 128) : T.b g hg (ix2 l n) = bc (tok c l) (colB (grp (chan ⟨g, hg⟩ q)) n) :=
  (H.rb g hg l n).trans (congrArg (fun k => bc (tok c l) (colB k n)) (grp_chan ⟨g, hg⟩ q).symm)

theorem c_eq (q : Fin 256) (l n : Fin 128) : T.c g hg (ix2 l n) = bc (tok c l) (colC (grp (chan ⟨g, hg⟩ q)) n) :=
  (H.rc g hg l n).trans (congrArg (fun k => bc (tok c l) (colC k n)) (grp_chan ⟨g, hg⟩ q).symm)

/-- The stored gradient of the inputs. -/
theorem gradX_eq (q : Fin 256) (s : Fin 128) : gradX g hg T.cs T.dt (T.dy g hg) (T.b g hg) (T.c g hg) (T.dh g hg) (ix2 s q) =
    Cert.Ssd.gradX bc raw dy db al c s (chan ⟨g, hg⟩ q) :=
  (gradX_apply g hg _ _ _ _ _ _ q s).trans (congrArg₂ (· * ·) (congrArg₂ (· + ·)
    (Finset.sum_congr rfl fun l _ => congrArg₂ (· * ·) (H.rdy g hg q l) (congrArg₂ (· * ·)
      (Finset.sum_congr rfl fun n _ => congrArg₂ (· * ·) (c_eq H g hg q l n) (b_eq H g hg q s n))
      (decay_eq H _ _ (row_hd g hg q _) l s)))
    (congrArg₂ (· * ·) (Finset.sum_congr rfl fun n _ => congrArg₂ (· * ·) (H.rdh g hg q n) (b_eq H g hg q s n))
      (toEnd_eq H _ _ (row_hd g hg q _) s))) (H.rdt _ _ (row_hd g hg q _) s))

/-- The gradient of the state the point leaves: that of one chunk further back. -/
theorem gradH_eq (q : Fin 256) (n : Fin 128) : gradH g hg T.cs (T.dy g hg) (T.c g hg) (T.dh g hg) (ix3 0 q n) =
    stateGrad bc raw dy db al (127 - c.val + 1) (chan ⟨g, hg⟩ q) n := by
  have e : (⟨127 - (127 - c.val), by omega⟩ : Fin 128) = c := Fin.ext (by show 127 - (127 - c.val) = c.val; omega)
  refine (gradH_apply g hg _ _ _ _ q n).trans ?_
  show _ = stateGrad bc raw dy db al (127 - c.val) (chan ⟨g, hg⟩ q) n * Ideal.exp (sums raw db al ⟨127 - (127 - c.val), _⟩ (hd (chan ⟨g, hg⟩ q)) 127) +
    ∑ l : Fin 128, Cert.Ssd.dyOut raw dy db al ⟨127 - (127 - c.val), _⟩ (chan ⟨g, hg⟩ q) l * bc (tok ⟨127 - (127 - c.val), _⟩ l) (colC (grp (chan ⟨g, hg⟩ q)) n)
  rw [e]
  exact congrArg₂ (· + ·) (congrArg₂ (· * ·) (H.rdh g hg q n) (congrArg Ideal.exp (H.rcs _ _ (row_hd g hg q _) 127)))
    (Finset.sum_congr rfl fun l _ => congrArg₂ (· * ·) (dyOut_eq H g hg q l) (c_eq H g hg q l n))

end Cert.KernelIdeal.Ssd
-- ==== Proof.Canon.lean ====
/- What the lists of stores leave: each point's block is its chunk's part of the gradient, its scratch the gradient of the state one chunk
   further back. -/
module

public import Idealize.ShloMosaic.Lib.Pipeline.ReadBack
public import proofs.«01_k».proof.Proof.ReadA
public import proofs.«01_k».proof.Proof.TileSpec

@[expose] public section

set_option maxRecDepth 16384

noncomputable section

namespace Cert.Ssd

open Idealize.ShloMosaic

section
variable (x : Fin 2048 → Fin 16384 → EReal) (bc : Fin 16384 → Fin 2048 → EReal) (raw : Fin 16384 → Fin 32 → EReal)
  (dy : Fin 2048 → Fin 16384 → EReal) (st : Fin 128 → Fin 8 → Fin 256 → Fin 128 → EReal) (db al : Fin 32 → EReal)

/-- One chunk's part of the result. -/
def part (c l : Fin 128) (j : Fin 4096) : EReal :=
  if h : j.val < 2048 then gradX bc raw dy db al c l ⟨j.val, h⟩
  else if h' : j.val - 2048 < 1024 then gradB x bc raw dy db al c l ⟨(j.val - 2048) / 128, by omega⟩ ⟨(j.val - 2048) % 128, by omega⟩
  else gradC x bc raw dy st db al c l ⟨(j.val - 2048 - 1024) / 128, by omega⟩ ⟨(j.val - 2048 - 1024) % 128, by omega⟩

theorem result_tok (c l : Fin 128) (j : Fin 4096) : result x bc raw dy st db al (tok c l) j = part x bc raw dy st db al c l j :=
  congrArg₂ (fun a b => part x bc raw dy st db al a b j) (Fin.ext (by show (c.val * 128 + l.val) / 128 = c.val; omega))
    (Fin.ext (by show (c.val * 128 + l.val) % 128 = l.val; omega))

theorem part_X (c l : Fin 128) (j : Fin 4096) (g : Fin 8) (q : Fin 256) (h : j.val = 256 * g.val + q.val) :
    part x bc raw dy st db al c l j = gradX bc raw dy db al c l (chan g q) := by
  unfold part
  rw [dif_pos (by omega)]
  exact congrArg (gradX bc raw dy db al c l) (Fin.ext (by show j.val = g.val * 256 + q.val; omega))

theorem part_B (c l : Fin 128) (j : Fin 4096) (g : Fin 8) (n : Fin 128) (h : j.val = 2048 + 128 * g.val + n.val) :
    part x bc raw dy st db al c l j = gradB x bc raw dy db al c l g n := by
  unfold part
  rw [dif_neg (by omega), dif_pos (by omega)]
  exact congrArg₂ (gradB x bc raw dy db al c l) (Fin.ext (by show (j.val - 2048) / 128 = g.val; omega)) (Fin.ext (by show (j.val - 2048) % 128 = n.val; omega))

theorem part_C (c l : Fin 128) (j : Fin 4096) (g : Fin 8) (n : Fin 128) (h : j.val = 3072 + 128 * g.val + n.val) :
    part x bc raw dy st db al c l j = gradC x bc raw dy st db al c l g n := by
  unfold part
  rw [dif_neg (by omega), dif_neg (by omega)]
  exact congrArg₂ (gradC x bc raw dy st db al c l) (Fin.ext (by show (j.val - 2048 - 1024) / 128 = g.val; omega))
    (Fin.ext (by show (j.val - 2048 - 1024) % 128 = n.val; omega))
end

end Cert.Ssd

namespace Cert.KernelIdeal.Ssd

open Cert.KernelIdeal Cert.KernelIdeal.Gen Idealize.ShloMosaic
open Cert.Ssd (tok hd chan chanAt hdAt colB colC grp grp_chan step sums stateGrad part part_X part_B part_C)

/-! ## What a point's stores leave -/

section lists
variable {F : FTy → Type} [FloatOps F] [Named F]

/-- The three stores of a group. -/
def storeC (T : Tiles F) (g : ℕ) (h : g < 8) : View.Piece (Elt F) S128x4096 .f32 :=
  ⟨Rect.unit ![0, 3072 + 128 * g] ![128, 128] (inbDC g h), gradC g h T.cs T.dt (T.x g h) (T.dy g h) (T.b g h) (T.st g h)⟩
def storeB (T : Tiles F) (g : ℕ) (h : g < 8) : View.Piece (Elt F) S128x4096 .f32 :=
  ⟨Rect.unit ![0, 2048 + 128 * g] ![128, 128] (inbDB g h), gradB g h T.cs T.dt (T.x g h) (T.dy g h) (T.c g h) (T.dh g h)⟩
def storeX (T : Tiles F) (g : ℕ) (h : g < 8) : View.Piece (Elt F) S128x4096 .f32 :=
  ⟨Rect.unit ![0, 256 * g] ![128, 256] (inbDX g h), gradX g h T.cs T.dt (T.dy g h) (T.b g h) (T.c g h) (T.dh g h)⟩

theorem mem_stores (T : Tiles F) (n : ℕ) (hn : n ≤ 8) (p : View.Piece (Elt F) S128x4096 .f32) :
    p ∈ stores T n hn ↔ ∃ g, ∃ h : g < 8, g < n ∧ (p = storeC T g h ∨ p = storeB T g h ∨ p = storeX T g h) := by
  induction n with
  | zero => exact ⟨fun h => absurd h List.not_mem_nil, fun ⟨g, _, h, _⟩ => absurd h (Nat.not_lt_zero g)⟩
  | succ n ih =>
    have e : stores T (n + 1) hn = storeC T n hn :: storeB T n hn :: storeX T n hn :: stores T n (Nat.le_of_succ_le hn) := rfl
    rw [e, List.mem_cons, List.mem_cons, List.mem_cons, ih]
    constructor
    · rintro (h | h | h | ⟨g, h, hl, hp⟩)
      · exact ⟨n, hn, Nat.lt_succ_self n, Or.inl h⟩
      · exact ⟨n, hn, Nat.lt_succ_self n, Or.inr (Or.inl h)⟩
      · exact ⟨n, hn, Nat.lt_succ_self n, Or.inr (Or.inr h)⟩
      · exact ⟨g, h, Nat.lt_succ_of_lt hl, hp⟩
    · rintro ⟨g, h, hl, hp⟩
      rcases Nat.lt_succ_iff_lt_or_eq.mp hl with hl | rfl
      · exact Or.inr (Or.inr (Or.inr ⟨g, h, hl, hp⟩))
      · rcases hp with hp | hp | hp
        · exact Or.inl hp
        · exact Or.inr (Or.inl hp)
        · exact Or.inr (Or.inr (Or.inl hp))

/-- At a run's first point every group finds zeros, so the pairs' stores are those of the groups one by one. -/
theorem pairs_eq (T : Tiles F) (hT : ∀ g h, T.dh g h = zeroH) (k : ℕ) (hk : k ≤ 4) :
    pairsA T.cs T.dy T.c k hk = storesH T (pairsA T.cs T.dy T.c 0 (Nat.zero_le _)) (2 * k) (by omega) := by
  induction k with
  | zero => rfl
  | succ k ih =>
    have e : storesH T (pairsA T.cs T.dy T.c 0 (Nat.zero_le _)) (2 * (k + 1)) (by omega) =
      ⟨Rect.unit ![2 * k + 1, 0, 0] ![1, 256, 128] (inbH (2 * k + 1) (by omega)), gradH (2 * k + 1) (by omega) T.cs (T.dy (2 * k + 1) (by omega)) (T.c (2 * k + 1) (by omega)) (T.dh (2 * k + 1) (by omega))⟩ ::
      ⟨Rect.unit ![2 * k, 0, 0] ![1, 256, 128] (inbH (2 * k) (by omega)), gradH (2 * k) (by omega) T.cs (T.dy (2 * k) (by omega)) (T.c (2 * k) (by omega)) (T.dh (2 * k) (by omega))⟩ ::
      storesH T (pairsA T.cs T.dy T.c 0 (Nat.zero_le _)) (2 * k) (by omega) := rfl
    rw [e, ← ih (by omega), hT, hT]
    conv_lhs => unfold pairsA
    rw [read_zero _ _ _ k (by omega) (2 * k + 1) (by omega) (by omega), read_zero _ _ _ k (by omega) (2 * k) (by omega) (by omega)]
end lists

variable {T : Tiles Ideal} {c : Fin 128}
variable {x : Fin 2048 → Fin 16384 → EReal} {bc : Fin 16384 → Fin 2048 → EReal} {raw : Fin 16384 → Fin 32 → EReal}
  {dy : Fin 2048 → Fin 16384 → EReal} {st : Fin 128 → Fin 8 → Fin 256 → Fin 128 → EReal} {db al : Fin 32 → EReal}
  (H : Reads T c x bc raw dy st db al)

include H

/-- The gradient block a point leaves is its chunk's part of the result. -/
theorem canon_stores (l : Fin 128) (j : Fin 4096) : View.canon (stores T 8 le_rfl) (ix2 l j) = part x bc raw dy st db al c l j := by
  refine View.canon_apply_of_pieces (fun y : S128x4096.Idx => part x bc raw dy st db al c (y 0) (y 1)) (stores T 8 le_rfl) ?_ (ix2 l j) ?_
  · intro p hp y
    obtain ⟨g, h, -, hp⟩ := (mem_stores T 8 le_rfl p).mp hp
    rcases hp with rfl | rfl | rfl
    · have e : (storeC T g h).1.emb y 0 = y 0 := Fin.ext (by show 0 + 1 * (y 0).val = (y 0).val; omega)
      have e2 : ((storeC T g h).1.emb y 1).val = 3072 + 128 * g + (y 1).val := by show 3072 + 128 * g + 1 * (y 1).val = _; omega
      show (storeC T g h).2 y = part x bc raw dy st db al c ((storeC T g h).1.emb y 0) ((storeC T g h).1.emb y 1)
      rw [e, part_C x bc raw dy st db al c (y 0) _ ⟨g, h⟩ (y 1) e2]
      exact (congrArg _ (eq_ix2 (n0 := 128) (n1 := 128) y)).trans (gradC_eq H g h (y 0) (y 1))
    · have e : (storeB T g h).1.emb y 0 = y 0 := Fin.ext (by show 0 + 1 * (y 0).val = (y 0).val; omega)
      have e2 : ((storeB T g h).1.emb y 1).val = 2048 + 128 * g + (y 1).val := by show 2048 + 128 * g + 1 * (y 1).val = _; omega
      show (storeB T g h).2 y = part x bc raw dy st db al c ((storeB T g h).1.emb y 0) ((storeB T g h).1.emb y 1)
      rw [e, part_B x bc raw dy st db al c (y 0) _ ⟨g, h⟩ (y 1) e2]
      exact (congrArg _ (eq_ix2 (n0 := 128) (n1 := 128) y)).trans (gradB_eq H g h (y 0) (y 1))
    · have e : (storeX T g h).1.emb y 0 = y 0 := Fin.ext (by show 0 + 1 * (y 0).val = (y 0).val; omega)
      have e2 : ((storeX T g h).1.emb y 1).val = 256 * g + (y 1).val := by show 256 * g + 1 * (y 1).val = _; omega
      show (storeX T g h).2 y = part x bc raw dy st db al c ((storeX T g h).1.emb y 0) ((storeX T g h).1.emb y 1)
      rw [e, part_X x bc raw dy st db al c (y 0) _ ⟨g, h⟩ (y 1) e2]
      exact (congrArg _ (eq_ix2 (n0 := 128) (n1 := 256) y)).trans (gradX_eq H g h (y 1) (y 0))
  · by_cases h1 : j.val < 2048
    · refine ⟨storeX T (j.val / 256) (by omega), (mem_stores T 8 le_rfl _).mpr ⟨j.val / 256, by omega, by omega, Or.inr (Or.inr rfl)⟩, (Rect.mem_set_unit (inb := inbDX (j.val / 256) (by omega))).mpr fun a => ?_⟩
      fin_cases a
      · show 0 ≤ l.val ∧ l.val < 0 + 128
        omega
      · show 256 * (j.val / 256) ≤ j.val ∧ j.val < 256 * (j.val / 256) + 256
        omega
    · by_cases h2 : j.val < 3072
      · refine ⟨storeB T ((j.val - 2048) / 128) (by omega), (mem_stores T 8 le_rfl _).mpr ⟨(j.val - 2048) / 128, by omega, by omega, Or.inr (Or.inl rfl)⟩, (Rect.mem_set_unit (inb := inbDB ((j.val - 2048) / 128) (by omega))).mpr fun a => ?_⟩
        fin_cases a
        · show 0 ≤ l.val ∧ l.val < 0 + 128
          omega
        · show 2048 + 128 * ((j.val - 2048) / 128) ≤ j.val ∧ j.val < 2048 + 128 * ((j.val - 2048) / 128) + 128
          omega
      · refine ⟨storeC T ((j.val - 3072) / 128) (by omega), (mem_stores T 8 le_rfl _).mpr ⟨(j.val - 3072) / 128, by omega, by omega, Or.inl rfl⟩, (Rect.mem_set_unit (inb := inbDC ((j.val - 3072) / 128) (by omega))).mpr fun a => ?_⟩
        fin_cases a
        · show 0 ≤ l.val ∧ l.val < 0 + 128
          omega
        · show 3072 + 128 * ((j.val - 3072) / 128) ≤ j.val ∧ j.val < 3072 + 128 * ((j.val - 3072) / 128) + 128
          omega

/-- The scratch a point leaves is the gradient of the state one chunk further back. -/
theorem canon_storesH (base : List (View.Piece (Elt Ideal) S8x256x128 .f32)) (n : ℕ) (hn : n ≤ 8) (g : Fin 8) (hg : g.val < n) (q : Fin 256) (k : Fin 128) :
    View.canon (storesH T base n hn) (ix3 g q k) = stateGrad bc raw dy db al (127 - c.val + 1) (chan g q) k := by
  induction n with
  | zero => exact absurd hg (Nat.not_lt_zero _)
  | succ n ih =>
    unfold storesH
    by_cases e : g.val = n
    · subst e
      have e2 : ix3 g q k = (Rect.unit (s := S8x256x128) ![g.val, 0, 0] ![1, 256, 128] (inbH g.val hn)).emb (ix3 (n0 := 1) (n1 := 256) (n2 := 128) 0 q k) := by
        funext a
        fin_cases a
        · exact Fin.ext (show g.val = g.val + 1 * 0 by omega)
        · exact Fin.ext (show q.val = 0 + 1 * q.val by omega)
        · exact Fin.ext (show k.val = 0 + 1 * k.val by omega)
      refine ((congrArg _ e2).trans (View.canon_cons_emb _ _ _ _)).trans ?_
      exact gradH_eq H g.val hn q k
    · refine (View.canon_cons_of_not_mem _ _ ?_).trans (ih _ (by omega))
      intro hm
      have h0 := ((Rect.mem_set_unit (inb := inbH n hn)).mp hm) 0
      have h1 : n ≤ g.val ∧ g.val < n + 1 := h0
      omega

end Cert.KernelIdeal.Ssd
-- ==== Proof.Softplus.lean ====
/- Facts about the softplus and the exponential over the ideal numbers. -/
module

public import proofs.«01_k».proof.Proof.Spec

@[expose] public section

noncomputable section

namespace Cert.Ssd

open Idealize.ShloMosaic

/-! ## Steps are not negative, and finite unless their argument is plus infinity -/

theorem coe_max (a b : ℝ) : ((max a b : ℝ) : EReal) = max (a : EReal) (b : EReal) := EReal.coe_strictMono.monotone.map_max

theorem softplus_coe (r : ℝ) : softplus (r : EReal) = ((max r 0 + Real.log (1 + Real.exp (-(max r (-r)))) : ℝ) : EReal) := by
  unfold softplus Ideal.log1p
  have e : -(max (r : EReal) (-(r : EReal))) = ((-(max r (-r)) : ℝ) : EReal) := by
    rw [EReal.coe_neg, coe_max, EReal.coe_neg]
  rw [e, Ideal.exp_coe, ← EReal.coe_one, ← EReal.coe_add, Ideal.log_coe, if_neg (not_le.mpr (by positivity)), EReal.coe_add, coe_max, EReal.coe_zero]

theorem log1p_zero : Ideal.log1p 0 = 0 := by
  unfold Ideal.log1p
  rw [add_zero, ← EReal.coe_one, Ideal.log_coe, if_neg (by norm_num), Real.log_one, EReal.coe_zero]

theorem softplus_top : softplus ⊤ = ⊤ := by
  unfold softplus
  rw [max_eq_left le_top, max_eq_left (by simp), EReal.neg_top]
  show ⊤ + Ideal.log1p 0 = ⊤
  rw [log1p_zero, add_zero]

theorem softplus_bot : softplus ⊥ = 0 := by
  unfold softplus
  rw [max_eq_right bot_le, EReal.neg_bot, max_eq_right le_top, EReal.neg_top]
  show 0 + Ideal.log1p 0 = 0
  rw [log1p_zero, add_zero]

theorem softplus_nonneg (z : EReal) : 0 ≤ softplus z := by
  induction z with
  | bot => rw [softplus_bot]
  | top => rw [softplus_top]; exact le_top
  | coe r =>
    rw [softplus_coe]
    exact_mod_cast add_nonneg (le_max_right r 0) (Real.log_nonneg (by have := Real.exp_pos (-(max r (-r))); linarith))

theorem softplus_ne_top (z : EReal) (h : z ≠ ⊤) : softplus z ≠ ⊤ := by
  induction z with
  | bot => rw [softplus_bot]; exact EReal.zero_ne_top
  | top => exact absurd rfl h
  | coe r => rw [softplus_coe]; exact EReal.coe_ne_top _

theorem exp_nonneg (a : EReal) : 0 ≤ Ideal.exp a := by
  induction a with
  | bot => exact le_rfl
  | top => exact le_top
  | coe r => rw [Ideal.exp_coe]; exact_mod_cast (Real.exp_pos r).le

/-- A step times minus an exponential is not plus infinity. -/
theorem decay_ne_top (d a : EReal) (hd : 0 ≤ d) : d * -Ideal.exp a ≠ ⊤ := by
  have h : d * -Ideal.exp a ≤ 0 := by
    rw [mul_neg, EReal.neg_le, neg_zero]
    exact mul_nonneg hd (exp_nonneg a)
  exact fun e => absurd (e ▸ h) (by simp)

end Cert.Ssd
-- ==== Proof.Points.lean ====
/- The tiles a grid point works on, read entry by entry: each block is its chunk's part of an argument. -/
module

public import Idealize.ShloMosaic.Lib.Pipeline.ValueKit
public import Idealize.ShloMosaic.Lib.WholeRead
public import Idealize.ShloMosaic.Lib.StableHlo.RunRead
public import proofs.«01_k».proof.Proof.Gen.KernelIdeal.Value
public import proofs.«01_k».proof.Proof.Canon
public import proofs.«01_k».proof.Proof.Softplus

@[expose] public section

set_option maxRecDepth 16384

noncomputable section

namespace Cert.KernelIdeal.Ssd

open Cert.KernelIdeal Cert.KernelIdeal.Gen Idealize.ShloMosaic Idealize.ShloMosaic.TcCoe Idealize.SL.Sem
open Cert.Ssd (tok hd chan chanAt hdAt colB colC grp grp_chan step sums stateGrad part)

/-! ## The tiles a point loads -/

section loaded
variable (t : Fin cfg0.N) (x0 : Vec Ideal S2048x128 .f32) (x1 : Vec Ideal S128x2048 .f32) (x2 : Vec Ideal S128x128 .f32) (x3 : Vec Ideal S2048x128 .f32)
  (x4 : Vec Ideal S1x8x256x128 .f32) (x5 x6 : Vec Ideal S128x128 .f32) (dh : (g : ℕ) → g < 8 → FVec Ideal S1x256x128 .f32)

theorem ld2_apply (a b : Fin 128) : ld2 t x2 (ix2 a b) = x2 (ix2 a b) :=
  ((hs0_2 t).readAt_unread x2 _ _).trans (congrArg x2 (by funext k; fin_cases k <;> exact Fin.ext (by show 0 + 1 * _ = _; omega)))
theorem ld5_apply (a b : Fin 128) : ld5 t x5 (ix2 a b) = x5 (ix2 a b) :=
  ((hs0_5 t).readAt_unread x5 _ _).trans (congrArg x5 (by funext k; fin_cases k <;> exact Fin.ext (by show 0 + 1 * _ = _; omega)))
theorem ld6_apply (a b : Fin 128) : ld6 t x6 (ix2 a b) = x6 (ix2 a b) :=
  ((hs0_6 t).readAt_unread x6 _ _).trans (congrArg x6 (by funext k; fin_cases k <;> exact Fin.ext (by show 0 + 1 * _ = _; omega)))

theorem loaded_x (g : ℕ) (hg : g < 8) (q : Fin 256) (l : Fin 128) : (loaded t x0 x1 x2 x3 x4 x5 x6 dh).x g hg (ix2 q l) = x0 (ix2 (chan ⟨g, hg⟩ q) l) :=
  ((hs0_0 t).readAt_unread x0 _ _).trans (congrArg x0 (by
    funext k
    fin_cases k
    · exact Fin.ext (show 256 * g + 1 * q.val = g * 256 + q.val by omega)
    · exact Fin.ext (show 0 + 1 * l.val = l.val by omega)))

theorem loaded_dy (g : ℕ) (hg : g < 8) (q : Fin 256) (l : Fin 128) : (loaded t x0 x1 x2 x3 x4 x5 x6 dh).dy g hg (ix2 q l) = x3 (ix2 (chan ⟨g, hg⟩ q) l) :=
  ((hs0_3 t).readAt_unread x3 _ _).trans (congrArg x3 (by
    funext k
    fin_cases k
    · exact Fin.ext (show 256 * g + 1 * q.val = g * 256 + q.val by omega)
    · exact Fin.ext (show 0 + 1 * l.val = l.val by omega)))

theorem loaded_b (g : ℕ) (hg : g < 8) (l n : Fin 128) : (loaded t x0 x1 x2 x3 x4 x5 x6 dh).b g hg (ix2 l n) = x1 (ix2 l (colB ⟨g, hg⟩ n)) :=
  ((hs0_1 t).readAt_unread x1 _ _).trans (congrArg x1 (by
    funext k
    fin_cases k
    · exact Fin.ext (show 0 + 1 * l.val = l.val by omega)
    · exact Fin.ext (show 128 * g + 1 * n.val = g * 128 + n.val by omega)))

theorem loaded_c (g : ℕ) (hg : g < 8) (l n : Fin 128) : (loaded t x0 x1 x2 x3 x4 x5 x6 dh).c g hg (ix2 l n) = x1 (ix2 l (colC ⟨g, hg⟩ n)) :=
  ((hs0_1 t).readAt_unread x1 _ _).trans (congrArg x1 (by
    funext k
    fin_cases k
    · exact Fin.ext (show 0 + 1 * l.val = l.val by omega)
    · exact Fin.ext (show 1024 + 128 * g + 1 * n.val = 1024 + (g * 128 + n.val) by omega)))

theorem loaded_st (g : ℕ) (hg : g < 8) (q : Fin 256) (n : Fin 128) : (loaded t x0 x1 x2 x3 x4 x5 x6 dh).st g hg (ix4 0 0 q n) = x4 (ix4 0 ⟨g, hg⟩ q n) :=
  ((hs0_4 t).readAt_unread x4 _ _).trans (congrArg x4 (by
    funext k
    fin_cases k
    · exact Fin.ext (show 0 + 1 * 0 = 0 by omega)
    · exact Fin.ext (show g + 1 * 0 = g by omega)
    · exact Fin.ext (show 0 + 1 * q.val = q.val by omega)
    · exact Fin.ext (show 0 + 1 * n.val = n.val by omega)))

theorem dhB_apply (xs0 : Vec Ideal S8x256x128 .f32) (g : ℕ) (hg : g < 8) (q : Fin 256) (n : Fin 128) : dhB xs0 g hg (ix3 0 q n) = xs0 (ix3 ⟨g, hg⟩ q n) :=
  ((show scM0_0.IsWhole from Memref.isWhole_whole _).readAt_unread xs0 _ _).trans (congrArg xs0 (by
    funext k
    fin_cases k
    · exact Fin.ext (show g + 1 * 0 = g by omega)
    · exact Fin.ext (show 0 + 1 * q.val = q.val by omega)
    · exact Fin.ext (show 0 + 1 * n.val = n.val by omega)))

variable {c : Fin 128}
variable {x : Fin 2048 → Fin 16384 → EReal} {bc : Fin 16384 → Fin 2048 → EReal} {raw : Fin 16384 → Fin 32 → EReal}
  {dy : Fin 2048 → Fin 16384 → EReal} {st : Fin 128 → Fin 8 → Fin 256 → Fin 128 → EReal} {db al : Fin 32 → EReal}

/-- The blocks holding chunk `c`'s part of the arguments, the tiles hold what the formulas ask. -/
theorem reads_loaded (h0 : ∀ j l, x0 (ix2 j l) = x j (tok c l)) (h1 : ∀ l j, x1 (ix2 l j) = bc (tok c l) j)
    (h2 : ∀ (l i : Fin 128) (h : Fin 32), i.val = h.val → x2 (ix2 l i) = raw (tok c l) h) (h3 : ∀ j l, x3 (ix2 j l) = dy j (tok c l))
    (h4 : ∀ g q n, x4 (ix4 0 g q n) = st c g q n)
    (h5 : ∀ (i l : Fin 128) (h : Fin 32), i.val = h.val → x5 (ix2 i l) = db h) (h6 : ∀ (i l : Fin 128) (h : Fin 32), i.val = h.val → x6 (ix2 i l) = al h)
    (hdh : ∀ g hg q n, dh g hg (ix3 0 q n) = stateGrad bc raw dy db al (127 - c.val) (chan ⟨g, hg⟩ q) n) :
    Reads (loaded t x0 x1 x2 x3 x4 x5 x6 dh) c x bc raw dy st db al := by
  have hdt : ∀ (i : Fin 128) (h : Fin 32), i.val = h.val → ∀ l, dtOf (ld2 t x2) (ld5 t x5) (ix2 i l) = step raw db (tok c l) h := fun i h e l =>
    (dtOf_apply _ _ i l).trans (congrArg softplus (congrArg₂ (· + ·) ((ld2_apply t x2 l i).trans (h2 l i h e)) ((ld5_apply t x5 i l).trans (h5 i l h e))))
  have ha : ∀ (i : Fin 128) (h : Fin 32), i.val = h.val → ∀ l, aOf (ld2 t x2) (ld5 t x5) (ld6 t x6) (ix2 i l) = step raw db (tok c l) h * -Ideal.exp (al h) := fun i h e l =>
    (aOf_apply _ _ _ i l).trans (congrArg₂ (· * ·) (hdt i h e l) (congrArg (fun z => -Ideal.exp z) ((ld6_apply t x6 i l).trans (h6 i l h e))))
  refine ⟨fun i h e l => ?_, hdt, fun g hg q l => (loaded_x t x0 x1 x2 x3 x4 x5 x6 dh g hg q l).trans (h0 _ _),
    fun g hg q l => (loaded_dy t x0 x1 x2 x3 x4 x5 x6 dh g hg q l).trans (h3 _ _), fun g hg l n => (loaded_b t x0 x1 x2 x3 x4 x5 x6 dh g hg l n).trans (h1 _ _),
    fun g hg l n => (loaded_c t x0 x1 x2 x3 x4 x5 x6 dh g hg l n).trans (h1 _ _), fun g hg q n => (loaded_st t x0 x1 x2 x3 x4 x5 x6 dh g hg q n).trans (h4 _ _ _), hdh⟩
  refine (csOf_apply _ i l fun k => ?_).trans (Finset.sum_congr rfl fun k _ => if_congr Iff.rfl (ha i h e k) rfl)
  rw [ha i h e k]
  exact Cert.Ssd.decay_ne_top _ _ (Cert.Ssd.softplus_nonneg _)
end loaded

/-! ## The blocks at a point -/

theorem idx : ∀ t : Fin cfg0.N, win0_0.index t = ![0, 127 - t.val] ∧ win0_1.index t = ![127 - t.val, 0] ∧ win0_2.index t = ![127 - t.val, 0] ∧
    win0_3.index t = ![0, 127 - t.val] ∧ win0_4.index t = ![127 - t.val, 0, 0, 0] ∧ win0_5.index t = ![0, 0] ∧ win0_6.index t = ![0, 0] ∧
    win0_7.index t = ![127 - t.val, 0] ∧ t.val < 128 :=
  (by decide +kernel : ∀ t : Fin grid0.N, _)

section blocks
variable (m : (ℓ : Loc nD τ sig) → Buf (Elt Ideal) ℓ) (d : Dev nD)

/-- The arguments, as the launch has them. -/
abbrev argX (j : Fin 2048) (s : Fin 16384) : EReal := (m ((d : Thread nD τ).loc main_arg0) : FVec Ideal S2048x16384 .f32) (ix2 j s)
abbrev argBC (s : Fin 16384) (j : Fin 2048) : EReal := (m ((d : Thread nD τ).loc main_arg1) : FVec Ideal S16384x2048 .f32) (ix2 s j)
abbrev argRaw (s : Fin 16384) (h : Fin 32) : EReal := (m ((d : Thread nD τ).loc main_arg2) : FVec Ideal S16384x128 .f32) (ix2 s ⟨h.val, by omega⟩)
abbrev argDy (j : Fin 2048) (s : Fin 16384) : EReal := (m ((d : Thread nD τ).loc main_arg3) : FVec Ideal S2048x16384 .f32) (ix2 j s)
abbrev argSt (c : Fin 128) (g : Fin 8) (q : Fin 256) (n : Fin 128) : EReal := (m ((d : Thread nD τ).loc main_arg4) : FVec Ideal S128x8x256x128 .f32) (ix4 c g q n)
abbrev argBias (h : Fin 32) : EReal := (m ((d : Thread nD τ).loc main_arg5) : FVec Ideal S32 .f32) (ix1 h)
abbrev argLog (h : Fin 32) : EReal := (m ((d : Thread nD τ).loc main_arg6) : FVec Ideal S32 .f32) (ix1 h)

/-- A point's chunk. -/
def chunk (t : Fin cfg0.N) : Fin 128 := ⟨127 - t.val, by omega⟩

variable (t : Fin cfg0.N)

theorem blk0 (j : Fin 2048) (l : Fin 128) : (iblk m d 0 t : Vec Ideal S2048x128 .f32) (ix2 j l) = argX m d j (tok (chunk t) l) := by
  blk_ext [iblk, V, idx t, tok, chunk]
theorem blk1 (l : Fin 128) (j : Fin 2048) : (iblk m d 1 t : Vec Ideal S128x2048 .f32) (ix2 l j) = argBC m d (tok (chunk t) l) j := by
  blk_ext [iblk, V, idx t, tok, chunk]
theorem blk2 (l i : Fin 128) (h : Fin 32) (e : i.val = h.val) : (iblk m d 2 t : Vec Ideal S128x128 .f32) (ix2 l i) = argRaw m d (tok (chunk t) l) h := by
  blk_ext [iblk, V, idx t, tok, chunk]
theorem blk3 (j : Fin 2048) (l : Fin 128) : (iblk m d 3 t : Vec Ideal S2048x128 .f32) (ix2 j l) = argDy m d j (tok (chunk t) l) := by
  blk_ext [iblk, V, idx t, tok, chunk]
theorem blk4 (g : Fin 8) (q : Fin 256) (n : Fin 128) : (iblk m d 4 t : Vec Ideal S1x8x256x128 .f32) (ix4 0 g q n) = argSt m d (chunk t) g q n := by
  blk_ext [iblk, V, idx t, chunk]
/-- A per-head vector as the kernel's window takes it: padded to 128 rows, each row repeated along the lanes. -/
def table (x : FVec Ideal S32 .f32) : FVec Ideal S128x128 .f32 :=
  broadcastInDim S128x128 ![0, 1] bcast_S128x1_S128x128_0_1 (broadcastInDim S128x1 ![0] bcast_S128_S128x1_0
    (pad S128 ![0] ![96] ![0] x (sitofp .f32 (constantI S_ 32 0#32)) pads_S32_S128_0960 h_S_))

theorem table_apply (x : FVec Ideal S32 .f32) (i l : Fin 128) (h : Fin 32) (e : i.val = h.val) : table x (ix2 i l) = x (ix1 h) := by
  have hi : i = ⟨h.val, by omega⟩ := Fin.ext e
  rw [hi]
  unfold table
  pointwise []

theorem V_v2 : (V m d main_v2 : FVec Ideal S128x128 .f32) = table (m ((d : Thread nD τ).loc main_arg5) : FVec Ideal S32 .f32) := by
  simp only [V, hostOps0, hostOps0_1, hostOps0_2, hostOps0_3, hostOps0_4, List.flatten_cons, List.flatten_nil, List.append_nil, List.cons_append, List.nil_append]
  after_reads_simp
  rfl

theorem V_v5 : (V m d main_v5 : FVec Ideal S128x128 .f32) = table (m ((d : Thread nD τ).loc main_arg6) : FVec Ideal S32 .f32) := by
  simp only [V, hostOps0, hostOps0_1, hostOps0_2, hostOps0_3, hostOps0_4, List.flatten_cons, List.flatten_nil, List.append_nil, List.cons_append, List.nil_append]
  after_reads_simp
  rfl

theorem blk5 (i l : Fin 128) (h : Fin 32) (e : i.val = h.val) : (iblk m d 5 t : Vec Ideal S128x128 .f32) (ix2 i l) = argBias m d h := by
  refine Eq.trans ?_ ((congrFun (V_v2 m d) (ix2 i l)).trans (table_apply _ i l h e))
  blk_simp [iblk, idx t]
  refine congrArg (V m d _) ?_
  blk_ext [idx t]

theorem blk6 (i l : Fin 128) (h : Fin 32) (e : i.val = h.val) : (iblk m d 6 t : Vec Ideal S128x128 .f32) (ix2 i l) = argLog m d h := by
  refine Eq.trans ?_ ((congrFun (V_v5 m d) (ix2 i l)).trans (table_apply _ i l h e))
  blk_simp [iblk, idx t]
  refine congrArg (V m d _) ?_
  blk_ext [idx t]
end blocks

end Cert.KernelIdeal.Ssd
-- ==== Proof.Bridge.lean ====
/- What the idealized kernel's result holds after its run: every point leaves its chunk's part of the gradient, and the gradient of the
   state it passes on, so the result array is the gradient entry by entry. -/
module

public import proofs.«01_k».proof.Proof.StoresA
public import proofs.«01_k».proof.Proof.StoresB
public import proofs.«01_k».proof.Proof.StoresHA
public import proofs.«01_k».proof.Proof.StoresHB
public import proofs.«01_k».proof.Proof.Points

@[expose] public section

set_option maxRecDepth 16384

noncomputable section

namespace Cert.KernelIdeal.Ssd

open Cert.KernelIdeal Cert.KernelIdeal.Gen Idealize.ShloMosaic Idealize.ShloMosaic.TcCoe Idealize.SL.Sem
open Idealize.ShloMosaic.Pipeline (Dat)
open Cert.Ssd (tok hd chan chanAt hdAt colB colC grp grp_chan step sums stateGrad part result result_tok)

variable (m : (ℓ : Loc nD τ sig) → Buf (Elt Ideal) ℓ) (d : Dev nD)

/-- The tiles a point works on, given the state's gradient it finds. -/
abbrev tilesAt (t : Fin cfg0.N) (dh : (g : ℕ) → g < 8 → FVec Ideal S1x256x128 .f32) : Tiles Ideal :=
  loaded t (iblk m d 0 t) (iblk m d 1 t) (iblk m d 2 t) (iblk m d 3 t) (iblk m d 4 t) (iblk m d 5 t) (iblk m d 6 t) dh

/-- The scratch the point before left. -/
abbrev scratchBefore (t : Fin cfg0.N) : Vec Ideal S8x256x128 .f32 :=
  (outsAt0 m d (t.val - 1) (Nat.lt_of_le_of_lt (Nat.sub_le _ _) t.isLt)).2.2.2.1

/-! ## What a point leaves, as its stores -/

theorem block_A (t : Fin cfg0.N) (h0 : t.val % 128 = 0) :
    (outsAt0 m d t.val t.isLt).1 = View.canon (stores (tilesAt m d t (fun _ _ => zeroH)) 8 le_rfl) := by
  rw [outsAt0_A m d t h0]
  dsimp only
  unfold out0_A_7
  rw [View.read_writes_junk_eq_canon, stores_A (h0 := h0)]

theorem block_B (t : Fin cfg0.N) (h0 : ¬t.val % 128 = 0) :
    (outsAt0 m d t.val t.isLt).1 = View.canon (stores (tilesAt m d t (dhB (scratchBefore m d t))) 8 le_rfl) := by
  rw [outsAt0_B m d t h0]
  dsimp only
  unfold out0_B_7
  rw [View.read_writes_junk_eq_canon, stores_B]

theorem scratch_A (t : Fin cfg0.N) (h0 : t.val % 128 = 0) :
    (outsAt0 m d t.val t.isLt).2.2.2.1 =
      View.canon (storesH (tilesAt m d t (fun _ _ => zeroH)) (pairsA (tilesAt m d t (fun _ _ => zeroH)).cs (tilesAt m d t (fun _ _ => zeroH)).dy
        (tilesAt m d t (fun _ _ => zeroH)).c 0 (Nat.zero_le _)) 8 le_rfl) := by
  rw [outsAt0_A m d t h0]
  dsimp only
  unfold sout0_A_0
  rw [View.read_writes_junk_eq_canon, storesH_A (h0 := h0)]
  exact congrArg View.canon (pairs_eq (tilesAt m d t (fun _ _ => zeroH)) (fun _ _ => rfl) 4 le_rfl)

theorem scratch_B (t : Fin cfg0.N) (h0 : ¬t.val % 128 = 0) :
    (outsAt0 m d t.val t.isLt).2.2.2.1 = View.canon (storesH (tilesAt m d t (dhB (scratchBefore m d t))) [] 8 le_rfl) := by
  rw [outsAt0_B m d t h0]
  dsimp only
  unfold sout0_B_0
  rw [View.read_writes_junk_eq_canon, storesH_B]

/-! ## The scratch is the state's gradient -/

/-- What the tiles of a point ask, given that the state's gradient they hold is that of the chunks after. -/
theorem reads_at (t : Fin cfg0.N) (dh : (g : ℕ) → g < 8 → FVec Ideal S1x256x128 .f32)
    (hdh : ∀ g hg q n, dh g hg (ix3 0 q n) = stateGrad (argBC m d) (argRaw m d) (argDy m d) (argBias m d) (argLog m d) t.val (Cert.Ssd.chan ⟨g, hg⟩ q) n) :
    Reads (tilesAt m d t dh) (chunk t) (argX m d) (argBC m d) (argRaw m d) (argDy m d) (argSt m d) (argBias m d) (argLog m d) :=
  reads_loaded t _ _ _ _ _ _ _ dh (blk0 m d t) (blk1 m d t) (blk2 m d t) (blk3 m d t) (blk4 m d t) (blk5 m d t) (blk6 m d t) fun g hg q n =>
    (hdh g hg q n).trans (congrArg (fun k => stateGrad (argBC m d) (argRaw m d) (argDy m d) (argBias m d) (argLog m d) k (Cert.Ssd.chan ⟨g, hg⟩ q) n)
      (by have h := (idx t).2.2.2.2.2.2.2.2; show t.val = 127 - (127 - t.val); omega))

theorem chunk_back (t : Fin cfg0.N) : 127 - (chunk t).val + 1 = t.val + 1 := by
  have h := (idx t).2.2.2.2.2.2.2.2
  show 127 - (127 - t.val) + 1 = _
  omega

theorem zero_reads (t : Fin cfg0.N) (h : t.val = 0) :
    Reads (tilesAt m d t (fun _ _ => zeroH)) (chunk t) (argX m d) (argBC m d) (argRaw m d) (argDy m d) (argSt m d) (argBias m d) (argLog m d) :=
  reads_at m d t _ fun g hg q n => by rw [h]; exact Ideal.ofBits_zero .f32

/-- After the point `k` the scratch holds the gradient of the state `k + 1` chunks before the end. -/
theorem scratch_eq (k : ℕ) (hk : k < cfg0.N) (g : Fin 8) (q : Fin 256) (n : Fin 128) :
    (outsAt0 m d k hk).2.2.2.1 (ix3 g q n) = stateGrad (argBC m d) (argRaw m d) (argDy m d) (argBias m d) (argLog m d) (k + 1) (Cert.Ssd.chan g q) n := by
  induction k generalizing g q n with
  | zero =>
    refine (congrFun (scratch_A m d ⟨0, hk⟩ (Nat.zero_mod _)) (ix3 g q n)).trans ?_
    exact (canon_storesH (zero_reads m d ⟨0, hk⟩ rfl) _ 8 le_rfl g g.isLt q n).trans
      (congrArg (fun k => stateGrad (argBC m d) (argRaw m d) (argDy m d) (argBias m d) (argLog m d) k (Cert.Ssd.chan g q) n) (chunk_back ⟨0, hk⟩))
  | succ k ih =>
    have hlt : k + 1 < 128 := (idx ⟨k + 1, hk⟩).2.2.2.2.2.2.2.2
    have h0 : ¬(k + 1) % 128 = 0 := by omega
    refine (congrFun (scratch_B m d ⟨k + 1, hk⟩ h0) (ix3 g q n)).trans ?_
    have hr := reads_at m d ⟨k + 1, hk⟩ (dhB (scratchBefore m d ⟨k + 1, hk⟩)) fun g hg q n =>
      (dhB_apply _ g hg q n).trans (ih (Nat.lt_of_succ_lt hk) ⟨g, hg⟩ q n)
    exact (canon_storesH hr _ 8 le_rfl g g.isLt q n).trans
      (congrArg (fun k => stateGrad (argBC m d) (argRaw m d) (argDy m d) (argBias m d) (argLog m d) k (Cert.Ssd.chan g q) n) (chunk_back ⟨k + 1, hk⟩))

/-- At a later point the tiles hold what the formulas ask. -/
theorem later_reads (t : Fin cfg0.N) (h : ¬t.val = 0) :
    Reads (tilesAt m d t (dhB (scratchBefore m d t))) (chunk t) (argX m d) (argBC m d) (argRaw m d) (argDy m d) (argSt m d) (argBias m d) (argLog m d) :=
  reads_at m d t _ fun g hg q n => (dhB_apply _ g hg q n).trans ((scratch_eq m d (t.val - 1) _ ⟨g, hg⟩ q n).trans
    (congrArg (fun k => stateGrad (argBC m d) (argRaw m d) (argDy m d) (argBias m d) (argLog m d) k (Cert.Ssd.chan ⟨g, hg⟩ q) n) (by omega)))

/-! ## The result -/

/-- A point leaves its chunk's part of the gradient. -/
theorem block_eq (t : Fin cfg0.N) (l : Fin 128) (j : Fin 4096) :
    (outsAt0 m d t.val t.isLt).1 (ix2 l j) = part (argX m d) (argBC m d) (argRaw m d) (argDy m d) (argSt m d) (argBias m d) (argLog m d) (chunk t) l j := by
  have hlt : t.val < 128 := (idx t).2.2.2.2.2.2.2.2
  by_cases h : t.val = 0
  · exact (congrFun (block_A m d t (by omega)) (ix2 l j)).trans (canon_stores (zero_reads m d t h) l j)
  · exact (congrFun (block_B m d t (by omega)) (ix2 l j)).trans (canon_stores (later_reads m d t h) l j)

/-- The gradient, as an array. -/
def gradient : FVec Ideal S16384x4096 .f32 := fun i =>
  result (argX m d) (argBC m d) (argRaw m d) (argDy m d) (argSt m d) (argBias m d) (argLog m d) (i 0) (i 1)

/-- A point's block sits at its chunk's rows. -/
theorem placed (t : Fin cfg0.N) (l : Fin 128) (j : Fin 4096) : (win0_7.blk t).view.emb (ix2 l j) = ix2 (tok (chunk t) l) j := by
  blk_ext [idx t, tok, chunk]

/-- The result array after the run is the gradient. -/
theorem final : (dats m 0 d).arrAt 7 (cfgs 0).N = gradient m d := by
  refine (dats m 0 d).arrAt_eq_of_covers 7 _ (by decide +kernel) fun t _ y => ?_
  blk_simp
  rw [after0_7]
  obtain ⟨l, j, rfl⟩ : ∃ (l : Fin 128) (j : Fin 4096), y = ix2 l j := ⟨y 0, y 1, by funext k; fin_cases k <;> rfl⟩
  refine (block_eq m d t l j).trans ((result_tok _ _ _ _ _ _ _ (chunk t) l j).symm.trans ?_)
  refine Eq.trans ?_ (congrArg (gradient m d) (placed t l j)).symm
  rfl

end Cert.KernelIdeal.Ssd
-- ==== Proof.RefTerm.lean ====
/- The reference's returned array written as a term over its arguments, in named parts. -/
module

public import proofs.«01_k».proof.Proof.Gen.ReferenceIdeal.Run
public import Idealize.ShloMosaic.Lib.Pointwise

@[expose] public section

set_option maxRecDepth 16384

noncomputable section

namespace Cert.ReferenceIdeal.Ssd

open Cert.ReferenceIdeal Cert.ReferenceIdeal.Gen Idealize.ShloMosaic Idealize.ShloMosaic.TcCoe Idealize.SL.Sem

variable {F : FTy → Type} [FloatOps F]

/-- The steps: the softplus of the projection plus the bias. -/
def stepR (dtr : FVec F S16384x128 .f32) (db : FVec F S32 .f32) : FVec F S1x16384x32 .f32 :=
  select (cmpf .une (subf (addf (shapeCast _ (extractStridedSlice S16384x32 ![0, 0] dtr slices_S16384x128_S16384x32_0_0) shapeCasts_S16384x32_S1x16384x32) (broadcastInDim S1x16384x32 ![0, 1, 2] bcast_S1x1x32_S1x16384x32_0_1_2 (broadcastInDim S1x1x32 ![2] bcast_S32_S1x1x32_2 db))) (broadcastInDim S1x16384x32 ![] bcast_S_S1x16384x32 (constant S_ .f32 0x00000000#32))) (subf (addf (shapeCast _ (extractStridedSlice S16384x32 ![0, 0] dtr slices_S16384x128_S16384x32_0_0) shapeCasts_S16384x32_S1x16384x32) (broadcastInDim S1x16384x32 ![0, 1, 2] bcast_S1x1x32_S1x16384x32_0_1_2 (broadcastInDim S1x1x32 ![2] bcast_S32_S1x1x32_2 db))) (broadcastInDim S1x16384x32 ![] bcast_S_S1x16384x32 (constant S_ .f32 0x00000000#32)))) (addf (addf (shapeCast _ (extractStridedSlice S16384x32 ![0, 0] dtr slices_S16384x128_S16384x32_0_0) shapeCasts_S16384x32_S1x16384x32) (broadcastInDim S1x16384x32 ![0, 1, 2] bcast_S1x1x32_S1x16384x32_0_1_2 (broadcastInDim S1x1x32 ![2] bcast_S32_S1x1x32_2 db))) (broadcastInDim S1x16384x32 ![] bcast_S_S1x16384x32 (constant S_ .f32 0x00000000#32))) (addf (maximumf (addf (shapeCast _ (extractStridedSlice S16384x32 ![0, 0] dtr slices_S16384x128_S16384x32_0_0) shapeCasts_S16384x32_S1x16384x32) (broadcastInDim S1x16384x32 ![0, 1, 2] bcast_S1x1x32_S1x16384x32_0_1_2 (broadcastInDim S1x1x32 ![2] bcast_S32_S1x1x32_2 db))) (broadcastInDim S1x16384x32 ![] bcast_S_S1x16384x32 (constant S_ .f32 0x00000000#32))) (Host.log1p (Host.exp (Host.negf (Host.absf (subf (addf (shapeCast _ (extractStridedSlice S16384x32 ![0, 0] dtr slices_S16384x128_S16384x32_0_0) shapeCasts_S16384x32_S1x16384x32) (broadcastInDim S1x16384x32 ![0, 1, 2] bcast_S1x1x32_S1x16384x32_0_1_2 (broadcastInDim S1x1x32 ![2] bcast_S32_S1x1x32_2 db))) (broadcastInDim S1x16384x32 ![] bcast_S_S1x16384x32 (constant S_ .f32 0x00000000#32))))))))

/-- The running sums of a chunk's logarithmic decays. -/
def sumsR (dtr : FVec F S16384x128 .f32) (db : FVec F S32 .f32) (al : FVec F S32 .f32) : FVec F S1x128x8x4x128 .f32 :=
  Host.reduceWindowAdd ![1, 1, 1, 1, 128] ![1, 1, 1, 1, 1] ![0, 0, 0, 0, 127] ![0, 0, 0, 0, 0] (transpose S1x128x8x4x128 [0, 1, 3, 4, 2] (shapeCast _ (mulf (stepR dtr db) (broadcastInDim S1x16384x32 ![0, 1, 2] bcast_S1x1x32_S1x16384x32_0_1_2 (broadcastInDim S1x1x32 ![2] bcast_S32_S1x1x32_2 (Host.negf (Host.exp al))))) shapeCasts_S1x16384x32_S1x128x128x8x4) transposes_S1x128x128x8x4_S1x128x8x4x128_0_1_3_4_2) (broadcastInDim S_ ![] bcast_S_S_ (constant S_ .f32 0x00000000#32)) reduceWindows_S1x128x8x4x128_S1x128x8x4x128_w1s1p0_0_w1s1p0_0_w1s1p0_0_w1s1p0_0_w128s1p127_0 h_S_

/-- The logarithmic decay from one position of a chunk to another, minus infinity above the diagonal. -/
def segR (dtr : FVec F S16384x128 .f32) (db : FVec F S32 .f32) (al : FVec F S32 .f32) : FVec F S1x128x8x4x128x128 .f32 :=
  select (broadcastInDim S1x128x8x4x128x128 ![4, 5] bcast_S128x128_S1x128x8x4x128x128_4_5 (cmpi .sge (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (subf (broadcastInDim S1x128x8x4x128x128 ![0, 1, 2, 3, 4, 5] bcast_S1x128x8x4x128x1_S1x128x8x4x128x128_0_1_2_3_4_5 (broadcastInDim S1x128x8x4x128x1 ![0, 1, 2, 3, 4] bcast_S1x128x8x4x128_S1x128x8x4x128x1_0_1_2_3_4 (sumsR dtr db al))) (broadcastInDim S1x128x8x4x128x128 ![0, 1, 2, 3, 4, 5] bcast_S1x128x8x4x1x128_S1x128x8x4x128x128_0_1_2_3_4_5 (broadcastInDim S1x128x8x4x1x128 ![0, 1, 2, 3, 5] bcast_S1x128x8x4x128_S1x128x8x4x1x128_0_1_2_3_5 (sumsR dtr db al)))) (broadcastInDim S1x128x8x4x128x128 ![] bcast_S_S1x128x8x4x128x128 (id (constant S_ .f32 0xFF800000#32)))

/-- The chunk's inputs, each times its step. -/
def inR (xT : FVec F S2048x16384 .f32) (dtr : FVec F S16384x128 .f32) (db : FVec F S32 .f32) : FVec F S1x128x128x8x4x64 .f32 :=
  shapeCast _ (mulf (shapeCast _ (transpose S16384x2048 [1, 0] xT transposes_S2048x16384_S16384x2048_1_0) shapeCasts_S16384x2048_S1x16384x32x64) (broadcastInDim S1x16384x32x64 ![0, 1, 2, 3] bcast_S1x16384x32x1_S1x16384x32x64_0_1_2_3 (broadcastInDim S1x16384x32x1 ![0, 1, 2] bcast_S1x16384x32_S1x16384x32x1_0_1_2 (stepR dtr db)))) shapeCasts_S1x16384x32x64_S1x128x128x8x4x64

/-- The gradient of the products `C·B` inside a chunk, a group's four heads together. -/
def dcbR (xT : FVec F S2048x16384 .f32) (dtr : FVec F S16384x128 .f32) (dyT : FVec F S2048x16384 .f32) (db : FVec F S32 .f32) (al : FVec F S32 .f32) : FVec F S1x128x8x128x128 .f32 :=
  broadcastInDim S1x128x8x128x128 ![1, 2, 3, 4] bcast_S128x8x128x128_S1x128x8x128x128_1_2_3_4 (Host.reduceAdd (shapeCast _ (Host.reduceAdd (mulf (Host.dotGeneral dot_S1x128x8x4x64x128_S1x128x128x8x4x64_S1x128x8x4x128x128_4_5_5_2_0123_0134 none (transpose S1x128x8x4x64x128 [0, 1, 3, 4, 5, 2] (shapeCast _ (transpose S16384x2048 [1, 0] dyT transposes_S2048x16384_S16384x2048_1_0) shapeCasts_S16384x2048_S1x128x128x8x4x64) transposes_S1x128x128x8x4x64_S1x128x8x4x64x128_0_1_3_4_5_2) (inR xT dtr db)) (Host.exp (segR dtr db al))) (constant S_ .f32 0x00000000#32) reducesTo_S1x128x8x4x128x128_S1x128x8x128x128_d3 h_S_) shapeCasts_S1x128x8x128x128_S1x128x8x1x128x128) (constant S_ .f32 0x00000000#32) reducesTo_S1x128x8x1x128x128_S128x8x128x128_d0_3 h_S_)

/-- The gradient of the inputs. -/
def gradXR (bc : FVec F S16384x2048 .f32) (dtr : FVec F S16384x128 .f32) (dyT : FVec F S2048x16384 .f32) (db : FVec F S32 .f32) (al : FVec F S32 .f32) (dn : FVec F S128x1x8x4x64x128 .f32) : FVec F S16384x2048 .f32 :=
  shapeCast _ (mulf (shapeCast _ (addf (mulf (transpose S1x128x128x8x4x64 [0, 1, 5, 2, 3, 4] (Host.dotGeneral dot_S1x128x8x4x64x128_S1x128x128x8x128_S1x128x8x4x64x128_5_4_34_2_012_013 none (transpose S1x128x8x4x64x128 [1, 0, 2, 3, 4, 5] dn transposes_S128x1x8x4x64x128_S1x128x8x4x64x128_1_0_2_3_4_5) (shapeCast _ (extractStridedSlice S16384x1024 ![0, 0] bc slices_S16384x2048_S16384x1024_0_0) shapeCasts_S16384x1024_S1x128x128x8x128)) transposes_S1x128x8x4x64x128_S1x128x128x8x4x64_0_1_5_2_3_4) (broadcastInDim S1x128x128x8x4x64 ![0, 1, 2, 3, 4, 5] bcast_S1x128x128x8x4x1_S1x128x128x8x4x64_0_1_2_3_4_5 (broadcastInDim S1x128x128x8x4x1 ![0, 1, 2, 3, 4] bcast_S1x128x128x8x4_S1x128x128x8x4x1_0_1_2_3_4 (transpose S1x128x128x8x4 [0, 1, 4, 2, 3] (Host.exp (subf (broadcastInDim S1x128x8x4x128 ![0, 1, 2, 3, 4] bcast_S1x128x8x4x1_S1x128x8x4x128_0_1_2_3_4 (extractStridedSlice S1x128x8x4x1 ![0, 0, 0, 0, 127] (sumsR dtr db al) slices_S1x128x8x4x128_S1x128x8x4x1_0_0_0_0_127)) (sumsR dtr db al))) transposes_S1x128x8x4x128_S1x128x128x8x4_0_1_4_2_3)))) (transpose S1x128x128x8x4x64 [0, 1, 5, 2, 3, 4] (Host.dotGeneral dot_S1x128x8x4x64x128_S1x128x8x4x128x128_S1x128x8x4x64x128_5_4_4_5_0123_0123 none (transpose S1x128x8x4x64x128 [0, 1, 3, 4, 5, 2] (shapeCast _ (transpose S16384x2048 [1, 0] dyT transposes_S2048x16384_S16384x2048_1_0) shapeCasts_S16384x2048_S1x128x128x8x4x64) transposes_S1x128x128x8x4x64_S1x128x8x4x64x128_0_1_3_4_5_2) (mulf (broadcastInDim S1x128x8x4x128x128 ![0, 1, 2, 3, 4, 5] bcast_S1x128x8x1x128x128_S1x128x8x4x128x128_0_1_2_3_4_5 (broadcastInDim S1x128x8x1x128x128 ![0, 1, 2, 4, 5] bcast_S1x128x8x128x128_S1x128x8x1x128x128_0_1_2_4_5 (Host.dotGeneral dot_S1x128x128x8x128_S1x128x128x8x128_S1x128x8x128x128_4_4_2_2_013_013 none (shapeCast _ (extractStridedSlice S16384x1024 ![0, 1024] bc slices_S16384x2048_S16384x1024_0_1024) shapeCasts_S16384x1024_S1x128x128x8x128) (shapeCast _ (extractStridedSlice S16384x1024 ![0, 0] bc slices_S16384x2048_S16384x1024_0_0) shapeCasts_S16384x1024_S1x128x128x8x128)))) (Host.exp (segR dtr db al)))) transposes_S1x128x8x4x64x128_S1x128x128x8x4x64_0_1_5_2_3_4)) shapeCasts_S1x128x128x8x4x64_S1x16384x32x64) (broadcastInDim S1x16384x32x64 ![0, 1, 2, 3] bcast_S1x16384x32x1_S1x16384x32x64_0_1_2_3 (broadcastInDim S1x16384x32x1 ![0, 1, 2] bcast_S1x16384x32_S1x16384x32x1_0_1_2 (stepR dtr db)))) shapeCasts_S1x16384x32x64_S16384x2048

/-- The gradient of `B`. -/
def gradBR (xT : FVec F S2048x16384 .f32) (bc : FVec F S16384x2048 .f32) (dtr : FVec F S16384x128 .f32) (dyT : FVec F S2048x16384 .f32) (db : FVec F S32 .f32) (al : FVec F S32 .f32) (dn : FVec F S128x1x8x4x64x128 .f32) : FVec F S16384x1024 .f32 :=
  shapeCast _ (addf (transpose S1x128x128x8x128 [0, 1, 4, 2, 3] (Host.dotGeneral dot_S1x128x8x4x64x128_S1x128x128x8x4x64_S1x128x8x128x128_34_45_5_2_012_013 none (transpose S1x128x8x4x64x128 [1, 0, 2, 3, 4, 5] dn transposes_S128x1x8x4x64x128_S1x128x8x4x64x128_1_0_2_3_4_5) (mulf (inR xT dtr db) (broadcastInDim S1x128x128x8x4x64 ![0, 1, 2, 3, 4, 5] bcast_S1x128x128x8x4x1_S1x128x128x8x4x64_0_1_2_3_4_5 (broadcastInDim S1x128x128x8x4x1 ![0, 1, 2, 3, 4] bcast_S1x128x128x8x4_S1x128x128x8x4x1_0_1_2_3_4 (transpose S1x128x128x8x4 [0, 1, 4, 2, 3] (Host.exp (subf (broadcastInDim S1x128x8x4x128 ![0, 1, 2, 3, 4] bcast_S1x128x8x4x1_S1x128x8x4x128_0_1_2_3_4 (extractStridedSlice S1x128x8x4x1 ![0, 0, 0, 0, 127] (sumsR dtr db al) slices_S1x128x8x4x128_S1x128x8x4x1_0_0_0_0_127)) (sumsR dtr db al))) transposes_S1x128x8x4x128_S1x128x128x8x4_0_1_4_2_3))))) transposes_S1x128x8x128x128_S1x128x128x8x128_0_1_4_2_3) (transpose S1x128x128x8x128 [0, 1, 3, 2, 4] (Host.dotGeneral dot_S1x128x8x128x128_S1x128x128x8x128_S1x128x8x128x128_3_2_4_4_012_013 none (dcbR xT dtr dyT db al) (shapeCast _ (extractStridedSlice S16384x1024 ![0, 1024] bc slices_S16384x2048_S16384x1024_0_1024) shapeCasts_S16384x1024_S1x128x128x8x128)) transposes_S1x128x8x128x128_S1x128x128x8x128_0_1_3_2_4)) shapeCasts_S1x128x128x8x128_S16384x1024

/-- The gradient of `C`. -/
def gradCR (xT : FVec F S2048x16384 .f32) (bc : FVec F S16384x2048 .f32) (dtr : FVec F S16384x128 .f32) (dyT : FVec F S2048x16384 .f32) (st : FVec F S128x8x256x128 .f32) (db : FVec F S32 .f32) (al : FVec F S32 .f32) : FVec F S16384x1024 .f32 :=
  shapeCast _ (addf (transpose S1x128x128x8x128 [0, 1, 3, 2, 4] (Host.dotGeneral dot_S1x128x8x4x64x128_S1x128x8x4x64x128_S1x128x8x128x128_34_34_5_5_012_012 none (transpose S1x128x8x4x64x128 [0, 1, 3, 4, 5, 2] (mulf (shapeCast _ (transpose S16384x2048 [1, 0] dyT transposes_S2048x16384_S16384x2048_1_0) shapeCasts_S16384x2048_S1x128x128x8x4x64) (broadcastInDim S1x128x128x8x4x64 ![0, 1, 2, 3, 4, 5] bcast_S1x128x128x8x4x1_S1x128x128x8x4x64_0_1_2_3_4_5 (broadcastInDim S1x128x128x8x4x1 ![0, 1, 2, 3, 4] bcast_S1x128x128x8x4_S1x128x128x8x4x1_0_1_2_3_4 (transpose S1x128x128x8x4 [0, 1, 4, 2, 3] (Host.exp (sumsR dtr db al)) transposes_S1x128x8x4x128_S1x128x128x8x4_0_1_4_2_3)))) transposes_S1x128x128x8x4x64_S1x128x8x4x64x128_0_1_3_4_5_2) (shapeCast _ st shapeCasts_S128x8x256x128_S1x128x8x4x64x128)) transposes_S1x128x8x128x128_S1x128x128x8x128_0_1_3_2_4) (transpose S1x128x128x8x128 [0, 1, 3, 2, 4] (Host.dotGeneral dot_S1x128x8x128x128_S1x128x128x8x128_S1x128x8x128x128_4_2_3_4_012_013 none (dcbR xT dtr dyT db al) (shapeCast _ (extractStridedSlice S16384x1024 ![0, 0] bc slices_S16384x2048_S16384x1024_0_0) shapeCasts_S16384x1024_S1x128x128x8x128)) transposes_S1x128x8x128x128_S1x128x128x8x128_0_1_3_2_4)) shapeCasts_S1x128x128x8x128_S16384x1024

/-- The reference's result, from its arguments and the gradients of the states after the chunks. -/
def resultR (xT : FVec F S2048x16384 .f32) (bc : FVec F S16384x2048 .f32) (dtr : FVec F S16384x128 .f32) (dyT : FVec F S2048x16384 .f32) (st : FVec F S128x8x256x128 .f32) (db : FVec F S32 .f32) (al : FVec F S32 .f32) (dn : FVec F S128x1x8x4x64x128 .f32) : FVec F S16384x4096 .f32 :=
  concatenate S16384x4096 1 [⟨S16384x2048, ((gradXR bc dtr dyT db al dn))⟩, ⟨S16384x1024, ((gradBR xT bc dtr dyT db al dn))⟩, ⟨S16384x1024, ((gradCR xT bc dtr dyT st db al))⟩] concatenates_S16384x2048_S16384x1024_S16384x1024_S16384x4096_d1

theorem out_eq (V0 : Valuation τ sig (Elt F)) : Value.out_main_v211 V0 = resultR (V0 (Proc.devRef .tc main_arg0)) (V0 (Proc.devRef .tc main_arg1))
    (V0 (Proc.devRef .tc main_arg2)) (V0 (Proc.devRef .tc main_arg3)) (V0 (Proc.devRef .tc main_arg4)) (V0 (Proc.devRef .tc main_arg5))
    (V0 (Proc.devRef .tc main_arg6)) (V0 (Proc.devRef .tc main_v37_4)) := rfl

end Cert.ReferenceIdeal.Ssd
-- ==== Proof.RefBase.lean ====
/- Building blocks of the reference's term, read entry by entry: running sums, sums over axes, steps and decays. -/
module

public import proofs.«01_k».proof.Proof.RefTerm
public import proofs.«01_k».proof.Proof.Spec
public import Idealize.ShloMosaic.Lib.Pointwise
public import Idealize.ShloMosaic.Lib.WordCmp

@[expose] public section

set_option maxRecDepth 16384

noncomputable section

namespace Cert.ReferenceIdeal.Ssd

open Cert.ReferenceIdeal Cert.ReferenceIdeal.Gen Idealize.ShloMosaic Cert.Ssd

/-! ## Sums as the reference writes them -/

/-- A left fold of addition is a sum. -/
theorem foldl_sum {n : ℕ} (f : Fin n → EReal) : (List.finRange n).foldl (fun r k => r + f k) 0 = ∑ k, f k := by
  rw [Fin.sum_univ_def, List.sum_eq_foldl, List.foldl_map]

/-- A window's position is its last coordinate. -/
def windowPos : Fin 128 ≃ (⟨5, ![1, 1, 1, 1, 128]⟩ : Shape).Idx where
  toFun w := ix5 0 0 0 0 w
  invFun i := i 4
  left_inv w := rfl
  right_inv i := by
    rw [eq_ix5 i]
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
    | ⟨4, _⟩ => rfl

/-- The host's running sum along the last axis, at an index. -/
theorem window_apply (x : FVec Ideal S1x128x8x4x128 .f32) (i : FVec Ideal S_ .f32) (hi : ∀ k, i k = 0)
    (h : S1x128x8x4x128.ReduceWindows ![1, 1, 1, 1, 128] ![1, 1, 1, 1, 1] ![0, 0, 0, 0, 127] ![0, 0, 0, 0, 0] S1x128x8x4x128)
    (hu : 0 < S_.numel) (c : Fin 128) (g : Fin 8) (r : Fin 4) (l : Fin 128) :
    Host.reduceWindowAdd ![1, 1, 1, 1, 128] ![1, 1, 1, 1, 1] ![0, 0, 0, 0, 127] ![0, 0, 0, 0, 0] x i h hu
        (ix5 (n0 := 1) (n1 := 128) (n2 := 8) (n3 := 4) (n4 := 128) 0 c g r l)
      = ∑ k : Fin 128, if k ≤ l then x (ix5 0 c g r k) else 0 := by
  unfold Host.reduceWindowAdd
  rw [Ideal.hostReduceWindowAdd_def, hi]
  unfold Ideal.hostReduceWindowAdd Host.reduceWindow
  refine (foldl_sum _).trans ?_
  rw [← Equiv.sum_comp (windowPos.trans (⟨5, ![1, 1, 1, 1, 128]⟩ : Shape).rowMajor),
    ← Equiv.sum_comp (Equiv.addRight (l + 1)) (fun k : Fin 128 => if k ≤ l then x (ix5 0 c g r k) else 0)]
  simp only [Equiv.trans_apply, Equiv.symm_apply_apply]
  refine Finset.sum_congr rfl fun w _ => ?_
  have hl := l.isLt
  have hw := w.isLt
  have hk : (w + (l + 1)).val = (w.val + l.val + 1) % 128 := by
    rw [Fin.val_add, Fin.val_add]; simp; omega
  show _ = if w + (l + 1) ≤ l then x (ix5 0 c g r (w + (l + 1))) else 0
  by_cases hc : 127 ≤ l.val + w.val
  · have hv : (w + (l + 1)).val = l.val + w.val - 127 := by rw [hk]; omega
    rw [if_pos (by rw [Fin.le_def, hv]; omega), dif_pos]
    · congr 1
      funext a
      apply Fin.ext
      fin_cases a
      · rfl
      · show c.val * 1 + 0 - 0 = c.val; omega
      · show g.val * 1 + 0 - 0 = g.val; omega
      · show r.val * 1 + 0 - 0 = r.val; omega
      · show l.val * 1 + w.val - 127 = (w + (l + 1)).val; rw [hv]; omega
    · intro a
      fin_cases a
      · exact ⟨Nat.zero_le _, by show 0 * 1 + 0 - 0 < 1; decide⟩
      · exact ⟨Nat.zero_le _, by show c.val * 1 + 0 - 0 < 128; omega⟩
      · exact ⟨Nat.zero_le _, by show g.val * 1 + 0 - 0 < 8; omega⟩
      · exact ⟨Nat.zero_le _, by show r.val * 1 + 0 - 0 < 4; omega⟩
      · exact ⟨by show 127 ≤ l.val * 1 + w.val; omega, by show l.val * 1 + w.val - 127 < 128; omega⟩
  · rw [if_neg (by rw [Fin.le_def, hk]; omega), dif_neg]
    intro hin
    have := (hin 4).1
    change 127 ≤ l.val * 1 + w.val at this
    omega

/-- The sum over the fourth of six axes. -/
theorem reduce3_apply (h : S1x128x8x4x128x128.ReducesTo [3] S1x128x8x128x128) (v : S1x128x8x4x128x128.Idx → EReal) (i : EReal)
    (c : Fin 128) (g : Fin 8) (l s : Fin 128) :
    Ideal.hostReduceAdd h v i (ix5 (n0 := 1) (n1 := 128) (n2 := 8) (n3 := 128) (n4 := 128) 0 c g l s) = i + ∑ r : Fin 4, v (ix6 0 c g r l s) := by
  refine congrArg (i + ·) (Finset.sum_filter_eq_sum_of_fiber _ (fun r : Fin 4 => ix6 (n0 := 1) (n1 := 128) (n2 := 8) (n3 := 4) (n4 := 128) (n5 := 128) 0 c g r l s)
    (fun _ _ e => congrFun e 3) (fun k => ?_) v)
  constructor
  · intro e
    refine ⟨k 3, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => exact (congrArg Fin.val (congrFun e 4)).symm
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- The sum over two axes of one entry each. -/
theorem reduce03_apply (h : S1x128x8x1x128x128.ReducesTo [0, 3] S128x8x128x128) (v : S1x128x8x1x128x128.Idx → EReal) (i : EReal)
    (c : Fin 128) (g : Fin 8) (l s : Fin 128) :
    Ideal.hostReduceAdd h v i (ix4 (n0 := 128) (n1 := 8) (n2 := 128) (n3 := 128) c g l s) = i + v (ix6 0 c g 0 l s) := by
  refine congrArg (i + ·) ((Finset.sum_filter_eq_sum_of_fiber _ (fun r : Fin 1 => ix6 (n0 := 1) (n1 := 128) (n2 := 8) (n3 := 1) (n4 := 128) (n5 := 128) 0 c g r l s)
    (fun _ _ e => congrFun e 3) (fun k => ?_) v).trans (Fin.sum_univ_one _))
  constructor
  · intro e
    refine ⟨k 3, ?_⟩
    funext a; apply Fin.ext
    match a with
    | ⟨0, _⟩ => exact congrArg Fin.val (Subsingleton.elim (α := Fin 1) _ _)
    | ⟨1, _⟩ => exact (congrArg Fin.val (congrFun e 0)).symm
    | ⟨2, _⟩ => exact (congrArg Fin.val (congrFun e 1)).symm
    | ⟨3, _⟩ => rfl
    | ⟨4, _⟩ => exact (congrArg Fin.val (congrFun e 2)).symm
    | ⟨5, _⟩ => exact (congrArg Fin.val (congrFun e 3)).symm
  · rintro ⟨k, rfl⟩
    funext b
    apply Fin.ext
    match b with
    | ⟨0, _⟩ => rfl
    | ⟨1, _⟩ => rfl
    | ⟨2, _⟩ => rfl
    | ⟨3, _⟩ => rfl

/-- A finite factor that is not negative comes out of a sum. -/
theorem sum_mul_real {ι : Type} (S : Finset ι) (f : ι → EReal) (r : EReal) (h0 : 0 ≤ r) (h1 : r ≠ ⊤) :
    ∑ k ∈ S, f k * r = (∑ k ∈ S, f k) * r := by
  classical
  induction S using Finset.induction_on with
  | empty => simp
  | insert a S ha ih => rw [Finset.sum_insert ha, Finset.sum_insert ha, ih, EReal.right_distrib_of_nonneg_of_ne_top h0 h1]

/-! ## The reference's arrays, entry by entry -/

section
variable (xT dyT : FVec Ideal S2048x16384 .f32) (bc : FVec Ideal S16384x2048 .f32) (dtr : FVec Ideal S16384x128 .f32)
  (st : FVec Ideal S128x8x256x128 .f32) (db al : FVec Ideal S32 .f32) (dn : FVec Ideal S128x1x8x4x64x128 .f32)

/-- The arguments as the formulas read them. -/
abbrev xOf (j : Fin 2048) (s : Fin 16384) : EReal := xT (ix2 j s)
abbrev bcOf (s : Fin 16384) (j : Fin 2048) : EReal := bc (ix2 s j)
abbrev rawOf (s : Fin 16384) (h : Fin 32) : EReal := dtr (ix2 s ⟨h.val, by omega⟩)
abbrev stOf (c : Fin 128) (g : Fin 8) (q : Fin 256) (n : Fin 128) : EReal := st (ix4 c g q n)
abbrev vecOf (v : FVec Ideal S32 .f32) (h : Fin 32) : EReal := v (ix1 h)

theorem stepR_apply (s : Fin 16384) (h : Fin 32) : stepR dtr db (ix3 0 s h) = step (rawOf dtr) (vecOf db) s h := by
  pointwise [stepR, step, softplus]
  rw [if_neg (fun h => h rfl)]
  rfl

theorem sumsR_apply (c : Fin 128) (g : Fin 8) (r : Fin 4) (l : Fin 128) :
    sumsR dtr db al (ix5 0 c g r l) = sums (rawOf dtr) (vecOf db) (vecOf al) c (hdAt g r) l := by
  unfold sumsR
  rw [window_apply]
  · unfold sums
    refine Finset.sum_congr rfl fun k _ => ?_
    pointwise [stepR_apply]
    rfl
  · intro k
    pointwise []

theorem seg_apply (c : Fin 128) (g : Fin 8) (r : Fin 4) (l s : Fin 128) :
    Ideal.exp (segR dtr db al (ix6 0 c g r l s)) = decay (rawOf dtr) (vecOf db) (vecOf al) c (hdAt g r) l s := by
  have hle : ∀ a b : EReal, Scalar.select (IntOp.cmpi CmpIPredicate.sge (BitVec.ofNat 32 ↑l) (BitVec.ofNat 32 ↑s)) a b = if s ≤ l then a else b := by
    intro a b
    have h : IntOp.cmpi CmpIPredicate.sge (BitVec.ofNat 32 ↑l) (BitVec.ofNat 32 ↑s) = 1#1 ↔ s ≤ l := by
      rw [Fin.le_def]; word_cmp
    by_cases hs : s ≤ l
    · rw [if_pos hs, h.mpr hs]; rfl
    · rw [if_neg hs]
      have : IntOp.cmpi CmpIPredicate.sge (BitVec.ofNat 32 ↑l) (BitVec.ofNat 32 ↑s) ≠ 1#1 := fun h' => hs (h.mp h')
      simp [Scalar.select, this]
  pointwise [segR, sumsR_apply, decay]
  rw [hle]
  have hb : (id (constant S_ FTy.f32 4286578688#32) ix0 : Ideal .f32) = (⊥ : EReal) := by
    pointwise [id]
    unfold Ideal.ofBits; rfl
  rw [hb]

end

end Cert.ReferenceIdeal.Ssd
-- ==== Proof.RefRead.lean ====
/- The three parts of the reference's result, read entry by entry. -/
module

public import proofs.«01_k».proof.Proof.RefBase
public import Idealize.ShloMosaic.Lib.Pointwise
public import Idealize.ShloMosaic.Lib.WordCmp

@[expose] public section

set_option maxRecDepth 16384

noncomputable section

namespace Cert.ReferenceIdeal.Ssd

open Cert.ReferenceIdeal Cert.ReferenceIdeal.Gen Idealize.ShloMosaic Cert.Ssd

section
variable (xT dyT : FVec Ideal S2048x16384 .f32) (bc : FVec Ideal S16384x2048 .f32) (dtr : FVec Ideal S16384x128 .f32)
  (st : FVec Ideal S128x8x256x128 .f32) (db al : FVec Ideal S32 .f32) (dn : FVec Ideal S128x1x8x4x64x128 .f32)

theorem inR_apply (c l : Fin 128) (g : Fin 8) (r : Fin 4) (p : Fin 64) : inR xT dtr db (ix6 0 c l g r p) =
    xT (ix2 (chan g (chanAt r p)) (tok c l)) * step (rawOf dtr) (vecOf db) (tok c l) (hdAt g r) := by
  pointwise [inR, stepR_apply]
  have e : ∀ h, (⟨(g.val * 4 + r.val) * 64 + p.val, h⟩ : Fin 2048) = chan g (chanAt r p) := fun h => Fin.ext (by simp only [chan, chanAt]; omega)
  rw [e]; rfl

/-- Every step is a finite number that is not negative. -/
def StepsFinite : Prop := ∀ s h, 0 ≤ step (rawOf dtr) (vecOf db) s h ∧ step (rawOf dtr) (vecOf db) s h ≠ ⊤

theorem dcbR_apply (hf : StepsFinite dtr db) (c l s : Fin 128) (g : Fin 8) : dcbR xT dtr dyT db al (ix5 0 c g l s) =
    dcb (xOf xT) (rawOf dtr) (xOf dyT) (vecOf db) (vecOf al) c g l s := by
  pointwise [dcbR, inR_apply, reduce3_apply, reduce03_apply, seg_apply]
  unfold dcb
  refine Finset.sum_congr rfl fun r _ => ?_
  have e : ∀ (p : Fin 64) h, (⟨g.val * 256 + r.val * 64 + p.val, h⟩ : Fin 2048) = chan g (chanAt r p) := fun p h => Fin.ext (by simp only [chan, chanAt]; omega)
  simp only [e, ← mul_assoc]
  rw [sum_mul_real _ _ _ (hf _ _).1 (hf _ _).2, mul_assoc, mul_comm (step _ _ _ _), ← mul_assoc]
  rfl

theorem gradCR_apply (hf : StepsFinite dtr db) (s : Fin 16384) (j : Fin 1024) : gradCR xT bc dtr dyT st db al (ix2 s j) =
    gradC (xOf xT) (bcOf bc) (rawOf dtr) (xOf dyT) (stOf st) (vecOf db) (vecOf al) ⟨s.val / 128, by omega⟩ ⟨s.val % 128, by omega⟩
      ⟨j.val / 128, by omega⟩ ⟨j.val % 128, by omega⟩ := by
  pointwise [gradCR, sumsR_apply, dcbR_apply xT dyT dtr db al hf]
  unfold gradC dyOut
  have e : ∀ (r : Fin 4) (p : Fin 64) h, (⟨j.val / 128 * 256 + r.val * 64 + p.val, h⟩ : Fin 2048) = chan ⟨j.val / 128, by omega⟩ (chanAt r p) :=
    fun r p h => Fin.ext (by simp only [chan, chanAt]; omega)
  have e2 : colB ⟨j.val / 128, by omega⟩ ⟨j.val % 128, by omega⟩ = ⟨j.val, by omega⟩ := Fin.ext (by simp only [colB]; omega)
  refine (add_comm _ _).trans (congrArg₂ (· + ·) (Finset.sum_congr rfl fun x _ => ?_)
    (Eq.trans (Finset.sum_congr rfl fun r _ => Finset.sum_congr rfl fun p _ => ?_) (sum_chanAt _).symm))
  · rw [e2]; rfl
  · refine congrArg₂ (· * ·) (congrArg₂ (· * ·) ?_ ?_) rfl
    · exact congrArg₂ (fun a b => dyT (ix2 a b)) (e r p _) (tok_self s _ _).symm
    · exact congrArg (fun h => Ideal.exp (sums (rawOf dtr) (vecOf db) (vecOf al) ⟨s.val / 128, by omega⟩ h ⟨s.val % 128, by omega⟩)) (hd_chan _ r p).symm

theorem gradBR_apply (hf : StepsFinite dtr db)
    (hdn : ∀ c g r p n, dn (ix6 c 0 g r p n) = stateGrad (bcOf bc) (rawOf dtr) (xOf dyT) (vecOf db) (vecOf al) (127 - c.val) (chan g (chanAt r p)) n)
    (s : Fin 16384) (j : Fin 1024) : gradBR xT bc dtr dyT db al dn (ix2 s j) =
    gradB (xOf xT) (bcOf bc) (rawOf dtr) (xOf dyT) (vecOf db) (vecOf al) ⟨s.val / 128, by omega⟩ ⟨s.val % 128, by omega⟩
      ⟨j.val / 128, by omega⟩ ⟨j.val % 128, by omega⟩ := by
  pointwise [gradBR, sumsR_apply, inR_apply, dcbR_apply xT dyT dtr db al hf]
  unfold gradB toEnd
  have e2 : colC ⟨j.val / 128, by omega⟩ ⟨j.val % 128, by omega⟩ = ⟨1024 + j.val, by omega⟩ := Fin.ext (by simp only [colC]; omega)
  refine (add_comm _ _).trans (congrArg₂ (· + ·) (Finset.sum_congr rfl fun x _ => ?_)
    (Eq.trans (Finset.sum_congr rfl fun r _ => Finset.sum_congr rfl fun p _ => ?_) (sum_chanAt _).symm))
  · rw [e2]; rfl
  · refine (mul_comm _ _).trans (congrArg₂ (· * ·) ?_ (hdn _ _ _ _ _))
    exact (mul_assoc _ _ _).trans (congrArg₂ (· * ·) rfl ((mul_comm _ _).trans (congrArg (fun h => Ideal.exp
      (sums (rawOf dtr) (vecOf db) (vecOf al) ⟨s.val / 128, by omega⟩ h 127 -
        sums (rawOf dtr) (vecOf db) (vecOf al) ⟨s.val / 128, by omega⟩ h ⟨s.val % 128, by omega⟩) *
      step (rawOf dtr) (vecOf db) (tok ⟨s.val / 128, by omega⟩ ⟨s.val % 128, by omega⟩) h) (hd_chan _ r p).symm)))

theorem gradXR_apply
    (hdn : ∀ c g r p n, dn (ix6 c 0 g r p n) = stateGrad (bcOf bc) (rawOf dtr) (xOf dyT) (vecOf db) (vecOf al) (127 - c.val) (chan g (chanAt r p)) n)
    (s : Fin 16384) (j : Fin 2048) : gradXR bc dtr dyT db al dn (ix2 s j) =
    gradX (bcOf bc) (rawOf dtr) (xOf dyT) (vecOf db) (vecOf al) ⟨s.val / 128, by omega⟩ ⟨s.val % 128, by omega⟩ j := by
  pointwise [gradXR, sumsR_apply, inR_apply, seg_apply, stepR_apply]
  have e1 : hdAt ⟨j.val / 64 / 4, by omega⟩ ⟨j.val / 64 % 4, by omega⟩ = hd j := Fin.ext (by simp only [hdAt, hd]; omega)
  have e2 : chan ⟨j.val / 64 / 4, by omega⟩ (chanAt ⟨j.val / 64 % 4, by omega⟩ ⟨j.val % 64, by omega⟩) = j :=
    Fin.ext (by simp only [chan, chanAt]; omega)
  have e3 : ∀ (n : Fin 128) h, (⟨j.val / 64 / 4 * 128 + n.val, h⟩ : Fin 2048) = colB (grp j) n := fun n h => Fin.ext (by simp only [colB, grp]; omega)
  have e4 : ∀ (n : Fin 128) h, (⟨1024 + (j.val / 64 / 4 * 128 + n.val), h⟩ : Fin 2048) = colC (grp j) n :=
    fun n h => Fin.ext (by simp only [colC, grp]; omega)
  unfold gradX toEnd
  refine congrArg₂ (· * ·) ((add_comm _ _).trans (congrArg₂ (· + ·)
    (Finset.sum_congr rfl fun l _ => congrArg₂ (· * ·) rfl (congrArg₂ (· * ·) (Finset.sum_congr rfl fun n _ => ?_) ?_))
    (congrArg₂ (· * ·) (Finset.sum_congr rfl fun n _ => congrArg₂ (· * ·) ?_ ?_) ?_))) ?_
  · exact congrArg₂ (· * ·) (congrArg (fun a => bc (ix2 _ a)) (e4 n _)) (congrArg₂ (fun a b => bc (ix2 a b)) (tok_self s _ _).symm (e3 n _))
  · exact congrArg (fun h => decay (rawOf dtr) (vecOf db) (vecOf al) _ h l _) e1
  · exact (hdn _ _ _ _ _).trans (congrArg (fun a => stateGrad (bcOf bc) (rawOf dtr) (xOf dyT) (vecOf db) (vecOf al) _ a n) e2)
  · exact congrArg₂ (fun a b => bc (ix2 a b)) (tok_self s _ _).symm (e3 n _)
  · exact congrArg (fun h => Ideal.exp (sums (rawOf dtr) (vecOf db) (vecOf al) _ h 127 - sums (rawOf dtr) (vecOf db) (vecOf al) _ h _)) e1
  · exact congrArg (fun a => step (rawOf dtr) (vecOf db) a (hd j)) (tok_self s _ _).symm

/-- The reference's result, entry by entry. -/
theorem resultR_apply (hf : StepsFinite dtr db)
    (hdn : ∀ c g r p n, dn (ix6 c 0 g r p n) = stateGrad (bcOf bc) (rawOf dtr) (xOf dyT) (vecOf db) (vecOf al) (127 - c.val) (chan g (chanAt r p)) n)
    (s : Fin 16384) (j : Fin 4096) : resultR xT bc dtr dyT st db al dn (ix2 s j) =
    result (xOf xT) (bcOf bc) (rawOf dtr) (xOf dyT) (stOf st) (vecOf db) (vecOf al) s j := by
  pointwise [resultR, gradXR_apply dyT bc dtr db al dn hdn, gradBR_apply xT dyT bc dtr db al dn hf hdn, gradCR_apply xT dyT bc dtr st db al hf, result]

end

end Cert.ReferenceIdeal.Ssd
-- ==== Proof.RefLoop.lean ====
/- The reference's backward loop over the chunks, and with it the array the reference returns, entry by entry. -/
module

public import proofs.«01_k».proof.Proof.RefRead
public import Idealize.ShloMosaic.Lib.WordCmp

@[expose] public section

set_option maxRecDepth 16384

noncomputable section

namespace Cert.ReferenceIdeal.Ssd

open Cert.ReferenceIdeal Cert.ReferenceIdeal.Gen Cert.ReferenceIdeal.Value Idealize.ShloMosaic Idealize.ShloMosaic.TcCoe Idealize.SL.Sem Cert.Ssd
open Idealize.ShloMosaic.StableHlo Idealize.ShloMosaic.Tactic

section generic
variable {F : FTy → Type} [FloatOps F]

/-- What the outputs of each chunk send to the state before it. -/
def sentR (bc : FVec F S16384x2048 .f32) (dtr : FVec F S16384x128 .f32) (dyT : FVec F S2048x16384 .f32) (db al : FVec F S32 .f32) : FVec F S128x1x8x4x64x128 .f32 :=
  transpose S128x1x8x4x64x128 [1, 0, 2, 3, 4, 5] (Host.dotGeneral dot_S1x128x8x4x64x128_S1x128x128x8x128_S1x128x8x4x64x128_5_2_34_4_012_013 none
    (transpose S1x128x8x4x64x128 [0, 1, 3, 4, 5, 2] (mulf
        (shapeCast _ (transpose S16384x2048 [1, 0] dyT transposes_S2048x16384_S16384x2048_1_0) shapeCasts_S16384x2048_S1x128x128x8x4x64)
        (broadcastInDim S1x128x128x8x4x64 ![0, 1, 2, 3, 4, 5] bcast_S1x128x128x8x4x1_S1x128x128x8x4x64_0_1_2_3_4_5
          (broadcastInDim S1x128x128x8x4x1 ![0, 1, 2, 3, 4] bcast_S1x128x128x8x4_S1x128x128x8x4x1_0_1_2_3_4
            (transpose S1x128x128x8x4 [0, 1, 4, 2, 3] (Host.exp (sumsR dtr db al)) transposes_S1x128x8x4x128_S1x128x128x8x4_0_1_4_2_3))))
      transposes_S1x128x128x8x4x64_S1x128x8x4x64x128_0_1_3_4_5_2)
    (shapeCast _ (extractStridedSlice S16384x1024 ![0, 1024] bc slices_S16384x2048_S16384x1024_0_1024) shapeCasts_S16384x1024_S1x128x128x8x128))
    transposes_S1x128x8x4x64x128_S128x1x8x4x64x128_1_0_2_3_4_5

/-- The decay over each chunk. -/
def decR (dtr : FVec F S16384x128 .f32) (db al : FVec F S32 .f32) : FVec F S128x1x8x4 .f32 :=
  transpose S128x1x8x4 [1, 0, 2, 3] (Host.exp (shapeCast S1x128x8x4
    (extractStridedSlice S1x128x8x4x1 ![0, 0, 0, 0, 127] (sumsR dtr db al) slices_S1x128x8x4x128_S1x128x8x4x1_0_0_0_0_127)
    shapeCasts_S1x128x8x4x1_S1x128x8x4)) transposes_S1x128x8x4_S128x1x8x4_1_0_2_3

variable (m : (ℓ : Loc nD τ sig) → Buf (Elt F) ℓ) (c : Dev nD)

set_option maxHeartbeats 2000000 in
theorem entry_sent : entryContents preI m c (Proc.devRef .tc main_v37_0) =
    sentR (m ((c.tc : Thread nD τ).loc main_arg1)) (m ((c.tc : Thread nD τ).loc main_arg2)) (m ((c.tc : Thread nD τ).loc main_arg3))
      (m ((c.tc : Thread nD τ).loc main_arg5)) (m ((c.tc : Thread nD τ).loc main_arg6)) := by
  simp only [entryContents, afterL_cons, afterL_nil]
  after_reads_simp
  rfl

set_option maxHeartbeats 2000000 in
theorem entry_dec : entryContents preI m c (Proc.devRef .tc main_v37_1) =
    decR (m ((c.tc : Thread nD τ).loc main_arg2)) (m ((c.tc : Thread nD τ).loc main_arg5)) (m ((c.tc : Thread nD τ).loc main_arg6)) := by
  simp only [entryContents, afterL_cons, afterL_nil]
  after_reads_simp
  rfl

theorem entry_carry : entryContents preI m c (Proc.devRef .tc main_v37_3) = fun _ => Scalar.ofBits .f32 0x00000000#32 := by
  simp only [entryContents, afterL_cons, afterL_nil]
  after_reads_simp
  rfl
end generic

section
variable (dyT : FVec Ideal S2048x16384 .f32) (bc : FVec Ideal S16384x2048 .f32) (dtr : FVec Ideal S16384x128 .f32) (db al : FVec Ideal S32 .f32)

theorem sentR_apply (c : Fin 128) (g : Fin 8) (r : Fin 4) (p : Fin 64) (n : Fin 128) :
    sentR bc dtr dyT db al (ix6 (n0 := 128) (n1 := 1) (n2 := 8) (n3 := 4) (n4 := 64) (n5 := 128) c 0 g r p n) =
      ∑ l : Fin 128, dyOut (rawOf dtr) (xOf dyT) (vecOf db) (vecOf al) c (chan g (chanAt r p)) l * bcOf bc (tok c l) (colC (grp (chan g (chanAt r p))) n) := by
  pointwise [sentR, sumsR_apply]
  refine Finset.sum_congr rfl fun l _ => ?_
  have e : (⟨g.val * 256 + r.val * 64 + p.val, by omega⟩ : Fin 2048) = chan g (chanAt r p) := Fin.ext (Nat.add_assoc _ _ _)
  exact congrArg₂ (· * ·) (congrArg₂ (· * ·) (congrArg (fun j => dyT (ix2 j ⟨c.val * 128 + l.val, by omega⟩)) e)
    (congrArg (fun h => Ideal.exp (sums (rawOf dtr) (vecOf db) (vecOf al) c h l)) (hd_chan g r p).symm))
    (congrArg (fun q : Fin 8 => bc (ix2 ⟨c.val * 128 + l.val, by omega⟩ ⟨1024 + (q.val * 128 + n.val), by omega⟩)) (grp_chan g (chanAt r p)).symm)

theorem decR_apply (c : Fin 128) (g : Fin 8) (r : Fin 4) :
    decR dtr db al (ix4 (n0 := 128) (n1 := 1) (n2 := 8) (n3 := 4) c 0 g r) = Ideal.exp (sums (rawOf dtr) (vecOf db) (vecOf al) c (hdAt g r) 127) := by
  pointwise [decR, sumsR_apply]
end

section generic
variable {F : FTy → Type} [FloatOps F]

/-- One step of the loop over the chunks, the chunk's number `w` given: the gradient carried on. -/
def stepCarry (w : (⟨S_, .i32⟩ : BufTy).Contents (Elt F)) (h : FVec F S1x8x4x64x128 .f32) (dec : FVec F S128x1x8x4 .f32) (sent : FVec F S128x1x8x4x64x128 .f32) :
    FVec F S1x8x4x64x128 .f32 :=
  addf (mulf h (broadcastInDim S1x8x4x64x128 ![0, 1, 2, 3, 4] bcast_S1x8x4x1x1_S1x8x4x64x128_0_1_2_3_4 (broadcastInDim S1x8x4x1x1 ![0, 1, 2] bcast_S1x8x4_S1x8x4x1x1_0_1_2 (shapeCast S1x8x4 (Host.dynamicSlice S1x1x8x4 dec (fun k => (((![w, constantI S_ 32 0#32, constantI S_ 32 0#32, constantI S_ 32 0#32] : Fin 4 → (⟨S_, .i32⟩ : BufTy).Contents (Elt F))) k (Shape.Idx.first h_S_)).toInt) sliceFits_S128x1x8x4_S1x1x8x4) shapeCasts_S1x1x8x4_S1x8x4)))) (shapeCast S1x8x4x64x128 (Host.dynamicSlice S1x1x8x4x64x128 sent (fun k => (((![w, constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S128x1x8x4x64x128_S1x1x8x4x64x128) shapeCasts_S1x1x8x4x64x128_S1x8x4x64x128)

/-- One step of the loop over the chunks: the carried gradient is written out as the chunk's. -/
def stepOut (w : (⟨S_, .i32⟩ : BufTy).Contents (Elt F)) (h : FVec F S1x8x4x64x128 .f32) (out : FVec F S128x1x8x4x64x128 .f32) : FVec F S128x1x8x4x64x128 .f32 :=
  Host.dynamicUpdateSlice out (broadcastInDim S1x1x8x4x64x128 ![1, 2, 3, 4, 5] bcast_S1x8x4x64x128_S1x1x8x4x64x128_1_2_3_4_5 h) (fun k => (((![w, constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S128x1x8x4x64x128_S1x1x8x4x64x128

theorem step_carry (V0 : Valuation τ sig (Elt F)) : step_main_v37_3 V0 =
    stepCarry (res_main_while0b_v213 V0) (V0 (Proc.devRef .tc main_v37_3)) (V0 (Proc.devRef .tc main_v37_1)) (V0 (Proc.devRef .tc main_v37_0)) := by
  unfold step_main_v37_3 stepCarry
  rfl
theorem step_out (V0 : Valuation τ sig (Elt F)) : step_main_v37_4 V0 =
    stepOut (res_main_while0b_v213 V0) (V0 (Proc.devRef .tc main_v37_3)) (V0 (Proc.devRef .tc main_v37_4)) := by
  unfold step_main_v37_4 stepOut
  rfl
end generic

section
variable (w : (⟨S_, .i32⟩ : BufTy).Contents (Elt Ideal)) (i : Fin 128) (hw : ∀ j, w j = BitVec.ofNat 32 i.val)
  (h : FVec Ideal S1x8x4x64x128 .f32) (dec : FVec Ideal S128x1x8x4 .f32) (sent out : FVec Ideal S128x1x8x4x64x128 .f32)
  (g : Fin 8) (r : Fin 4) (p : Fin 64) (n : Fin 128)

theorem word_toInt (i : Fin 128) : (BitVec.ofNat 32 i.val).toInt = (i.val : Int) := by
  revert i; decide +kernel

theorem slices_dec : S128x1x8x4.Slices ![i.val, 0, 0, 0] S1x1x8x4 := by
  refine ⟨rfl, fun a => ?_⟩
  have := i.isLt
  fin_cases a <;> simp [S128x1x8x4, S1x1x8x4] <;> omega
theorem slices_sent : S128x1x8x4x64x128.Slices ![i.val, 0, 0, 0, 0, 0] S1x1x8x4x64x128 := by
  refine ⟨rfl, fun a => ?_⟩
  have := i.isLt
  fin_cases a <;> simp [S128x1x8x4x64x128, S1x1x8x4x64x128] <;> omega

include hw in
theorem stepCarry_apply : stepCarry w h dec sent (ix5 (n0 := 1) (n1 := 8) (n2 := 4) (n3 := 64) (n4 := 128) 0 g r p n) =
    h (ix5 0 g r p n) * dec (ix4 i 0 g r) + sent (ix6 i 0 g r p n) := by
  unfold stepCarry
  rw [WordCmp.dynamicSlice_eq_extract _ _ _ _ ![i.val, 0, 0, 0] (slices_dec i) (by
      intro a
      have e := (congrArg BitVec.toInt (hw (Shape.Idx.first h_S_))).trans (word_toInt i)
      fin_cases a
      · exact e
      all_goals rfl),
    WordCmp.dynamicSlice_eq_extract _ _ _ _ ![i.val, 0, 0, 0, 0, 0] (slices_sent i) (by
      intro a
      have e := (congrArg BitVec.toInt (hw (Shape.Idx.first h_S_))).trans (word_toInt i)
      fin_cases a
      · exact e
      all_goals rfl)]
  pointwise []

include hw in
theorem stepOut_apply (c : Fin 128) : stepOut w h out (ix6 (n0 := 128) (n1 := 1) (n2 := 8) (n3 := 4) (n4 := 64) (n5 := 128) c 0 g r p n) =
    if c = i then h (ix5 0 g r p n) else out (ix6 c 0 g r p n) := by
  unfold stepOut
  rw [WordCmp.dynamicUpdateSlice_eq_update _ _ _ _ ![i.val, 0, 0, 0, 0, 0] (slices_sent i) (by
      intro a
      have e := (congrArg BitVec.toInt (hw (Shape.Idx.first h_S_))).trans (word_toInt i)
      fin_cases a
      · exact e
      all_goals rfl)]
  rw [updateSlice_apply]
  split_ifs with h1 h2 h2
  · subst h2
    pointwise []
  · exact absurd (h1 0) (by
      intro h3
      have h4 : i.val ≤ c.val ∧ c.val < i.val + 1 := h3
      exact h2 (Fin.ext (by omega)))
  · refine absurd (fun a => ?_) h1
    subst h2
    fin_cases a
    · exact ⟨le_rfl, Nat.lt_succ_self _⟩
    · exact ⟨le_rfl, Nat.lt_succ_self _⟩
    · exact ⟨Nat.zero_le _, (Nat.zero_add 8).symm ▸ g.isLt⟩
    · exact ⟨Nat.zero_le _, (Nat.zero_add 4).symm ▸ r.isLt⟩
    · exact ⟨Nat.zero_le _, (Nat.zero_add 64).symm ▸ p.isLt⟩
    · exact ⟨Nat.zero_le _, (Nat.zero_add 128).symm ▸ n.isLt⟩
  · rfl
end

section loop
variable (m : (ℓ : Loc nD τ sig) → Buf (Elt Ideal) ℓ) (c : Dev nD)

/-- The arguments, as the launch has them. -/
abbrev argX : FVec Ideal S2048x16384 .f32 := m ((c.tc : Thread nD τ).loc main_arg0)
abbrev argBC : FVec Ideal S16384x2048 .f32 := m ((c.tc : Thread nD τ).loc main_arg1)
abbrev argRaw : FVec Ideal S16384x128 .f32 := m ((c.tc : Thread nD τ).loc main_arg2)
abbrev argDy : FVec Ideal S2048x16384 .f32 := m ((c.tc : Thread nD τ).loc main_arg3)
abbrev argSt : FVec Ideal S128x8x256x128 .f32 := m ((c.tc : Thread nD τ).loc main_arg4)
abbrev argBias : FVec Ideal S32 .f32 := m ((c.tc : Thread nD τ).loc main_arg5)
abbrev argLog : FVec Ideal S32 .f32 := m ((c.tc : Thread nD τ).loc main_arg6)

/-- The gradient of the state, from the arguments. -/
abbrev gradAt (k : ℕ) (j : Fin 2048) (n : Fin 128) : EReal :=
  stateGrad (bcOf (argBC m c)) (rawOf (argRaw m c)) (xOf (argDy m c)) (vecOf (argBias m c)) (vecOf (argLog m c)) k j n

/-- The loop's contents before its `k`-th step. -/
abbrev atStep (k : ℕ) : Valuation τ sig (Elt Ideal) := STEP^[k] (entryContents preI m c)

theorem ofNat_succ (k : ℕ) : BitVec.ofNat 32 k + 1#32 = BitVec.ofNat 32 (k + 1) := by
  rw [BitVec.ofNat_add]

theorem word_back (k : ℕ) (hk : k < 128) : (128#32 - BitVec.ofNat 32 k) - 1#32 = BitVec.ofNat 32 (⟨127 - k, by omega⟩ : Fin 128).val :=
  (by decide +kernel : ∀ k : Fin 128, (128#32 - BitVec.ofNat 32 k.val) - 1#32 = BitVec.ofNat 32 (127 - k.val)) ⟨k, hk⟩

theorem at_counter (k : ℕ) : atStep m c k (Proc.devRef .tc main_v37_2) = fun _ => BitVec.ofNat 32 k := by
  induction k with
  | zero => exact ctr_entry m c
  | succ k ih =>
    rw [atStep, Function.iterate_succ_apply', STEP_main_v37_2]
    show id (addi (atStep m c k (Proc.devRef .tc main_v37_2)) _) = _
    rw [ih]
    exact funext fun j => ofNat_succ k

theorem at_sent (k : ℕ) : atStep m c k (Proc.devRef .tc main_v37_0) = sentR (argBC m c) (argRaw m c) (argDy m c) (argBias m c) (argLog m c) := by
  induction k with
  | zero => exact entry_sent m c
  | succ k ih => rw [atStep, Function.iterate_succ_apply', STEP_main_v37_0]; exact ih

theorem at_dec (k : ℕ) : atStep m c k (Proc.devRef .tc main_v37_1) = decR (argRaw m c) (argBias m c) (argLog m c) := by
  induction k with
  | zero => exact entry_dec m c
  | succ k ih => rw [atStep, Function.iterate_succ_apply', STEP_main_v37_1]; exact ih

theorem at_index (k : ℕ) (hk : k < 128) (j) : res_main_while0b_v213 (atStep m c k) j = BitVec.ofNat 32 (⟨127 - k, by omega⟩ : Fin 128).val := by
  unfold res_main_while0b_v213
  rw [at_counter]
  exact word_back k hk

theorem at_carry (k : ℕ) (hk : k ≤ 128) (g : Fin 8) (r : Fin 4) (p : Fin 64) (n : Fin 128) :
    (atStep m c k (Proc.devRef .tc main_v37_3) : FVec Ideal S1x8x4x64x128 .f32) (ix5 0 g r p n) = gradAt m c k (chan g (chanAt r p)) n := by
  induction k with
  | zero =>
    have e := congrFun (entry_carry m c) (ix5 0 g r p n)
    exact e.trans (Ideal.ofBits_zero .f32)
  | succ k ih =>
    rw [atStep, Function.iterate_succ_apply', STEP_main_v37_3, step_carry]
    refine (stepCarry_apply _ ⟨127 - k, by omega⟩ (at_index m c k (by omega)) _ _ _ g r p n).trans ?_
    refine congrArg₂ (· + ·) (congrArg₂ (· * ·) (ih (by omega)) ?_) ?_
    · refine (congrArg (fun f : FVec Ideal S128x1x8x4 .f32 => f (ix4 ⟨127 - k, by omega⟩ 0 g r)) (at_dec m c k)).trans ?_
      refine (decR_apply _ _ _ _ g r).trans ?_
      exact congrArg (fun h => Ideal.exp (sums _ _ _ _ h 127)) (hd_chan g r p).symm
    · refine (congrArg (fun f : FVec Ideal S128x1x8x4x64x128 .f32 => f (ix6 ⟨127 - k, by omega⟩ 0 g r p n)) (at_sent m c k)).trans ?_
      exact sentR_apply _ _ _ _ _ _ g r p n

theorem at_out (k : ℕ) (hk : k ≤ 128) (i : Fin 128) (hi : 127 - i.val < k) (g : Fin 8) (r : Fin 4) (p : Fin 64) (n : Fin 128) :
    (atStep m c k (Proc.devRef .tc main_v37_4) : FVec Ideal S128x1x8x4x64x128 .f32) (ix6 i 0 g r p n) =
      gradAt m c (127 - i.val) (chan g (chanAt r p)) n := by
  induction k with
  | zero => exact absurd hi (Nat.not_lt_zero _)
  | succ k ih =>
    rw [atStep, Function.iterate_succ_apply', STEP_main_v37_4, step_out]
    refine (stepOut_apply _ ⟨127 - k, by omega⟩ (at_index m c k (by omega)) _ _ g r p n i).trans ?_
    split_ifs with h
    · refine (at_carry m c k (by omega) g r p n).trans (congrArg (fun q => gradAt m c q (chan g (chanAt r p)) n) ?_)
      rw [h]
      show k = 127 - (127 - k)
      omega
    · refine ih (by omega) ?_
      have h2 : i.val ≠ 127 - k := fun e => h (Fin.ext e)
      omega

/-- After the loop: the gradient of the state after each chunk. -/
theorem at_end (i : Fin 128) (g : Fin 8) (r : Fin 4) (p : Fin 64) (n : Fin 128) :
    (atStep m c 128 (Proc.devRef .tc main_v37_4) : FVec Ideal S128x1x8x4x64x128 .f32) (ix6 i 0 g r p n) =
      gradAt m c (127 - i.val) (chan g (chanAt r p)) n :=
  at_out m c 128 le_rfl i (by omega) g r p n

/-- What the reference returns, entry by entry. -/
theorem reference_apply (hf : StepsFinite (argRaw m c) (argBias m c)) (s : Fin 16384) (j : Fin 4096) :
    (out_main_v211 (atStep m c 128) : FVec Ideal S16384x4096 .f32) (ix2 s j) =
      result (xOf (argX m c)) (bcOf (argBC m c)) (rawOf (argRaw m c)) (xOf (argDy m c)) (stOf (argSt m c)) (vecOf (argBias m c)) (vecOf (argLog m c)) s j := by
  rw [out_eq]
  rw [show atStep m c 128 (Proc.devRef .tc main_arg0) = argX m c from iter_main_arg0 m c 128,
    show atStep m c 128 (Proc.devRef .tc main_arg1) = argBC m c from iter_main_arg1 m c 128,
    show atStep m c 128 (Proc.devRef .tc main_arg2) = argRaw m c from iter_main_arg2 m c 128,
    show atStep m c 128 (Proc.devRef .tc main_arg3) = argDy m c from iter_main_arg3 m c 128,
    show atStep m c 128 (Proc.devRef .tc main_arg4) = argSt m c from iter_main_arg4 m c 128,
    show atStep m c 128 (Proc.devRef .tc main_arg5) = argBias m c from iter_main_arg5 m c 128,
    show atStep m c 128 (Proc.devRef .tc main_arg6) = argLog m c from iter_main_arg6 m c 128]
  exact resultR_apply _ _ _ _ _ _ _ _ hf (fun i g r p n => at_end m c i g r p n) s j
end loop

end Cert.ReferenceIdeal.Ssd
-- ==== Proof.Steps.lean ====
/- What the precondition says: every step a head takes is a finite number that is not negative. -/
module

public import proofs.«01_k».proof.Pre_steps_finite
public import proofs.«01_k».proof.Proof.RefRead
public import proofs.«01_k».proof.Proof.Softplus

@[expose] public section

set_option maxRecDepth 16384

noncomputable section

namespace Cert.Pre_steps_finite

open Idealize.ShloMosaic

theorem facts : Facts := ⟨by decide, by decide, by decide, by decide⟩

variable [Facts]

/-- The predicate, at an index. -/
theorem below_top (x0 : FVec Ideal S2048x16384 .f32) (x1 : FVec Ideal S16384x2048 .f32) (x2 : FVec Ideal S16384x128 .f32) (x3 : FVec Ideal S2048x16384 .f32)
    (x4 : FVec Ideal S128x8x256x128 .f32) (x5 x6 : FVec Ideal S32 .f32) (h : fn x0 x1 x2 x3 x4 x5 x6 = fun _ => 1#1) (s : Fin 16384) (k : Fin 32) :
    x2 (ix2 s ⟨k.val, by omega⟩) + x5 (ix1 k) ≠ ⊤ := by
  have h' := congrFun h (ix2 s k)
  unfold fn at h'
  revert h'
  pointwise []
  intro h' e
  rw [e, decide_eq_false not_top_lt] at h'
  exact absurd h' (by decide)

end Cert.Pre_steps_finite

namespace Cert.ReferenceIdeal.Ssd

open Idealize.ShloMosaic Cert.Ssd

/-- Where no raw step plus its bias is infinite, every step is finite and not negative. -/
theorem stepsFinite_of (dtr : FVec Ideal S16384x128 .f32) (db : FVec Ideal S32 .f32) (h : ∀ (s : Fin 16384) (k : Fin 32), rawOf dtr s k + vecOf db k ≠ ⊤) :
    StepsFinite dtr db := fun s k => ⟨softplus_nonneg _, softplus_ne_top _ (h s k)⟩

end Cert.ReferenceIdeal.Ssd
-- ==== Proof.Agree.lean ====
/- The idealized kernel and the reference return the same array. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Bridge
public import proofs.«01_k».proof.Proof.RefLoop
public import proofs.«01_k».proof.Proof.Steps
public import Idealize.ShloMosaic.Lib.Claim

@[expose] public section

set_option maxRecDepth 16384

noncomputable section

namespace Cert.Proof

open Idealize.ShloMosaic Idealize.ShloMosaic.TcCoe Idealize.SL.Sem

attribute [local instance] Cert.Pre_steps_finite.facts

/-- Given the same arguments, the array the reference returns is the gradient the kernel leaves. -/
theorem returned_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h0 : (m' ((c : Thread Cert.ReferenceIdeal.nD Cert.ReferenceIdeal.τ).loc Cert.ReferenceIdeal.main_arg0) : FVec Ideal Cert.KernelIdeal.S2048x16384 .f32) = m ((c : Thread Cert.KernelIdeal.nD Cert.KernelIdeal.τ).loc Cert.KernelIdeal.main_arg0))
    (h1 : (m' ((c : Thread Cert.ReferenceIdeal.nD Cert.ReferenceIdeal.τ).loc Cert.ReferenceIdeal.main_arg1) : FVec Ideal Cert.KernelIdeal.S16384x2048 .f32) = m ((c : Thread Cert.KernelIdeal.nD Cert.KernelIdeal.τ).loc Cert.KernelIdeal.main_arg1))
    (h2 : (m' ((c : Thread Cert.ReferenceIdeal.nD Cert.ReferenceIdeal.τ).loc Cert.ReferenceIdeal.main_arg2) : FVec Ideal Cert.KernelIdeal.S16384x128 .f32) = m ((c : Thread Cert.KernelIdeal.nD Cert.KernelIdeal.τ).loc Cert.KernelIdeal.main_arg2))
    (h3 : (m' ((c : Thread Cert.ReferenceIdeal.nD Cert.ReferenceIdeal.τ).loc Cert.ReferenceIdeal.main_arg3) : FVec Ideal Cert.KernelIdeal.S2048x16384 .f32) = m ((c : Thread Cert.KernelIdeal.nD Cert.KernelIdeal.τ).loc Cert.KernelIdeal.main_arg3))
    (h4 : (m' ((c : Thread Cert.ReferenceIdeal.nD Cert.ReferenceIdeal.τ).loc Cert.ReferenceIdeal.main_arg4) : FVec Ideal Cert.KernelIdeal.S128x8x256x128 .f32) = m ((c : Thread Cert.KernelIdeal.nD Cert.KernelIdeal.τ).loc Cert.KernelIdeal.main_arg4))
    (h5 : (m' ((c : Thread Cert.ReferenceIdeal.nD Cert.ReferenceIdeal.τ).loc Cert.ReferenceIdeal.main_arg5) : FVec Ideal Cert.KernelIdeal.S32 .f32) = m ((c : Thread Cert.KernelIdeal.nD Cert.KernelIdeal.τ).loc Cert.KernelIdeal.main_arg5))
    (h6 : (m' ((c : Thread Cert.ReferenceIdeal.nD Cert.ReferenceIdeal.τ).loc Cert.ReferenceIdeal.main_arg6) : FVec Ideal Cert.KernelIdeal.S32 .f32) = m ((c : Thread Cert.KernelIdeal.nD Cert.KernelIdeal.τ).loc Cert.KernelIdeal.main_arg6))
    (hf : Cert.ReferenceIdeal.Ssd.StepsFinite (Cert.ReferenceIdeal.Ssd.argRaw m' c) (Cert.ReferenceIdeal.Ssd.argBias m' c)) :
    (Cert.ReferenceIdeal.Value.out_main_v211 (Cert.ReferenceIdeal.Ssd.atStep m' c 128) : FVec Ideal Cert.KernelIdeal.S16384x4096 .f32) =
      Cert.KernelIdeal.Ssd.gradient m c := by
  funext i
  obtain ⟨s, j, rfl⟩ : ∃ (s : Fin 16384) (j : Fin 4096), i = ix2 s j := ⟨i 0, i 1, by funext k; fin_cases k <;> rfl⟩
  refine (Cert.ReferenceIdeal.Ssd.reference_apply m' c hf s j).trans ?_
  have e0 : Cert.ReferenceIdeal.Ssd.xOf (Cert.ReferenceIdeal.Ssd.argX m' c) = Cert.KernelIdeal.Ssd.argX m c := by funext a b; exact congrFun h0 (ix2 a b)
  have e1 : Cert.ReferenceIdeal.Ssd.bcOf (Cert.ReferenceIdeal.Ssd.argBC m' c) = Cert.KernelIdeal.Ssd.argBC m c := by funext a b; exact congrFun h1 (ix2 a b)
  have e2 : Cert.ReferenceIdeal.Ssd.rawOf (Cert.ReferenceIdeal.Ssd.argRaw m' c) = Cert.KernelIdeal.Ssd.argRaw m c := by funext a b; exact congrFun h2 (ix2 a ⟨b.val, by omega⟩)
  have e3 : Cert.ReferenceIdeal.Ssd.xOf (Cert.ReferenceIdeal.Ssd.argDy m' c) = Cert.KernelIdeal.Ssd.argDy m c := by funext a b; exact congrFun h3 (ix2 a b)
  have e4 : Cert.ReferenceIdeal.Ssd.stOf (Cert.ReferenceIdeal.Ssd.argSt m' c) = Cert.KernelIdeal.Ssd.argSt m c := by funext a b q n; exact congrFun h4 (ix4 a b q n)
  have e5 : Cert.ReferenceIdeal.Ssd.vecOf (Cert.ReferenceIdeal.Ssd.argBias m' c) = Cert.KernelIdeal.Ssd.argBias m c := by funext a; exact congrFun h5 (ix1 a)
  have e6 : Cert.ReferenceIdeal.Ssd.vecOf (Cert.ReferenceIdeal.Ssd.argLog m' c) = Cert.KernelIdeal.Ssd.argLog m c := by funext a; exact congrFun h6 (ix1 a)
  rw [e0, e1, e2, e3, e4, e5, e6]
  rfl

/-- The value claim. -/
theorem agree : Cert.algebraic_KernelIdeal_ReferenceIdeal (hKernelIdeal := Cert.KernelIdeal.Gen.facts) (hReferenceIdeal := Cert.ReferenceIdeal.Gen.facts)
    (hPre_steps_finite := Cert.Pre_steps_finite.facts) := by
  pair_intro
  · run_from Cert.KernelIdeal.Value.run_blocks m g
  · run_from Cert.ReferenceIdeal.Value.run m' g'
    obtain ⟨h0, h1, h2, h3, h4, h5, h6⟩ := hagree c
    refine (returned_eq m m' c h0 h1 h2 h3 h4 h5 h6 (Cert.ReferenceIdeal.Ssd.stepsFinite_of _ _ fun s k => ?_)).trans (Cert.KernelIdeal.Ssd.final m c).symm
    refine ne_of_eq_of_ne (congrArg₂ (fun a b : EReal => a + b) (congrFun h2 (ix2 s ⟨k.val, by omega⟩)) (congrFun h5 (ix1 k))) ?_
    exact Cert.Pre_steps_finite.below_top _ _ _ _ _ _ _ (hpre c) s k

end Cert.Proof

end
-- ==== Proof.Dx.lean ====
/- The gradient of a layer's input: two products with the transposed weights, accumulated over blocks of columns, and the
   scaled gradient that reaches the input directly. -/
module

public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import Idealize.ShloMosaic.Lib.Claim
public import Idealize.ShloMosaic.Lib.Pipeline.ValueKit
public import Idealize.ShloMosaic.Lib.Pipeline.ReadBack
public import Idealize.ShloMosaic.Lib.Pointwise
public import Idealize.ShloMosaic.Lib.WholeRead
public import Idealize.ShloMosaic.Lib.StableHlo.RunRead

@[expose] public section

set_option maxRecDepth 16384

noncomputable section

namespace Cert.Kernel2Ideal.Dx

open Cert.Kernel2Ideal Cert.Kernel2Ideal.Gen Idealize.ShloMosaic Idealize.ShloMosaic.TcCoe Idealize.SL.Sem
open Finset

variable (m : (ℓ : Loc nD τ sig) → Buf (Elt Ideal) ℓ) (c : Dev nD)

/-- The blocks each point works on: five blocks of columns are walked inside one block of tokens. -/
theorem idx : ∀ t : Fin grid0.N, win0_0.index t = ![t.val / 5, t.val % 5] ∧ win0_1.index t = ![t.val % 5, 0]
    ∧ win0_2.index t = ![t.val / 5, 0] ∧ win0_3.index t = ![0, 0] ∧ win0_4.index t = ![t.val / 5, 0] ∧ win0_5.index t = ![t.val / 5, 0] :=
  (by decide +kernel : ∀ t : Fin grid0.N, _)

/-- The gradient of the main columns of the projection. -/
def argG : FVec Ideal S16384x10240 .f32 := m ((c : Thread nD τ).loc main_arg0)
/-- The gradient of the step-size columns of the projection, padded to 128 lanes. -/
def argDt : FVec Ideal S16384x128 .f32 := m ((c : Thread nD τ).loc main_arg1)
/-- The gradient that reaches the input directly. -/
def argR : FVec Ideal S16384x1024 .f32 := m ((c : Thread nD τ).loc main_arg2)
/-- The weights of the projection. -/
def argW : FVec Ideal S1024x10304 .f32 := m ((c : Thread nD τ).loc main_arg3)

/-- The factor on the direct gradient. -/
def factor : EReal := FloatOps.ofBits (F := Ideal) .f32 0x3FB504F3#32

/-- The gradient of the input at a token and a channel. -/
def inputGrad : FVec Ideal S16384x1024 .f32 := fun y =>
  factor * argR m c y +
    ((∑ k : Fin 10240, argG m c (ix2 (y 0) k) * argW m c (ix2 (y 1) ⟨k.val, by omega⟩)) +
      ∑ l : Fin 64, argDt m c (ix2 (y 0) ⟨l.val, by omega⟩) * argW m c (ix2 (y 1) ⟨10240 + l.val, by omega⟩))

theorem V_v0 : (V m c main_v0 : FVec Ideal S16384x10240 .bf16) = argG m c := by
  simp only [V, hostOps0, hostOps0_1, hostOps0_2, List.flatten_cons, List.flatten_nil, List.append_nil, List.cons_append, List.nil_append]
  after_reads_simp
  rfl

theorem V_v1 : (V m c main_v1 : FVec Ideal S16384x128 .bf16) = argDt m c := by
  simp only [V, hostOps0, hostOps0_1, hostOps0_2, List.flatten_cons, List.flatten_nil, List.append_nil, List.cons_append, List.nil_append]
  after_reads_simp
  rfl

theorem V_arg2 : (V m c main_arg2 : FVec Ideal S16384x1024 .f32) = argR m c := V_main_arg2 m c

/-- The main weights, transposed. -/
theorem V_v6 (k : Fin 10240) (i : Fin 1024) : (V m c main_v6 : FVec Ideal S10240x1024 .bf16) (ix2 k i) = argW m c (ix2 i ⟨k.val, by omega⟩) := by
  have e : (V m c main_v6 : FVec Ideal S10240x1024 .bf16) = transpose S10240x1024 [1, 0] (extractStridedSlice S1024x10240 ![0, 0] (argW m c)
      slices_S1024x10304_S1024x10240_0_0) transposes_S1024x10240_S10240x1024_1_0 := by
    simp only [V, hostOps0, hostOps0_1, hostOps0_2, List.flatten_cons, List.flatten_nil, List.append_nil, List.cons_append, List.nil_append]
    after_reads_simp
    rfl
  rw [e]
  pointwise []

/-- The step-size weights, transposed and padded with zeros. -/
theorem V_v7 (l : Fin 128) (i : Fin 1024) : (V m c main_v7 : FVec Ideal S128x1024 .bf16) (ix2 l i) =
    if h : l.val < 64 then argW m c (ix2 i ⟨10240 + l.val, by omega⟩) else (0 : EReal) := by
  have e : (V m c main_v7 : FVec Ideal S128x1024 .bf16) = transpose S128x1024 [1, 0] (pad S1024x128 ![0, 0] ![0, 64] ![0, 0]
      (extractStridedSlice S1024x64 ![0, 10240] (argW m c) slices_S1024x10304_S1024x64_0_10240) (sitofp (F := Ideal) .bf16 (constantI S_ 32 0#32))
      pads_S1024x64_S1024x128_000_0640 h_S_) transposes_S1024x128_S128x1024_1_0 := by
    simp only [V, hostOps0, hostOps0_1, hostOps0_2, List.flatten_cons, List.flatten_nil, List.append_nil, List.cons_append, List.nil_append]
    after_reads_simp
    rfl
  rw [e]
  pointwise []
  have z : (FloatOps.sitofp (F := Ideal) FTy.bf16 0#32 : EReal) = 0 := by
    show (((0#32 : BitVec 32).toInt : ℝ) : EReal) = 0
    simp
  rw [z]

/-- The blocks a point works on: gradients and weights of its main columns, of the step-size columns, and the direct gradient. -/
def blkG (t : Fin cfg0.N) : FVec Ideal S1024x2048 .bf16 := iblk m c 0 t
def blkW (t : Fin cfg0.N) : FVec Ideal S2048x1024 .bf16 := iblk m c 1 t
def blkDt (t : Fin cfg0.N) : FVec Ideal S1024x128 .bf16 := iblk m c 2 t
def blkWdt (t : Fin cfg0.N) : FVec Ideal S128x1024 .bf16 := iblk m c 3 t
def blkR (t : Fin cfg0.N) : FVec Ideal S1024x1024 .f32 := iblk m c 4 t

/-- The part of the product a point takes with its block of main columns. -/
def mainPart (t : Fin cfg0.N) (j : S1024x1024.Idx) : EReal :=
  ∑ k : Fin 2048, blkG m c t (ix2 (j 0) k) * blkW m c t (ix2 k (j 1))
/-- The product of the step-size columns, taken at the first point of a block of tokens. -/
def dtPart (t : Fin cfg0.N) (j : S1024x1024.Idx) : EReal :=
  ∑ k : Fin 128, blkDt m c t (ix2 (j 0) k) * blkWdt m c t (ix2 k (j 1))

theorem pay1_apply (a : FVec Ideal S1024x2048 .bf16) (b : FVec Ideal S2048x1024 .bf16) (a' : FVec Ideal S1024x128 .bf16) (b' : FVec Ideal S128x1024 .bf16)
    (j : S1024x1024.Idx) : k0_pay1 (F := Ideal) a b a' b' j = (∑ k : Fin 2048, a (ix2 (j 0) k) * b (ix2 k (j 1))) + ∑ k : Fin 128, a' (ix2 (j 0) k) * b' (ix2 k (j 1)) := by
  pointwise [k0_pay1]

theorem pay2_apply (a : FVec Ideal S1024x2048 .bf16) (b : FVec Ideal S2048x1024 .bf16) (acc : FVec Ideal S1024x1024 .f32)
    (j : S1024x1024.Idx) : k0_pay2 (F := Ideal) a b acc j = acc j + ∑ k : Fin 2048, a (ix2 (j 0) k) * b (ix2 k (j 1)) := by
  pointwise [k0_pay2]

theorem pay3_apply (acc r : FVec Ideal S1024x1024 .f32) (j : S1024x1024.Idx) : k0_pay3 (F := Ideal) acc r j = factor * r j + acc j := by
  rfl

/-- What a point adds to the accumulator. -/
def part (t : Fin cfg0.N) (j : S1024x1024.Idx) : EReal := mainPart m c t j + if t.val % 5 = 0 then dtPart m c t j else 0

/-- The first point of a block of tokens starts the accumulator afresh. -/
theorem start (t : Fin cfg0.N) (h : t.val % 5 = 0) (j : S1024x1024.Idx) :
    (outsAt0 m c t.val t.isLt).2 j = (0 : EReal) + part m c t j := by
  rw [outsAt0_A m c t h (by omega) (by omega)]
  frame_out
  rw [pay1_apply, zero_add, part, if_pos h]
  rfl

/-- A later point adds its part. -/
theorem next (t : Fin cfg0.N) (h : ¬t.val % 5 = 0) (j : S1024x1024.Idx) :
    (outsAt0 m c t.val t.isLt).2 j = (outsAt0 m c (t.val - 1) (Nat.lt_of_le_of_lt (Nat.sub_le _ _) t.isLt)).2 j + part m c t j := by
  by_cases h4 : t.val % 5 = 4
  · rw [outsAt0_C m c t h (by omega) h4]
    frame_out
    simp only [read_unread_whole]
    rw [pay2_apply, part, if_neg h, add_zero]
    rfl
  · rw [outsAt0_B m c t h (by omega) h4]
    frame_out
    simp only [read_unread_whole]
    rw [pay2_apply, part, if_neg h, add_zero]
    rfl

/-- The last point of a block of tokens writes the accumulator and the scaled direct gradient. -/
theorem last (t : Fin cfg0.N) (h4 : t.val % 5 = 4) (j : S1024x1024.Idx) :
    (outsAt0 m c t.val t.isLt).1 j = factor * blkR m c t j + (outsAt0 m c t.val t.isLt).2 j := by
  rw [outsAt0_C m c t (by omega) (by omega) h4]
  frame_out
  simp only [read_unread_whole]
  rw [pay3_apply]
  rfl

/-- The row of the whole array that row `r` of a point's block is. -/
def row (t : Fin cfg0.N) (r : Fin 1024) : Fin 16384 := ⟨1024 * (t.val / 5) + r.val, by
  have h : t.val < 80 := t.isLt
  omega⟩

/-- The part of a point, over the whole arrays. -/
theorem mainPart_eq (t : Fin cfg0.N) (j : S1024x1024.Idx) : mainPart m c t j = ∑ k : Fin 2048,
    argG m c (ix2 (row t (j 0)) ⟨t.val % 5 * 2048 + k.val, by omega⟩) * argW m c (ix2 (j 1) ⟨t.val % 5 * 2048 + k.val, by omega⟩) := by
  refine Finset.sum_congr rfl fun k _ => congrArg₂ (fun a b : EReal => a * b) ?_ ?_
  · refine Eq.trans ?_ (congrFun (V_v0 m c) _)
    blk_ext [blkG, iblk, idx, row]
  · refine Eq.trans ?_ (V_v6 m c ⟨t.val % 5 * 2048 + k.val, by omega⟩ (j 1))
    blk_ext [blkW, iblk, idx]

/-- The step-size part of a point, over the whole arrays: the padded lanes meet zero weights. -/
theorem dtPart_eq (t : Fin cfg0.N) (j : S1024x1024.Idx) : dtPart m c t j = ∑ l : Fin 64,
    argDt m c (ix2 (row t (j 0)) ⟨l.val, by omega⟩) * argW m c (ix2 (j 1) ⟨10240 + l.val, by omega⟩) := by
  have e : ∀ k : Fin 128, blkDt m c t (ix2 (j 0) k) * blkWdt m c t (ix2 k (j 1)) =
      argDt m c (ix2 (row t (j 0)) k) * (if h : k.val < 64 then argW m c (ix2 (j 1) ⟨10240 + k.val, by omega⟩) else (0 : EReal)) := fun k => by
    refine congrArg₂ (fun a b : EReal => a * b) ?_ ?_
    · refine Eq.trans ?_ (congrFun (V_v1 m c) _)
      blk_ext [blkDt, iblk, idx, row]
    · refine Eq.trans ?_ (V_v7 m c k (j 1))
      blk_ext [blkWdt, iblk, idx]
  refine (Finset.sum_congr rfl fun k _ => e k).trans ?_
  refine (Fin.sum_univ_add (M := EReal) (a := 64) (b := 64) fun k : Fin 128 => (argDt m c (ix2 (row t (j 0)) k) *
    (if h : k.val < 64 then argW m c (ix2 (j 1) ⟨10240 + k.val, by omega⟩) else (0 : EReal)) : EReal)).trans ?_
  rw [Finset.sum_eq_zero (s := Finset.univ) (f := fun i : Fin 64 => argDt m c (ix2 (row t (j 0)) (Fin.natAdd 64 i)) *
    (if h : (Fin.natAdd 64 i).val < 64 then argW m c (ix2 (j 1) ⟨10240 + (Fin.natAdd 64 i).val, by omega⟩) else (0 : EReal)))
    (fun i _ => by rw [dif_neg (by simp), mul_zero]), add_zero]
  refine Finset.sum_congr rfl fun l _ => ?_
  rw [dif_pos (by simp)]
  rfl

/-- The accumulator at the last point of a block of tokens. -/
theorem acc_apply (t : Fin cfg0.N) (h4 : t.val % 5 = 4) (j : S1024x1024.Idx) : (outsAt0 m c t.val t.isLt).2 j =
    (∑ k : Fin 10240, argG m c (ix2 (row t (j 0)) k) * argW m c (ix2 (j 1) ⟨k.val, by omega⟩)) +
      ∑ l : Fin 64, argDt m c (ix2 (row t (j 0)) ⟨l.val, by omega⟩) * argW m c (ix2 (j 1) ⟨10240 + l.val, by omega⟩) := by
  rw [Pipeline.eq_sum_fin_of_reset_step_apply_of_flush (fun n h => (outsAt0 m c n h).2) 5 (fun _ => (0 : EReal)) (part m c)
    (start m c) (next m c) t h4 j, zero_add]
  have hrow : ∀ (s : Fin 5) (h : 5 * (t.val / 5) + s.val < cfg0.N), row ⟨5 * (t.val / 5) + s.val, h⟩ = row t := fun s h => by
    funext r
    refine Fin.ext ?_
    show 1024 * ((5 * (t.val / 5) + s.val) / 5) + r.val = 1024 * (t.val / 5) + r.val
    omega
  refine (Finset.sum_add_distrib (M := EReal)).trans ?_
  refine congrArg₂ (fun a b : EReal => a + b) ?_ ?_
  · have e := Fin.sum_mul_add_fin (M := EReal) 5 2048 (fun k : Fin 10240 =>
      argG m c (ix2 (row t (j 0)) k) * argW m c (ix2 (j 1) ⟨k.val, by omega⟩))
    refine Eq.trans ?_ e
    refine Finset.sum_congr rfl fun s _ => ?_
    have hs : ∀ h, ((⟨5 * (t.val / 5) + s.val, h⟩ : Fin cfg0.N).val) % 5 = s.val := fun h => by
      show (5 * (t.val / 5) + s.val) % 5 = s.val
      omega
    rw [mainPart_eq, hrow]
    refine Finset.sum_congr rfl fun k _ => ?_
    refine congrArg₂ (fun a b : EReal => a * b) (congrArg (argG m c) ?_) (congrArg (argW m c) ?_)
    · refine congrArg (ix2 (row t (j 0))) (Fin.ext ?_)
      show (5 * (t.val / 5) + s.val) % 5 * 2048 + k.val = s.val * 2048 + k.val
      omega
    · refine congrArg (ix2 (j 1)) (Fin.ext ?_)
      show (5 * (t.val / 5) + s.val) % 5 * 2048 + k.val = s.val * 2048 + k.val
      omega
  · rw [Finset.sum_eq_single_of_mem (0 : Fin 5) (Finset.mem_univ _) (fun s _ hs => if_neg (by
      have : s.val ≠ 0 := fun h => hs (Fin.ext h)
      show ¬(5 * (t.val / 5) + s.val) % 5 = 0
      omega))]
    rw [if_pos (by show (5 * (t.val / 5) + 0) % 5 = 0; omega), dtPart_eq, hrow]

/-- A point's block sits at its rows. -/
theorem placed (t : Fin cfg0.N) (j : S1024x1024.Idx) : (win0_5.blk t).view.emb j = ix2 (row t (j 0)) (j 1) := by
  blk_ext [idx t, row]

/-- The array after the run is the gradient of the input. -/
theorem final : (dats m 0 c).arrAt 5 cfg0.N = inputGrad m c := by
  refine (dats m 0 c).arrAt_eq_of_covers 5 _ (by decide +kernel) fun t hf y => ?_
  blk_simp
  rw [after0_5]
  have h4 : t.val % 5 = 4 := (flush0_5 t).mp hf
  refine (last m c t h4 y).trans ?_
  refine Eq.trans ?_ (congrArg (inputGrad m c) (placed t y)).symm
  refine congrArg₂ (fun a b : EReal => factor * a + b) ?_ (acc_apply m c t h4 y)
  refine Eq.trans ?_ (congrFun (V_arg2 m c) _)
  blk_ext [blkR, iblk, idx, row]

/-- Taken over all columns at once, with the direct gradient added, the product is the gradient the kernel leaves. -/
theorem product_eq (g : FVec Ideal Cert.Reference2Ideal.S16384x10240 .f32) (d : FVec Ideal Cert.Reference2Ideal.S16384x128 .f32)
    (r : FVec Ideal Cert.Reference2Ideal.S16384x1024 .f32) (w : FVec Ideal Cert.Reference2Ideal.S1024x10304 .f32)
    (hg : g = argG m c) (hd : d = argDt m c) (hr : r = argR m c) (hw : w = argW m c) :
    (addf (Host.dotGeneral (φ₁ := .f32) (φ₂ := .f32) Cert.Reference2Ideal.dot_S16384x10304_S1024x10304_S16384x1024_1_1_0_0_n_n none
      (concatenate Cert.Reference2Ideal.S16384x10304 1 [⟨Cert.Reference2Ideal.S16384x10240, g⟩, ⟨Cert.Reference2Ideal.S16384x64,
        (extractStridedSlice Cert.Reference2Ideal.S16384x64 ![0, 0] d Cert.Reference2Ideal.Gen.slices_S16384x128_S16384x64_0_0)⟩]
        Cert.Reference2Ideal.Gen.concatenates_S16384x10240_S16384x64_S16384x10304_d1) w)
      (mulf (broadcastInDim Cert.Reference2Ideal.S16384x1024 ![] Cert.Reference2Ideal.Gen.bcast_S_S16384x1024 (constant Cert.Reference2Ideal.S_ .f32 0x3FB504F3#32)) r)
      : FVec Ideal S16384x1024 .f32) = inputGrad m c := by
  funext y
  subst hg hd hr hw
  rw [inputGrad, add_comm]
  pointwise []
  rfl

/-- The value claim. -/
theorem agree : Cert.algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · refine (θ_run _ _ _).mono (fun r h c => ?_) (Cert.Reference2Ideal.Value.run (F := Ideal) m' g')
    obtain ⟨h0, h1, h2, h3⟩ := hagree c
    refine ⟨?_, (h c).2⟩
    rw [(h c).1, final m c]
    exact product_eq m c _ _ _ _ h0 h1 h2 h3

end Cert.Kernel2Ideal.Dx

end
-- ==== Proof.Dw.lean ====
/- The gradient of a weight matrix, accumulated over blocks of tokens, is the product the reference takes over all tokens. -/
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel3Ideal.Dw

open Cert.Kernel3Ideal Cert.Kernel3Ideal.Gen Idealize.ShloMosaic Idealize.ShloMosaic.TcCoe Idealize.SL.Sem
open Finset

variable (m : (ℓ : Loc nD τ sig) → Buf (Elt Ideal) ℓ) (c : Dev nD)

/-- The blocks each point works on: the sixteen blocks of tokens are walked inside one block of columns. -/
theorem idx : ∀ t : Fin grid0.N, win0_0.index t = ![t.val % 16, 0] ∧ win0_1.index t = ![t.val % 16, t.val / 16]
    ∧ win0_2.index t = ![0, t.val / 16] :=
  (by decide +kernel : ∀ t : Fin grid0.N, _)

/-- The activations, tokens by channels. -/
def argX : FVec Ideal S16384x1024 .f32 := m ((c : Thread nD τ).loc main_arg0)
/-- The gradient of the projection, tokens by columns. -/
def argG : FVec Ideal S16384x10240 .f32 := m ((c : Thread nD τ).loc main_arg1)

/-- The gradient of the weights: for a channel and a column, the sum over all tokens. -/
def weightGrad : FVec Ideal S1024x10240 .f32 := fun y =>
  ∑ s : Fin 16384, argX m c (ix2 s (y 0)) * argG m c (ix2 s (y 1))

theorem V_v0 : (V m c main_v0 : FVec Ideal S16384x1024 .bf16) = argX m c := by
  simp only [V, hostOps0, List.flatten_cons, List.flatten_nil, List.append_nil, List.cons_append, List.nil_append]
  after_reads_simp
  rfl

theorem V_v1 : (V m c main_v1 : FVec Ideal S16384x10240 .bf16) = argG m c := by
  simp only [V, hostOps0, List.flatten_cons, List.flatten_nil, List.append_nil, List.cons_append, List.nil_append]
  after_reads_simp
  rfl

/-- One point's product at an index. -/
theorem pay1_apply (a : FVec Ideal S1024x1024 .bf16) (b : FVec Ideal S1024x2048 .bf16) (j : S1024x2048.Idx) :
    k0_pay1 (F := Ideal) a b j = ∑ r : Fin 1024, a (ix2 r (j 0)) * b (ix2 r (j 1)) := by
  pointwise [k0_pay1]

/-- A later point adds its product to what the block holds. -/
theorem pay2_apply (a : FVec Ideal S1024x1024 .bf16) (b acc : FVec Ideal S1024x2048 .f32) (j : S1024x2048.Idx) :
    k0_pay2 (F := Ideal) a b acc j = acc j + ∑ r : Fin 1024, a (ix2 r (j 0)) * b (ix2 r (j 1)) := by
  pointwise [k0_pay2, pay1_apply]

/-- The block written back holds the sum of the products of the sixteen blocks of tokens. -/
theorem block_apply (t : Fin cfg0.N) (hf : (cfg0.win 2).flush t = true) (j : S1024x2048.Idx) :
    (dats m 0 c).after 2 t j = weightGrad m c (ix2 (j 0) ⟨2048 * (t.val / 16) + (j 1).val, by
      have := t.isLt; have h2 : (j 1).val < 2048 := (j 1).isLt; have : t.val < 80 := this; omega⟩) := by
  rw [after0_2, Pipeline.eq_sum_fin_of_reset_step_apply_of_flush (fun n h => outsAt0 m c n h) 16 (fun _ => (0 : EReal)) _
      (fun t h j => by rw [outsAt0_A m c t h (by omega)]; frame_out; rw [pay1_apply]; exact (zero_add _).symm)
      (fun t h j => by rw [outsAt0_B m c t h (by omega)]; frame_out; rw [pay2_apply]) t ((flush0_2 t).mp hf) j, zero_add]
  have e := Fin.sum_mul_add_fin (M := EReal) 16 1024 (fun s : Fin 16384 =>
    argX m c (ix2 s (j 0)) * argG m c (ix2 s (⟨2048 * (t.val / 16) + (j 1).val, by
      have := t.isLt; have h2 : (j 1).val < 2048 := (j 1).isLt; have : t.val < 80 := this; omega⟩ : Fin 10240)))
  refine Eq.trans ?_ e
  refine Fin.sum_fin_congr fun p => Fin.sum_fin_congr fun r => ?_
  refine congrArg₂ (fun a b : EReal => a * b) ?_ ?_
  · refine Eq.trans ?_ (congrFun (V_v0 m c) _)
    blk_ext [iblk, idx]
  · refine Eq.trans ?_ (congrFun (V_v1 m c) _)
    blk_ext [iblk, idx]

/-- The array after the run is the gradient of the weights. -/
theorem final : (dats m 0 c).arrAt 2 cfg0.N = weightGrad m c := by
  refine (dats m 0 c).arrAt_eq_of_covers 2 _ (by decide +kernel) fun t hf y => ?_
  blk_simp
  refine (block_apply m c t hf y).trans ?_
  refine congrArg (weightGrad m c) ?_
  blk_ext [idx t]

/-- Taken over all tokens at once, the product is the gradient the kernel leaves. -/
theorem product_eq (x : FVec Ideal Cert.Reference3Ideal.S16384x1024 .f32) (g : FVec Ideal Cert.Reference3Ideal.S16384x10240 .f32)
    (hx : x = argX m c) (hg : g = argG m c) :
    (transpose Cert.Reference3Ideal.S1024x10240 [1, 0] (Host.dotGeneral (φ₁ := .f32) (φ₂ := .f32) Cert.Reference3Ideal.dot_S16384x10240_S16384x1024_S10240x1024_0_0_1_1_n_n none g x)
      Cert.Reference3Ideal.Gen.transposes_S10240x1024_S1024x10240_1_0 : FVec Ideal S1024x10240 .f32) = weightGrad m c := by
  funext y
  subst hx hg
  pointwise [weightGrad]
  exact Finset.sum_congr rfl fun s _ => mul_comm _ _

/-- The value claim. -/
theorem agree : Cert.algebraic_Kernel3Ideal_Reference3Ideal (hKernel3Ideal := Cert.Kernel3Ideal.Gen.facts) (hReference3Ideal := Cert.Reference3Ideal.Gen.facts) := by
  pair_intro
  · run_from Cert.Kernel3Ideal.Value.run_blocks m g
  · refine (θ_run _ _ _).mono (fun r h c => ?_) (Cert.Reference3Ideal.Value.run (F := Ideal) m' g')
    obtain ⟨h0, h1⟩ := hagree c
    refine ⟨?_, (h c).2⟩
    rw [(h c).1, final m c]
    exact product_eq m c _ _ h0 h1

end Cert.Kernel3Ideal.Dw

end
-- ==== Proof.DwGate.lean ====
/- The gradient of the gate weights, accumulated over blocks of tokens, is the product the reference takes over all tokens. -/
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel4Ideal.DwGate

open Cert.Kernel4Ideal Cert.Kernel4Ideal.Gen Idealize.ShloMosaic Idealize.ShloMosaic.TcCoe Idealize.SL.Sem
open Finset

variable (m : (ℓ : Loc nD τ sig) → Buf (Elt Ideal) ℓ) (c : Dev nD)

/-- The blocks each point works on: the sixteen blocks of tokens are walked inside one block of the result. -/
theorem idx : ∀ t : Fin grid0.N, win0_0.index t = ![t.val % 16, 0] ∧ win0_1.index t = ![t.val % 16, 0]
    ∧ win0_2.index t = ![0, 0] :=
  (by decide +kernel : ∀ t : Fin grid0.N, _)

/-- The activations, tokens by channels. -/
def argX : FVec Ideal S16384x1024 .f32 := m ((c : Thread nD τ).loc main_arg0)
/-- The gradient of the product, tokens by columns. -/
def argG : FVec Ideal S16384x2816 .f32 := m ((c : Thread nD τ).loc main_arg1)

/-- The gradient of the weights: for a channel and a column, the sum over all tokens. -/
def weightGrad : FVec Ideal S1024x2816 .f32 := fun y =>
  ∑ s : Fin 16384, argX m c (ix2 s (y 0)) * argG m c (ix2 s (y 1))

theorem V_v0 : (V m c main_v0 : FVec Ideal S16384x1024 .bf16) = argX m c := by
  simp only [V, hostOps0, List.flatten_cons, List.flatten_nil, List.append_nil, List.cons_append, List.nil_append]
  after_reads_simp
  rfl

theorem V_v1 : (V m c main_v1 : FVec Ideal S16384x2816 .bf16) = argG m c := by
  simp only [V, hostOps0, List.flatten_cons, List.flatten_nil, List.append_nil, List.cons_append, List.nil_append]
  after_reads_simp
  rfl

/-- One point's product at an index. -/
theorem pay1_apply (a : FVec Ideal S1024x1024 .bf16) (b : FVec Ideal S1024x2816 .bf16) (j : S1024x2816.Idx) :
    k0_pay1 (F := Ideal) a b j = ∑ r : Fin 1024, a (ix2 r (j 0)) * b (ix2 r (j 1)) := by
  pointwise [k0_pay1]

/-- A later point adds its product to what the block holds. -/
theorem pay2_apply (a : FVec Ideal S1024x1024 .bf16) (b : FVec Ideal S1024x2816 .bf16) (acc : FVec Ideal S1024x2816 .f32) (j : S1024x2816.Idx) :
    k0_pay2 (F := Ideal) a b acc j = acc j + ∑ r : Fin 1024, a (ix2 r (j 0)) * b (ix2 r (j 1)) := by
  pointwise [k0_pay2, pay1_apply]

/-- The place in the whole result of an entry of a point's block. -/
def place (t : Fin cfg0.N) (j : S1024x2816.Idx) : S1024x2816.Idx :=
  ix2 ⟨(j 0).val, by
    have h : t.val < 16 := t.isLt
    have h0 : (j 0).val < 1024 := (j 0).isLt
    omega⟩ ⟨(j 1).val, by
    have h : t.val < 16 := t.isLt
    have h1 : (j 1).val < 2816 := (j 1).isLt
    omega⟩

/-- The block written back holds the sum of the products of the sixteen blocks of tokens. -/
theorem block_apply (t : Fin cfg0.N) (hf : (cfg0.win 2).flush t = true) (j : S1024x2816.Idx) :
    (dats m 0 c).after 2 t j = weightGrad m c (place t j) := by
  rw [after0_2, Pipeline.eq_sum_fin_of_reset_step_apply_of_flush (fun n h => outsAt0 m c n h) 16 (fun _ => (0 : EReal)) _
      (fun t h j => by rw [outsAt0_A m c t h (by have hN : t.val < 16 := t.isLt; omega)]; frame_out; rw [pay1_apply]; exact (zero_add _).symm)
      (fun t h j => by rw [outsAt0_B m c t h (by have hN : t.val < 16 := t.isLt; omega)]; frame_out; rw [pay2_apply]) t ((flush0_2 t).mp hf) j, zero_add]
  have e := Fin.sum_mul_add_fin (M := EReal) 16 1024 (fun s : Fin 16384 =>
    argX m c (ix2 s (place t j 0)) * argG m c (ix2 s (place t j 1)))
  refine Eq.trans ?_ e
  refine Fin.sum_fin_congr fun p => Fin.sum_fin_congr fun r => ?_
  refine congrArg₂ (fun a b : EReal => a * b) ?_ ?_
  · refine Eq.trans ?_ (congrFun (V_v0 m c) _)
    blk_ext [iblk, idx, place]
  · refine Eq.trans ?_ (congrFun (V_v1 m c) _)
    blk_ext [iblk, idx, place]

/-- The array after the run is the gradient of the weights. -/
theorem final : (dats m 0 c).arrAt 2 cfg0.N = weightGrad m c := by
  refine (dats m 0 c).arrAt_eq_of_covers 2 _ (by decide +kernel) fun t hf y => ?_
  blk_simp
  refine (block_apply m c t hf y).trans ?_
  refine congrArg (weightGrad m c) ?_
  blk_ext [idx t, place]

/-- Taken over all tokens at once, the product is the gradient the kernel leaves. -/
theorem product_eq (x : FVec Ideal Cert.Reference4Ideal.S16384x1024 .f32) (g : FVec Ideal Cert.Reference4Ideal.S16384x2816 .f32)
    (hx : x = argX m c) (hg : g = argG m c) :
    (transpose Cert.Reference4Ideal.S1024x2816 [1, 0] (Host.dotGeneral (φ₁ := .f32) (φ₂ := .f32)
      Cert.Reference4Ideal.dot_S16384x2816_S16384x1024_S2816x1024_0_0_1_1_n_n none g x)
      Cert.Reference4Ideal.Gen.transposes_S2816x1024_S1024x2816_1_0 : FVec Ideal S1024x2816 .f32) = weightGrad m c := by
  funext y
  subst hx hg
  pointwise [weightGrad]
  exact Finset.sum_congr rfl fun s _ => mul_comm _ _

/-- The value claim. -/
theorem agree : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · refine (θ_run _ _ _).mono (fun r h c => ?_) (Cert.Reference4Ideal.Value.run (F := Ideal) m' g')
    obtain ⟨h0, h1⟩ := hagree c
    refine ⟨?_, (h c).2⟩
    rw [(h c).1, final m c]
    exact product_eq m c _ _ h0 h1

end Cert.Kernel4Ideal.DwGate

end
-- ==== Proof.DwDown.lean ====
/- The gradient of the down-projection weights, accumulated over blocks of tokens, is the product the reference takes over all tokens. -/
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel5Ideal.DwDown

open Cert.Kernel5Ideal Cert.Kernel5Ideal.Gen Idealize.ShloMosaic Idealize.ShloMosaic.TcCoe Idealize.SL.Sem
open Finset

variable (m : (ℓ : Loc nD τ sig) → Buf (Elt Ideal) ℓ) (c : Dev nD)

/-- The blocks each point works on: the sixteen blocks of tokens are walked inside one block of the result. -/
theorem idx : ∀ t : Fin grid0.N, win0_0.index t = ![t.val % 16, t.val / 16] ∧ win0_1.index t = ![t.val % 16, 0]
    ∧ win0_2.index t = ![t.val / 16, 0] :=
  (by decide +kernel : ∀ t : Fin grid0.N, _)

/-- The activations, tokens by channels. -/
def argX : FVec Ideal S16384x2816 .f32 := m ((c : Thread nD τ).loc main_arg0)
/-- The gradient of the product, tokens by columns. -/
def argG : FVec Ideal S16384x1024 .f32 := m ((c : Thread nD τ).loc main_arg1)

/-- The gradient of the weights: for a channel and a column, the sum over all tokens. -/
def weightGrad : FVec Ideal S2816x1024 .f32 := fun y =>
  ∑ s : Fin 16384, argX m c (ix2 s (y 0)) * argG m c (ix2 s (y 1))

theorem V_v0 : (V m c main_v0 : FVec Ideal S16384x2816 .bf16) = argX m c := by
  simp only [V, hostOps0, List.flatten_cons, List.flatten_nil, List.append_nil, List.cons_append, List.nil_append]
  after_reads_simp
  rfl

theorem V_v1 : (V m c main_v1 : FVec Ideal S16384x1024 .bf16) = argG m c := by
  simp only [V, hostOps0, List.flatten_cons, List.flatten_nil, List.append_nil, List.cons_append, List.nil_append]
  after_reads_simp
  rfl

/-- One point's product at an index. -/
theorem pay1_apply (a : FVec Ideal S1024x1408 .bf16) (b : FVec Ideal S1024x1024 .bf16) (j : S1408x1024.Idx) :
    k0_pay1 (F := Ideal) a b j = ∑ r : Fin 1024, a (ix2 r (j 0)) * b (ix2 r (j 1)) := by
  pointwise [k0_pay1]

/-- A later point adds its product to what the block holds. -/
theorem pay2_apply (a : FVec Ideal S1024x1408 .bf16) (b : FVec Ideal S1024x1024 .bf16) (acc : FVec Ideal S1408x1024 .f32) (j : S1408x1024.Idx) :
    k0_pay2 (F := Ideal) a b acc j = acc j + ∑ r : Fin 1024, a (ix2 r (j 0)) * b (ix2 r (j 1)) := by
  pointwise [k0_pay2, pay1_apply]

/-- The place in the whole result of an entry of a point's block. -/
def place (t : Fin cfg0.N) (j : S1408x1024.Idx) : S2816x1024.Idx :=
  ix2 ⟨1408 * (t.val / 16) + (j 0).val, by
    have h : t.val < 32 := t.isLt
    have h0 : (j 0).val < 1408 := (j 0).isLt
    omega⟩ ⟨(j 1).val, by
    have h : t.val < 32 := t.isLt
    have h1 : (j 1).val < 1024 := (j 1).isLt
    omega⟩

/-- The block written back holds the sum of the products of the sixteen blocks of tokens. -/
theorem block_apply (t : Fin cfg0.N) (hf : (cfg0.win 2).flush t = true) (j : S1408x1024.Idx) :
    (dats m 0 c).after 2 t j = weightGrad m c (place t j) := by
  rw [after0_2, Pipeline.eq_sum_fin_of_reset_step_apply_of_flush (fun n h => outsAt0 m c n h) 16 (fun _ => (0 : EReal)) _
      (fun t h j => by rw [outsAt0_A m c t h (by omega)]; frame_out; rw [pay1_apply]; exact (zero_add _).symm)
      (fun t h j => by rw [outsAt0_B m c t h (by omega)]; frame_out; rw [pay2_apply]) t ((flush0_2 t).mp hf) j, zero_add]
  have e := Fin.sum_mul_add_fin (M := EReal) 16 1024 (fun s : Fin 16384 =>
    argX m c (ix2 s (place t j 0)) * argG m c (ix2 s (place t j 1)))
  refine Eq.trans ?_ e
  refine Fin.sum_fin_congr fun p => Fin.sum_fin_congr fun r => ?_
  refine congrArg₂ (fun a b : EReal => a * b) ?_ ?_
  · refine Eq.trans ?_ (congrFun (V_v0 m c) _)
    blk_ext [iblk, idx, place]
  · refine Eq.trans ?_ (congrFun (V_v1 m c) _)
    blk_ext [iblk, idx, place]

/-- The array after the run is the gradient of the weights. -/
theorem final : (dats m 0 c).arrAt 2 cfg0.N = weightGrad m c := by
  refine (dats m 0 c).arrAt_eq_of_covers 2 _ (by decide +kernel) fun t hf y => ?_
  blk_simp
  refine (block_apply m c t hf y).trans ?_
  refine congrArg (weightGrad m c) ?_
  blk_ext [idx t, place]

/-- Taken over all tokens at once, the product is the gradient the kernel leaves. -/
theorem product_eq (x : FVec Ideal Cert.Reference5Ideal.S16384x2816 .f32) (g : FVec Ideal Cert.Reference5Ideal.S16384x1024 .f32)
    (hx : x = argX m c) (hg : g = argG m c) :
    (transpose Cert.Reference5Ideal.S2816x1024 [1, 0] (Host.dotGeneral (φ₁ := .f32) (φ₂ := .f32)
      Cert.Reference5Ideal.dot_S16384x1024_S16384x2816_S1024x2816_0_0_1_1_n_n none g x)
      Cert.Reference5Ideal.Gen.transposes_S1024x2816_S2816x1024_1_0 : FVec Ideal S2816x1024 .f32) = weightGrad m c := by
  funext y
  subst hx hg
  pointwise [weightGrad]
  exact Finset.sum_congr rfl fun s _ => mul_comm _ _

/-- The value claim. -/
theorem agree : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · refine (θ_run _ _ _).mono (fun r h c => ?_) (Cert.Reference5Ideal.Value.run (F := Ideal) m' g')
    obtain ⟨h0, h1⟩ := hagree c
    refine ⟨?_, (h c).2⟩
    rw [(h c).1, final m c]
    exact product_eq m c _ _ h0 h1

end Cert.Kernel5Ideal.DwDown

end
-- ==== Proof.DwBOut.lean ====
/- The gradient of the second branch's output weights, accumulated over blocks of tokens, is the product the reference takes over all tokens. -/
module

public import proofs.«01_k».proof.Defs
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel6Ideal.DwBOut

open Cert.Kernel6Ideal Cert.Kernel6Ideal.Gen Idealize.ShloMosaic Idealize.ShloMosaic.TcCoe Idealize.SL.Sem
open Finset

variable (m : (ℓ : Loc nD τ sig) → Buf (Elt Ideal) ℓ) (c : Dev nD)

/-- The blocks each point works on: the sixteen blocks of tokens are walked inside one block of the result. -/
theorem idx : ∀ t : Fin grid0.N, win0_0.index t = ![t.val % 16, t.val / 16] ∧ win0_1.index t = ![t.val % 16, 0]
    ∧ win0_2.index t = ![t.val / 16, 0] :=
  (by decide +kernel : ∀ t : Fin grid0.N, _)

/-- The activations, tokens by channels. -/
def argX : FVec Ideal S16384x2048 .f32 := m ((c : Thread nD τ).loc main_arg0)
/-- The gradient of the product, tokens by columns. -/
def argG : FVec Ideal S16384x1024 .f32 := m ((c : Thread nD τ).loc main_arg1)

/-- The gradient of the weights: for a channel and a column, the sum over all tokens. -/
def weightGrad : FVec Ideal S2048x1024 .f32 := fun y =>
  ∑ s : Fin 16384, argX m c (ix2 s (y 0)) * argG m c (ix2 s (y 1))

theorem V_v0 : (V m c main_v0 : FVec Ideal S16384x2048 .bf16) = argX m c := by
  simp only [V, hostOps0, List.flatten_cons, List.flatten_nil, List.append_nil, List.cons_append, List.nil_append]
  after_reads_simp
  rfl

theorem V_v1 : (V m c main_v1 : FVec Ideal S16384x1024 .bf16) = argG m c := by
  simp only [V, hostOps0, List.flatten_cons, List.flatten_nil, List.append_nil, List.cons_append, List.nil_append]
  after_reads_simp
  rfl

/-- One point's product at an index. -/
theorem pay1_apply (a : FVec Ideal S1024x1024 .bf16) (b : FVec Ideal S1024x1024 .bf16) (j : S1024x1024.Idx) :
    k0_pay1 (F := Ideal) a b j = ∑ r : Fin 1024, a (ix2 r (j 0)) * b (ix2 r (j 1)) := by
  pointwise [k0_pay1]

/-- A later point adds its product to what the block holds. -/
theorem pay2_apply (a : FVec Ideal S1024x1024 .bf16) (b : FVec Ideal S1024x1024 .bf16) (acc : FVec Ideal S1024x1024 .f32) (j : S1024x1024.Idx) :
    k0_pay2 (F := Ideal) a b acc j = acc j + ∑ r : Fin 1024, a (ix2 r (j 0)) * b (ix2 r (j 1)) := by
  pointwise [k0_pay2, pay1_apply]

/-- The place in the whole result of an entry of a point's block. -/
def place (t : Fin cfg0.N) (j : S1024x1024.Idx) : S2048x1024.Idx :=
  ix2 ⟨1024 * (t.val / 16) + (j 0).val, by
    have h : t.val < 32 := t.isLt
    have h0 : (j 0).val < 1024 := (j 0).isLt
    omega⟩ ⟨(j 1).val, by
    have h : t.val < 32 := t.isLt
    have h1 : (j 1).val < 1024 := (j 1).isLt
    omega⟩

/-- The block written back holds the sum of the products of the sixteen blocks of tokens. -/
theorem block_apply (t : Fin cfg0.N) (hf : (cfg0.win 2).flush t = true) (j : S1024x1024.Idx) :
    (dats m 0 c).after 2 t j = weightGrad m c (place t j) := by
  rw [after0_2, Pipeline.eq_sum_fin_of_reset_step_apply_of_flush (fun n h => outsAt0 m c n h) 16 (fun _ => (0 : EReal)) _
      (fun t h j => by rw [outsAt0_A m c t h (by omega)]; frame_out; rw [pay1_apply]; exact (zero_add _).symm)
      (fun t h j => by rw [outsAt0_B m c t h (by omega)]; frame_out; rw [pay2_apply]) t ((flush0_2 t).mp hf) j, zero_add]
  have e := Fin.sum_mul_add_fin (M := EReal) 16 1024 (fun s : Fin 16384 =>
    argX m c (ix2 s (place t j 0)) * argG m c (ix2 s (place t j 1)))
  refine Eq.trans ?_ e
  refine Fin.sum_fin_congr fun p => Fin.sum_fin_congr fun r => ?_
  refine congrArg₂ (fun a b : EReal => a * b) ?_ ?_
  · refine Eq.trans ?_ (congrFun (V_v0 m c) _)
    blk_ext [iblk, idx, place]
  · refine Eq.trans ?_ (congrFun (V_v1 m c) _)
    blk_ext [iblk, idx, place]

/-- The array after the run is the gradient of the weights. -/
theorem final : (dats m 0 c).arrAt 2 cfg0.N = weightGrad m c := by
  refine (dats m 0 c).arrAt_eq_of_covers 2 _ (by decide +kernel) fun t hf y => ?_
  blk_simp
  refine (block_apply m c t hf y).trans ?_
  refine congrArg (weightGrad m c) ?_
  blk_ext [idx t, place]

/-- Taken over all tokens at once, the product is the gradient the kernel leaves. -/
theorem product_eq (x : FVec Ideal Cert.Reference6Ideal.S16384x2048 .f32) (g : FVec Ideal Cert.Reference6Ideal.S16384x1024 .f32)
    (hx : x = argX m c) (hg : g = argG m c) :
    (transpose Cert.Reference6Ideal.S2048x1024 [1, 0] (Host.dotGeneral (φ₁ := .f32) (φ₂ := .f32)
      Cert.Reference6Ideal.dot_S16384x1024_S16384x2048_S1024x2048_0_0_1_1_n_n none g x)
      Cert.Reference6Ideal.Gen.transposes_S1024x2048_S2048x1024_1_0 : FVec Ideal S2048x1024 .f32) = weightGrad m c := by
  funext y
  subst hx hg
  pointwise [weightGrad]
  exact Finset.sum_congr rfl fun s _ => mul_comm _ _

/-- The value claim. -/
theorem agree : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · refine (θ_run _ _ _).mono (fun r h c => ?_) (Cert.Reference6Ideal.Value.run (F := Ideal) m' g')
    obtain ⟨h0, h1⟩ := hagree c
    refine ⟨?_, (h c).2⟩
    rw [(h c).1, final m c]
    exact product_eq m c _ _ h0 h1

end Cert.Kernel6Ideal.DwBOut

end
-- ==== Proof.DwO.lean ====
/- The gradient of the mixing weights, accumulated over blocks of tokens, is the product the reference takes over all tokens. -/
module

public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel7Ideal.DwO

open Cert.Kernel7Ideal Cert.Kernel7Ideal.Gen Idealize.ShloMosaic Idealize.ShloMosaic.TcCoe Idealize.SL.Sem
open Finset

variable (m : (ℓ : Loc nD τ sig) → Buf (Elt Ideal) ℓ) (c : Dev nD)

/-- The blocks each point works on: the sixteen blocks of tokens are walked inside one block of the result. -/
theorem idx : ∀ t : Fin grid0.N, win0_0.index t = ![t.val % 16, 0] ∧ win0_1.index t = ![t.val % 16, 0]
    ∧ win0_2.index t = ![0, 0] :=
  (by decide +kernel : ∀ t : Fin grid0.N, _)

/-- The activations, tokens by channels. -/
def argX : FVec Ideal S16384x1024 .f32 := m ((c : Thread nD τ).loc main_arg0)
/-- The gradient of the product, tokens by columns. -/
def argG : FVec Ideal S16384x1024 .f32 := m ((c : Thread nD τ).loc main_arg1)

/-- The gradient of the weights: for a channel and a column, the sum over all tokens. -/
def weightGrad : FVec Ideal S1024x1024 .f32 := fun y =>
  ∑ s : Fin 16384, argX m c (ix2 s (y 0)) * argG m c (ix2 s (y 1))

theorem V_v0 : (V m c main_v0 : FVec Ideal S16384x1024 .bf16) = argX m c := by
  simp only [V, hostOps0, List.flatten_cons, List.flatten_nil, List.append_nil, List.cons_append, List.nil_append]
  after_reads_simp
  rfl

theorem V_v1 : (V m c main_v1 : FVec Ideal S16384x1024 .bf16) = argG m c := by
  simp only [V, hostOps0, List.flatten_cons, List.flatten_nil, List.append_nil, List.cons_append, List.nil_append]
  after_reads_simp
  rfl

/-- One point's product at an index. -/
theorem pay1_apply (a : FVec Ideal S1024x1024 .bf16) (b : FVec Ideal S1024x1024 .bf16) (j : S1024x1024.Idx) :
    k0_pay1 (F := Ideal) a b j = ∑ r : Fin 1024, a (ix2 r (j 0)) * b (ix2 r (j 1)) := by
  pointwise [k0_pay1]

/-- A later point adds its product to what the block holds. -/
theorem pay2_apply (a : FVec Ideal S1024x1024 .bf16) (b : FVec Ideal S1024x1024 .bf16) (acc : FVec Ideal S1024x1024 .f32) (j : S1024x1024.Idx) :
    k0_pay2 (F := Ideal) a b acc j = acc j + ∑ r : Fin 1024, a (ix2 r (j 0)) * b (ix2 r (j 1)) := by
  pointwise [k0_pay2, pay1_apply]

/-- The place in the whole result of an entry of a point's block. -/
def place (t : Fin cfg0.N) (j : S1024x1024.Idx) : S1024x1024.Idx :=
  ix2 ⟨(j 0).val, by
    have h : t.val < 16 := t.isLt
    have h0 : (j 0).val < 1024 := (j 0).isLt
    omega⟩ ⟨(j 1).val, by
    have h : t.val < 16 := t.isLt
    have h1 : (j 1).val < 1024 := (j 1).isLt
    omega⟩

/-- The block written back holds the sum of the products of the sixteen blocks of tokens. -/
theorem block_apply (t : Fin cfg0.N) (hf : (cfg0.win 2).flush t = true) (j : S1024x1024.Idx) :
    (dats m 0 c).after 2 t j = weightGrad m c (place t j) := by
  rw [after0_2, Pipeline.eq_sum_fin_of_reset_step_apply_of_flush (fun n h => outsAt0 m c n h) 16 (fun _ => (0 : EReal)) _
      (fun t h j => by rw [outsAt0_A m c t h (by have hN : t.val < 16 := t.isLt; omega)]; frame_out; rw [pay1_apply]; exact (zero_add _).symm)
      (fun t h j => by rw [outsAt0_B m c t h (by have hN : t.val < 16 := t.isLt; omega)]; frame_out; rw [pay2_apply]) t ((flush0_2 t).mp hf) j, zero_add]
  have e := Fin.sum_mul_add_fin (M := EReal) 16 1024 (fun s : Fin 16384 =>
    argX m c (ix2 s (place t j 0)) * argG m c (ix2 s (place t j 1)))
  refine Eq.trans ?_ e
  refine Fin.sum_fin_congr fun p => Fin.sum_fin_congr fun r => ?_
  refine congrArg₂ (fun a b : EReal => a * b) ?_ ?_
  · refine Eq.trans ?_ (congrFun (V_v0 m c) _)
    blk_ext [iblk, idx, place]
  · refine Eq.trans ?_ (congrFun (V_v1 m c) _)
    blk_ext [iblk, idx, place]

/-- The array after the run is the gradient of the weights. -/
theorem final : (dats m 0 c).arrAt 2 cfg0.N = weightGrad m c := by
  refine (dats m 0 c).arrAt_eq_of_covers 2 _ (by decide +kernel) fun t hf y => ?_
  blk_simp
  refine (block_apply m c t hf y).trans ?_
  refine congrArg (weightGrad m c) ?_
  blk_ext [idx t, place]

/-- Taken over all tokens at once, the product is the gradient the kernel leaves. -/
theorem product_eq (x : FVec Ideal Cert.Reference7Ideal.S16384x1024 .f32) (g : FVec Ideal Cert.Reference7Ideal.S16384x1024 .f32)
    (hx : x = argX m c) (hg : g = argG m c) :
    (transpose Cert.Reference7Ideal.S1024x1024 [1, 0] (Host.dotGeneral (φ₁ := .f32) (φ₂ := .f32)
      Cert.Reference7Ideal.dot_S16384x1024_S16384x1024_S1024x1024_0_0_1_1_n_n none g x)
      Cert.Reference7Ideal.Gen.transposes_S1024x1024_S1024x1024_1_0 : FVec Ideal S1024x1024 .f32) = weightGrad m c := by
  funext y
  subst hx hg
  pointwise [weightGrad]
  exact Finset.sum_congr rfl fun s _ => mul_comm _ _

/-- The value claim. -/
theorem agree : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · refine (θ_run _ _ _).mono (fun r h c => ?_) (Cert.Reference7Ideal.Value.run (F := Ideal) m' g')
    obtain ⟨h0, h1⟩ := hagree c
    refine ⟨?_, (h c).2⟩
    rw [(h c).1, final m c]
    exact product_eq m c _ _ h0 h1

end Cert.Kernel7Ideal.DwO

end
-- ==== Proof.DwPle.lean ====
/- The gradient of the embedding weights, accumulated over blocks of tokens, is the product the reference takes over all tokens. -/
module

public import proofs.«01_k».proof.Defs
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel8Ideal.DwPle

open Cert.Kernel8Ideal Cert.Kernel8Ideal.Gen Idealize.ShloMosaic Idealize.ShloMosaic.TcCoe Idealize.SL.Sem
open Finset

variable (m : (ℓ : Loc nD τ sig) → Buf (Elt Ideal) ℓ) (c : Dev nD)

/-- The blocks each point works on: the sixteen blocks of tokens are walked inside one block of the result. -/
theorem idx : ∀ t : Fin grid0.N, win0_0.index t = ![t.val % 16, 0] ∧ win0_1.index t = ![t.val % 16, 0]
    ∧ win0_2.index t = ![0, 0] :=
  (by decide +kernel : ∀ t : Fin grid0.N, _)

/-- The activations, tokens by channels. -/
def argX : FVec Ideal S16384x256 .f32 := m ((c : Thread nD τ).loc main_arg0)
/-- The gradient of the product, tokens by columns. -/
def argG : FVec Ideal S16384x1024 .f32 := m ((c : Thread nD τ).loc main_arg1)

/-- The gradient of the weights: for a channel and a column, the sum over all tokens. -/
def weightGrad : FVec Ideal S256x1024 .f32 := fun y =>
  ∑ s : Fin 16384, argX m c (ix2 s (y 0)) * argG m c (ix2 s (y 1))

theorem V_v0 : (V m c main_v0 : FVec Ideal S16384x256 .bf16) = argX m c := by
  simp only [V, hostOps0, List.flatten_cons, List.flatten_nil, List.append_nil, List.cons_append, List.nil_append]
  after_reads_simp
  rfl

theorem V_v1 : (V m c main_v1 : FVec Ideal S16384x1024 .bf16) = argG m c := by
  simp only [V, hostOps0, List.flatten_cons, List.flatten_nil, List.append_nil, List.cons_append, List.nil_append]
  after_reads_simp
  rfl

/-- One point's product at an index. -/
theorem pay1_apply (a : FVec Ideal S1024x256 .bf16) (b : FVec Ideal S1024x1024 .bf16) (j : S256x1024.Idx) :
    k0_pay1 (F := Ideal) a b j = ∑ r : Fin 1024, a (ix2 r (j 0)) * b (ix2 r (j 1)) := by
  pointwise [k0_pay1]

/-- A later point adds its product to what the block holds. -/
theorem pay2_apply (a : FVec Ideal S1024x256 .bf16) (b : FVec Ideal S1024x1024 .bf16) (acc : FVec Ideal S256x1024 .f32) (j : S256x1024.Idx) :
    k0_pay2 (F := Ideal) a b acc j = acc j + ∑ r : Fin 1024, a (ix2 r (j 0)) * b (ix2 r (j 1)) := by
  pointwise [k0_pay2, pay1_apply]

/-- The place in the whole result of an entry of a point's block. -/
def place (t : Fin cfg0.N) (j : S256x1024.Idx) : S256x1024.Idx :=
  ix2 ⟨(j 0).val, by
    have h : t.val < 16 := t.isLt
    have h0 : (j 0).val < 256 := (j 0).isLt
    omega⟩ ⟨(j 1).val, by
    have h : t.val < 16 := t.isLt
    have h1 : (j 1).val < 1024 := (j 1).isLt
    omega⟩

/-- The block written back holds the sum of the products of the sixteen blocks of tokens. -/
theorem block_apply (t : Fin cfg0.N) (hf : (cfg0.win 2).flush t = true) (j : S256x1024.Idx) :
    (dats m 0 c).after 2 t j = weightGrad m c (place t j) := by
  rw [after0_2, Pipeline.eq_sum_fin_of_reset_step_apply_of_flush (fun n h => outsAt0 m c n h) 16 (fun _ => (0 : EReal)) _
      (fun t h j => by rw [outsAt0_A m c t h (by have hN : t.val < 16 := t.isLt; omega)]; frame_out; rw [pay1_apply]; exact (zero_add _).symm)
      (fun t h j => by rw [outsAt0_B m c t h (by have hN : t.val < 16 := t.isLt; omega)]; frame_out; rw [pay2_apply]) t ((flush0_2 t).mp hf) j, zero_add]
  have e := Fin.sum_mul_add_fin (M := EReal) 16 1024 (fun s : Fin 16384 =>
    argX m c (ix2 s (place t j 0)) * argG m c (ix2 s (place t j 1)))
  refine Eq.trans ?_ e
  refine Fin.sum_fin_congr fun p => Fin.sum_fin_congr fun r => ?_
  refine congrArg₂ (fun a b : EReal => a * b) ?_ ?_
  · refine Eq.trans ?_ (congrFun (V_v0 m c) _)
    blk_ext [iblk, idx, place]
  · refine Eq.trans ?_ (congrFun (V_v1 m c) _)
    blk_ext [iblk, idx, place]

/-- The array after the run is the gradient of the weights. -/
theorem final : (dats m 0 c).arrAt 2 cfg0.N = weightGrad m c := by
  refine (dats m 0 c).arrAt_eq_of_covers 2 _ (by decide +kernel) fun t hf y => ?_
  blk_simp
  refine (block_apply m c t hf y).trans ?_
  refine congrArg (weightGrad m c) ?_
  blk_ext [idx t, place]

/-- Taken over all tokens at once, the product is the gradient the kernel leaves. -/
theorem product_eq (x : FVec Ideal Cert.Reference8Ideal.S16384x256 .f32) (g : FVec Ideal Cert.Reference8Ideal.S16384x1024 .f32)
    (hx : x = argX m c) (hg : g = argG m c) :
    (transpose Cert.Reference8Ideal.S256x1024 [1, 0] (Host.dotGeneral (φ₁ := .f32) (φ₂ := .f32)
      Cert.Reference8Ideal.dot_S16384x1024_S16384x256_S1024x256_0_0_1_1_n_n none g x)
      Cert.Reference8Ideal.Gen.transposes_S1024x256_S256x1024_1_0 : FVec Ideal S256x1024 .f32) = weightGrad m c := by
  funext y
  subst hx hg
  pointwise [weightGrad]
  exact Finset.sum_congr rfl fun s _ => mul_comm _ _

/-- The value claim. -/
theorem agree : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · refine (θ_run _ _ _).mono (fun r h c => ?_) (Cert.Reference8Ideal.Value.run (F := Ideal) m' g')
    obtain ⟨h0, h1⟩ := hagree c
    refine ⟨?_, (h c).2⟩
    rw [(h c).1, final m c]
    exact product_eq m c _ _ h0 h1

end Cert.Kernel8Ideal.DwPle

end
-- ==== Proof.InProj.lean ====
/- The projection of the input, taken block by block, is the product the reference takes at once. -/
module

public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel9Ideal.InProj

open Cert.Kernel9Ideal Cert.Kernel9Ideal.Gen Idealize.ShloMosaic Idealize.ShloMosaic.TcCoe Idealize.SL.Sem
open Finset

variable (m : (ℓ : Loc nD τ sig) → Buf (Elt Ideal) ℓ) (c : Dev nD)

/-- The blocks each point works on: the sixteen blocks of tokens are walked inside one block of columns. -/
theorem idx : ∀ t : Fin grid0.N, win0_0.index t = ![t.val % 16, 0] ∧ win0_1.index t = ![0, t.val / 16]
    ∧ win0_2.index t = ![t.val % 16, t.val / 16] :=
  (by decide +kernel : ∀ t : Fin grid0.N, _)

/-- The activations, tokens by channels. -/
def argX : FVec Ideal S16384x1024 .f32 := m ((c : Thread nD τ).loc main_arg0)
/-- The weights, channels by columns. -/
def argW : FVec Ideal S1024x10304 .f32 := m ((c : Thread nD τ).loc main_arg1)

/-- The product: for a token and a column, the sum over the channels. -/
def product : FVec Ideal S16384x10240 .bf16 := fun y =>
  ∑ k : Fin 1024, argX m c (ix2 (y 0) k) * argW m c (ix2 k ⟨(y 1).val, by have h : (y 1).val < 10240 := (y 1).isLt; omega⟩)

theorem V_v0 : (V m c main_v0 : FVec Ideal S16384x1024 .bf16) = argX m c := by
  simp only [V, hostOps0, List.flatten_cons, List.flatten_nil, List.append_nil, List.cons_append, List.nil_append]
  after_reads_simp
  rfl

/-- The weights the call multiplies with are the first 10240 columns. -/
theorem V_w (k : Fin 1024) (i : Fin 10240) : (V m c main_v2 : FVec Ideal S1024x10240 .bf16) (ix2 k i) = argW m c (ix2 k ⟨i.val, by omega⟩) := by
  have e : (V m c main_v2 : FVec Ideal S1024x10240 .bf16) = extractStridedSlice S1024x10240 ![0, 0] (argW m c) slices_S1024x10304_S1024x10240_0_0 := by
    simp only [V, hostOps0, List.flatten_cons, List.flatten_nil, List.append_nil, List.cons_append, List.nil_append]
    after_reads_simp
    rfl
  rw [e]
  pointwise []

/-- One point's product at an index. -/
theorem pay1_apply (a : FVec Ideal S1024x1024 .bf16) (b : FVec Ideal S1024x1024 .bf16) (j : S1024x1024.Idx) :
    k0_pay1 (F := Ideal) a b j = ∑ k : Fin 1024, a (ix2 (j 0) k) * b (ix2 k (j 1)) := by
  pointwise [k0_pay1]

/-- The place in the whole result of an entry of a point's block. -/
def place (t : Fin cfg0.N) (j : S1024x1024.Idx) : S16384x10240.Idx :=
  ix2 ⟨1024 * (t.val % 16) + (j 0).val, by
    have h0 : (j 0).val < 1024 := (j 0).isLt
    omega⟩ ⟨1024 * (t.val / 16) + (j 1).val, by
    have h : t.val < 160 := t.isLt
    have h1 : (j 1).val < 1024 := (j 1).isLt
    omega⟩

/-- The block a point writes back is its block of the product. -/
theorem block_apply (t : Fin cfg0.N) (j : S1024x1024.Idx) : (dats m 0 c).after 2 t j = product m c (place t j) := by
  rw [after0_2]
  frame_out
  rw [pay1_apply]
  refine Fin.sum_fin_congr fun k => ?_
  refine congrArg₂ (fun a b : EReal => a * b) ?_ ?_
  · refine Eq.trans ?_ (congrFun (V_v0 m c) _)
    blk_ext [iblk, idx, place]
  · refine Eq.trans ?_ (V_w m c k (place t j 1))
    blk_ext [iblk, idx, place]

/-- The array after the run is the product. -/
theorem final : (dats m 0 c).arrAt 2 cfg0.N = product m c := by
  refine (dats m 0 c).arrAt_eq_of_covers 2 _ (by decide +kernel) fun t hf y => ?_
  blk_simp
  refine (block_apply m c t y).trans ?_
  refine congrArg (product m c) ?_
  blk_ext [idx t, place]

/-- Taken at once, the product is what the kernel leaves. -/
theorem product_eq (x : FVec Ideal Cert.Reference9Ideal.S16384x1024 .f32) (w : FVec Ideal Cert.Reference9Ideal.S1024x10304 .f32)
    (hx : x = argX m c) (hw : w = argW m c) :
    (truncf .bf16 (Host.dotGeneral (φ₁ := .f32) (φ₂ := .f32) Cert.Reference9Ideal.dot_S16384x1024_S1024x10240_S16384x10240_1_0_0_1_n_n none x
      (extractStridedSlice Cert.Reference9Ideal.S1024x10240 ![0, 0] w Cert.Reference9Ideal.Gen.slices_S1024x10304_S1024x10240_0_0)) Cert.Reference9Ideal.Gen.bitsLt_bf16_f32 : FVec Ideal S16384x10240 .bf16) = product m c := by
  funext y
  subst hx hw
  pointwise [product]

/-- The value claim. -/
theorem agree : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · refine (θ_run _ _ _).mono (fun r h c => ?_) (Cert.Reference9Ideal.Value.run (F := Ideal) m' g')
    obtain ⟨h0, h1⟩ := hagree c
    refine ⟨?_, (h c).2⟩
    rw [(h c).1, final m c]
    exact product_eq m c _ _ h0 h1

end Cert.Kernel9Ideal.InProj

end
-- ==== Proof.AOut.lean ====
/- The output of the first branch, taken block by block, is the product the reference takes at once. -/
module

public import proofs.«01_k».proof.Defs
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel10Ideal.AOut

open Cert.Kernel10Ideal Cert.Kernel10Ideal.Gen Idealize.ShloMosaic Idealize.ShloMosaic.TcCoe Idealize.SL.Sem
open Finset

variable (m : (ℓ : Loc nD τ sig) → Buf (Elt Ideal) ℓ) (c : Dev nD)

/-- The blocks each point works on: the sixteen blocks of tokens are walked inside one block of columns. -/
theorem idx : ∀ t : Fin grid0.N, win0_0.index t = ![t.val % 16, 0] ∧ win0_1.index t = ![0, 0]
    ∧ win0_2.index t = ![t.val % 16, 0] :=
  (by decide +kernel : ∀ t : Fin grid0.N, _)

/-- The activations, tokens by channels. -/
def argX : FVec Ideal S16384x1024 .f32 := m ((c : Thread nD τ).loc main_arg0)
/-- The weights, channels by columns. -/
def argW : FVec Ideal S1024x1024 .f32 := m ((c : Thread nD τ).loc main_arg1)

/-- The product: for a token and a column, the sum over the channels. -/
def product : FVec Ideal S16384x1024 .f32 := fun y =>
  ∑ k : Fin 1024, argX m c (ix2 (y 0) k) * argW m c (ix2 k (y 1))

theorem V_v0 : (V m c main_v0 : FVec Ideal S16384x1024 .bf16) = argX m c := by
  simp only [V, hostOps0, List.flatten_cons, List.flatten_nil, List.append_nil, List.cons_append, List.nil_append]
  after_reads_simp
  rfl

theorem V_v1 : (V m c main_v1 : FVec Ideal S1024x1024 .bf16) = argW m c := by
  simp only [V, hostOps0, List.flatten_cons, List.flatten_nil, List.append_nil, List.cons_append, List.nil_append]
  after_reads_simp
  rfl

/-- One point's product at an index. -/
theorem pay1_apply (a : FVec Ideal S1024x1024 .bf16) (b : FVec Ideal S1024x1024 .bf16) (j : S1024x1024.Idx) :
    k0_pay1 (F := Ideal) a b j = ∑ k : Fin 1024, a (ix2 (j 0) k) * b (ix2 k (j 1)) := by
  pointwise [k0_pay1]

/-- The place in the whole result of an entry of a point's block. -/
def place (t : Fin cfg0.N) (j : S1024x1024.Idx) : S16384x1024.Idx :=
  ix2 ⟨1024 * (t.val % 16) + (j 0).val, by
    have h0 : (j 0).val < 1024 := (j 0).isLt
    omega⟩ ⟨(j 1).val, by
    have h : t.val < 16 := t.isLt
    have h1 : (j 1).val < 1024 := (j 1).isLt
    omega⟩

/-- The block a point writes back is its block of the product. -/
theorem block_apply (t : Fin cfg0.N) (j : S1024x1024.Idx) : (dats m 0 c).after 2 t j = product m c (place t j) := by
  rw [after0_2]
  frame_out
  rw [pay1_apply]
  refine Fin.sum_fin_congr fun k => ?_
  refine congrArg₂ (fun a b : EReal => a * b) ?_ ?_
  · refine Eq.trans ?_ (congrFun (V_v0 m c) _)
    blk_ext [iblk, idx, place]
  · refine Eq.trans ?_ (congrFun (V_v1 m c) _)
    blk_ext [iblk, idx, place]

/-- The array after the run is the product. -/
theorem final : (dats m 0 c).arrAt 2 cfg0.N = product m c := by
  refine (dats m 0 c).arrAt_eq_of_covers 2 _ (by decide +kernel) fun t hf y => ?_
  blk_simp
  refine (block_apply m c t y).trans ?_
  refine congrArg (product m c) ?_
  blk_ext [idx t, place]

/-- Taken at once, the product is what the kernel leaves. -/
theorem product_eq (x : FVec Ideal Cert.Reference10Ideal.S16384x1024 .f32) (w : FVec Ideal Cert.Reference10Ideal.S1024x1024 .f32)
    (hx : x = argX m c) (hw : w = argW m c) :
    (Host.dotGeneral (φ₁ := .f32) (φ₂ := .f32) Cert.Reference10Ideal.dot_S16384x1024_S1024x1024_S16384x1024_1_0_0_1_n_n none x w : FVec Ideal S16384x1024 .f32) = product m c := by
  funext y
  subst hx hw
  pointwise [product]

/-- The value claim. -/
theorem agree : Cert.algebraic_Kernel10Ideal_Reference10Ideal (hKernel10Ideal := Cert.Kernel10Ideal.Gen.facts)
    (hReference10Ideal := Cert.Reference10Ideal.Gen.facts) := by
  pair_intro
  · run_from Cert.Kernel10Ideal.Value.run_blocks m g
  · refine (θ_run _ _ _).mono (fun r h c => ?_) (Cert.Reference10Ideal.Value.run (F := Ideal) m' g')
    obtain ⟨h0, h1⟩ := hagree c
    refine ⟨?_, (h c).2⟩
    rw [(h c).1, final m c]
    exact product_eq m c _ _ h0 h1

end Cert.Kernel10Ideal.AOut

end
-- ==== Proof.PleProj.lean ====
/- The projection of the embeddings, taken block by block, is the product the reference takes at once. -/
module

public import proofs.«01_k».proof.Defs
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel11Ideal.PleProj

open Cert.Kernel11Ideal Cert.Kernel11Ideal.Gen Idealize.ShloMosaic Idealize.ShloMosaic.TcCoe Idealize.SL.Sem
open Finset

variable (m : (ℓ : Loc nD τ sig) → Buf (Elt Ideal) ℓ) (c : Dev nD)

/-- The blocks each point works on: the sixteen blocks of tokens are walked inside one block of columns. -/
theorem idx : ∀ t : Fin grid0.N, win0_0.index t = ![t.val % 16, 0] ∧ win0_1.index t = ![0, 0]
    ∧ win0_2.index t = ![t.val % 16, 0] :=
  (by decide +kernel : ∀ t : Fin grid0.N, _)

/-- The activations, tokens by channels. -/
def argX : FVec Ideal S16384x256 .f32 := m ((c : Thread nD τ).loc main_arg0)
/-- The weights, channels by columns. -/
def argW : FVec Ideal S256x1024 .f32 := m ((c : Thread nD τ).loc main_arg1)

/-- The product: for a token and a column, the sum over the channels. -/
def product : FVec Ideal S16384x1024 .f32 := fun y =>
  ∑ k : Fin 256, argX m c (ix2 (y 0) k) * argW m c (ix2 k (y 1))

theorem V_v0 : (V m c main_v0 : FVec Ideal S16384x256 .bf16) = argX m c := by
  simp only [V, hostOps0, List.flatten_cons, List.flatten_nil, List.append_nil, List.cons_append, List.nil_append]
  after_reads_simp
  rfl

theorem V_v1 : (V m c main_v1 : FVec Ideal S256x1024 .bf16) = argW m c := by
  simp only [V, hostOps0, List.flatten_cons, List.flatten_nil, List.append_nil, List.cons_append, List.nil_append]
  after_reads_simp
  rfl

/-- One point's product at an index. -/
theorem pay1_apply (a : FVec Ideal S1024x256 .bf16) (b : FVec Ideal S256x1024 .bf16) (j : S1024x1024.Idx) :
    k0_pay1 (F := Ideal) a b j = ∑ k : Fin 256, a (ix2 (j 0) k) * b (ix2 k (j 1)) := by
  pointwise [k0_pay1]

/-- The place in the whole result of an entry of a point's block. -/
def place (t : Fin cfg0.N) (j : S1024x1024.Idx) : S16384x1024.Idx :=
  ix2 ⟨1024 * (t.val % 16) + (j 0).val, by
    have h0 : (j 0).val < 1024 := (j 0).isLt
    omega⟩ ⟨(j 1).val, by
    have h : t.val < 16 := t.isLt
    have h1 : (j 1).val < 1024 := (j 1).isLt
    omega⟩

/-- The block a point writes back is its block of the product. -/
theorem block_apply (t : Fin cfg0.N) (j : S1024x1024.Idx) : (dats m 0 c).after 2 t j = product m c (place t j) := by
  rw [after0_2]
  frame_out
  rw [pay1_apply]
  refine Fin.sum_fin_congr fun k => ?_
  refine congrArg₂ (fun a b : EReal => a * b) ?_ ?_
  · refine Eq.trans ?_ (congrFun (V_v0 m c) _)
    blk_ext [iblk, idx, place]
  · refine Eq.trans ?_ (congrFun (V_v1 m c) _)
    blk_ext [iblk, idx, place]

/-- The array after the run is the product. -/
theorem final : (dats m 0 c).arrAt 2 cfg0.N = product m c := by
  refine (dats m 0 c).arrAt_eq_of_covers 2 _ (by decide +kernel) fun t hf y => ?_
  blk_simp
  refine (block_apply m c t y).trans ?_
  refine congrArg (product m c) ?_
  blk_ext [idx t, place]

/-- Taken at once, the product is what the kernel leaves. -/
theorem product_eq (x : FVec Ideal Cert.Reference11Ideal.S16384x256 .f32) (w : FVec Ideal Cert.Reference11Ideal.S256x1024 .f32)
    (hx : x = argX m c) (hw : w = argW m c) :
    (Host.dotGeneral (φ₁ := .f32) (φ₂ := .f32) Cert.Reference11Ideal.dot_S16384x256_S256x1024_S16384x1024_1_0_0_1_n_n none x w : FVec Ideal S16384x1024 .f32) = product m c := by
  funext y
  subst hx hw
  pointwise [product]

/-- The value claim. -/
theorem agree : Cert.algebraic_Kernel11Ideal_Reference11Ideal (hKernel11Ideal := Cert.Kernel11Ideal.Gen.facts)
    (hReference11Ideal := Cert.Reference11Ideal.Gen.facts) := by
  pair_intro
  · run_from Cert.Kernel11Ideal.Value.run_blocks m g
  · refine (θ_run _ _ _).mono (fun r h c => ?_) (Cert.Reference11Ideal.Value.run (F := Ideal) m' g')
    obtain ⟨h0, h1⟩ := hagree c
    refine ⟨?_, (h c).2⟩
    rw [(h c).1, final m c]
    exact product_eq m c _ _ h0 h1

end Cert.Kernel11Ideal.PleProj

end
-- ==== Proof.FfnGate.lean ====
/- The gate of the feed-forward part, taken block by block, is the product the reference takes at once; its copy in fewer bits is the same array. -/
module

public import proofs.«01_k».proof.Defs
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel12Ideal.FfnGate

open Cert.Kernel12Ideal Cert.Kernel12Ideal.Gen Idealize.ShloMosaic Idealize.ShloMosaic.TcCoe Idealize.SL.Sem
open Finset

variable (m : (ℓ : Loc nD τ sig) → Buf (Elt Ideal) ℓ) (c : Dev nD)

/-- The blocks each point works on: the sixteen blocks of tokens are walked inside each of the two blocks of columns. -/
theorem idx : ∀ t : Fin grid0.N, win0_0.index t = ![t.val % 16, 0] ∧ win0_1.index t = ![0, t.val / 16]
    ∧ win0_2.index t = ![t.val % 16, t.val / 16] ∧ win0_3.index t = ![t.val % 16, t.val / 16] :=
  (by decide +kernel : ∀ t : Fin grid0.N, _)

/-- The layer's middle activations, tokens by channels. -/
def argX : FVec Ideal S16384x1024 .f32 := m ((c : Thread nD τ).loc main_arg0)
/-- The weights of the gate and of the other half, side by side. -/
def argW : FVec Ideal S1024x5632 .f32 := m ((c : Thread nD τ).loc main_arg1)

/-- The gate: for a token and a column of the left half, the sum over the channels. -/
def product : FVec Ideal S16384x2816 .f32 := fun y =>
  ∑ k : Fin 1024, argX m c (ix2 (y 0) k) * argW m c (ix2 k ⟨(y 1).val, by
    have h : (y 1).val < 2816 := (y 1).isLt
    omega⟩)

theorem V_v0 : (V m c main_v0 : FVec Ideal S16384x1024 .bf16) = argX m c := by
  simp only [V, hostOps0, List.flatten_cons, List.flatten_nil, List.append_nil, List.cons_append, List.nil_append]
  after_reads_simp
  rfl

theorem V_v1 : (V m c main_v1 : FVec Ideal S1024x5632 .bf16) = argW m c := by
  simp only [V, hostOps0, List.flatten_cons, List.flatten_nil, List.append_nil, List.cons_append, List.nil_append]
  after_reads_simp
  rfl

/-- One point's product at an index. -/
theorem pay1_apply (a : FVec Ideal S1024x1024 .bf16) (b : FVec Ideal S1024x1408 .bf16) (j : S1024x1408.Idx) :
    k0_pay1 (F := Ideal) a b j = ∑ k : Fin 1024, a (ix2 (j 0) k) * b (ix2 k (j 1)) := by
  pointwise [k0_pay1]

/-- The place in the whole result of an entry of a point's block. -/
def place (t : Fin cfg0.N) (j : S1024x1408.Idx) : S16384x2816.Idx :=
  ix2 ⟨1024 * (t.val % 16) + (j 0).val, by
    have h0 : (j 0).val < 1024 := (j 0).isLt
    omega⟩ ⟨1408 * (t.val / 16) + (j 1).val, by
    have h : t.val < 32 := t.isLt
    have h1 : (j 1).val < 1408 := (j 1).isLt
    omega⟩

/-- A point's product, at an entry of its block, is the product at the entry's place. -/
theorem point_apply (t : Fin cfg0.N) (j : S1024x1408.Idx) :
    k0_pay1 (F := Ideal) (iblk m c 0 t) (iblk m c 1 t) j = product m c (place t j) := by
  rw [pay1_apply]
  refine Fin.sum_fin_congr fun k => ?_
  refine congrArg₂ (fun a b : EReal => a * b) ?_ ?_
  · refine Eq.trans ?_ (congrFun (V_v0 m c) _)
    blk_ext [iblk, idx, place]
  · refine Eq.trans ?_ (congrFun (V_v1 m c) _)
    blk_ext [iblk, idx, place]

theorem block2_apply (t : Fin cfg0.N) (j : S1024x1408.Idx) : (dats m 0 c).after 2 t j = product m c (place t j) := by
  rw [after0_2]
  frame_out
  exact point_apply m c t j

theorem final2 : (dats m 0 c).arrAt 2 cfg0.N = product m c := by
  refine (dats m 0 c).arrAt_eq_of_covers 2 _ (by decide +kernel) fun t hf y => ?_
  blk_simp
  refine (block2_apply m c t y).trans ?_
  refine congrArg (product m c) ?_
  blk_ext [idx t, place]

theorem block3_apply (t : Fin cfg0.N) (j : S1024x1408.Idx) : (dats m 0 c).after 3 t j = product m c (place t j) := by
  rw [after0_3]
  frame_out
  exact point_apply m c t j

theorem final3 : (dats m 0 c).arrAt 3 cfg0.N = product m c := by
  refine (dats m 0 c).arrAt_eq_of_covers 3 _ (by decide +kernel) fun t hf y => ?_
  blk_simp
  refine (block3_apply m c t y).trans ?_
  refine congrArg (product m c) ?_
  blk_ext [idx t, place]

/-- Taken at once and cut to the left half of the columns, the product is what the points compute. -/
theorem slice_eq (x : FVec Ideal Cert.Reference12Ideal.S16384x1024 .f32) (w : FVec Ideal Cert.Reference12Ideal.S1024x5632 .f32)
    (hx : x = argX m c) (hw : w = argW m c) :
    (extractStridedSlice Cert.Reference12Ideal.S16384x2816 ![0, 0] (Host.dotGeneral (φ₁ := .f32) (φ₂ := .f32)
      Cert.Reference12Ideal.dot_S16384x1024_S1024x5632_S16384x5632_1_0_0_1_n_n none x w)
      Cert.Reference12Ideal.Facts₀.slices_S16384x5632_S16384x2816_0_0 : FVec Ideal S16384x2816 .f32) = product m c := by
  funext y
  subst hx hw
  pointwise [product]

/-- The value claim, for both results. -/
theorem agree : Cert.algebraic_Kernel12Ideal_Reference12Ideal (hKernel12Ideal := Cert.Kernel12Ideal.Gen.facts)
    (hReference12Ideal := Cert.Reference12Ideal.Gen.facts) := by
  pair_intro
  · run_from Cert.Kernel12Ideal.Value.run_blocks m g
  · refine (θ_run _ _ _).mono (fun r h c => ?_) (Cert.Reference12Ideal.Value.run (F := Ideal) m' g')
    obtain ⟨h0, h1⟩ := hagree c
    refine ⟨?_, ?_, (h c).2.2⟩
    · rw [(h c).1, final2 m c]
      exact slice_eq m c _ _ h0 h1
    · rw [(h c).2.1, final3 m c]
      exact slice_eq m c _ _ h0 h1

end Cert.Kernel12Ideal.FfnGate

end
-- ==== Proof.FfnUp.lean ====
/- The second half of the feed-forward part and its product with the gate: block by block they are what the reference takes at once. -/
module

public import proofs.«01_k».proof.Defs
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel13Ideal.FfnUp

open Cert.Kernel13Ideal Cert.Kernel13Ideal.Gen Idealize.ShloMosaic Idealize.ShloMosaic.TcCoe Idealize.SL.Sem
open Finset

variable (m : (ℓ : Loc nD τ sig) → Buf (Elt Ideal) ℓ) (c : Dev nD)

/-- The blocks each point works on: the sixteen blocks of tokens are walked inside each of the two blocks of columns; the
weights' blocks are the two of the right half. -/
theorem idx : ∀ t : Fin grid0.N, win0_0.index t = ![t.val % 16, 0] ∧ win0_1.index t = ![0, t.val / 16 + 2]
    ∧ win0_2.index t = ![t.val % 16, t.val / 16] ∧ win0_3.index t = ![t.val % 16, t.val / 16]
    ∧ win0_4.index t = ![t.val % 16, t.val / 16] :=
  (by decide +kernel : ∀ t : Fin grid0.N, _)

/-- The layer's middle activations, tokens by channels. -/
def argX : FVec Ideal S16384x1024 .f32 := m ((c : Thread nD τ).loc main_arg0)
/-- The weights of the gate and of the other half, side by side. -/
def argW : FVec Ideal S1024x5632 .f32 := m ((c : Thread nD τ).loc main_arg1)
/-- The gate, tokens by columns. -/
def argGate : FVec Ideal S16384x2816 .f32 := m ((c : Thread nD τ).loc main_arg2)

/-- For a token and a column of the right half, the sum over the channels. -/
def product : FVec Ideal S16384x2816 .f32 := fun y =>
  ∑ k : Fin 1024, argX m c (ix2 (y 0) k) * argW m c (ix2 k ⟨2816 + (y 1).val, by
    have h : (y 1).val < 2816 := (y 1).isLt
    omega⟩)

theorem V_v0 : (V m c main_v0 : FVec Ideal S16384x1024 .bf16) = argX m c := by
  simp only [V, hostOps0, List.flatten_cons, List.flatten_nil, List.append_nil, List.cons_append, List.nil_append]
  after_reads_simp
  rfl

theorem V_v1 : (V m c main_v1 : FVec Ideal S1024x5632 .bf16) = argW m c := by
  simp only [V, hostOps0, List.flatten_cons, List.flatten_nil, List.append_nil, List.cons_append, List.nil_append]
  after_reads_simp
  rfl

/-- One point's product at an index. -/
theorem pay1_apply (a : FVec Ideal S1024x1024 .bf16) (b : FVec Ideal S1024x1408 .bf16) (j : S1024x1408.Idx) :
    k0_pay1 (F := Ideal) a b j = ∑ k : Fin 1024, a (ix2 (j 0) k) * b (ix2 k (j 1)) := by
  pointwise [k0_pay1]

/-- The place in the whole result of an entry of a point's block. -/
def place (t : Fin cfg0.N) (j : S1024x1408.Idx) : S16384x2816.Idx :=
  ix2 ⟨1024 * (t.val % 16) + (j 0).val, by
    have h0 : (j 0).val < 1024 := (j 0).isLt
    omega⟩ ⟨1408 * (t.val / 16) + (j 1).val, by
    have h : t.val < 32 := t.isLt
    have h1 : (j 1).val < 1408 := (j 1).isLt
    omega⟩

/-- A point's product, at an entry of its block, is the product at the entry's place. -/
theorem point_apply (t : Fin cfg0.N) (j : S1024x1408.Idx) :
    k0_pay1 (F := Ideal) (iblk m c 0 t) (iblk m c 1 t) j = product m c (place t j) := by
  rw [pay1_apply]
  refine Fin.sum_fin_congr fun k => ?_
  refine congrArg₂ (fun a b : EReal => a * b) ?_ ?_
  · refine Eq.trans ?_ (congrFun (V_v0 m c) _)
    blk_ext [iblk, idx, place]
  · refine Eq.trans ?_ (congrFun (V_v1 m c) _)
    blk_ext [iblk, idx, place]

/-- The gate through its logistic, times the product. -/
def gated : FVec Ideal S16384x2816 .f32 := fun y =>
  argGate m c y * Ideal.logistic (argGate m c y) * product m c y

theorem V_arg2 : (V m c main_arg2 : FVec Ideal S16384x2816 .f32) = argGate m c := V_main_arg2 m c

/-- A point's gated product, at an entry of its block. -/
theorem gated_apply (a : FVec Ideal S1024x1024 .bf16) (b : FVec Ideal S1024x1408 .bf16) (g : FVec Ideal S1024x1408 .f32)
    (j : S1024x1408.Idx) :
    k0_pay3 (F := Ideal) a b g j = g j * Ideal.logistic (g j) * k0_pay1 (F := Ideal) a b j := rfl

theorem block3_apply (t : Fin cfg0.N) (j : S1024x1408.Idx) : (dats m 0 c).after 3 t j = product m c (place t j) := by
  rw [after0_3]
  frame_out
  exact point_apply m c t j

theorem final3 : (dats m 0 c).arrAt 3 cfg0.N = product m c := by
  refine (dats m 0 c).arrAt_eq_of_covers 3 _ (by decide +kernel) fun t hf y => ?_
  blk_simp
  refine (block3_apply m c t y).trans ?_
  refine congrArg (product m c) ?_
  blk_ext [idx t, place]

theorem block4_apply (t : Fin cfg0.N) (j : S1024x1408.Idx) : (dats m 0 c).after 4 t j = gated m c (place t j) := by
  rw [after0_4]
  frame_out
  rw [gated_apply, point_apply]
  have e : (iblk m c 2 t : FVec Ideal S1024x1408 .f32) j = argGate m c (place t j) := by
    refine Eq.trans ?_ (congrFun (V_arg2 m c) _)
    blk_ext [iblk, idx, place]
  rw [e]
  rfl

theorem final4 : (dats m 0 c).arrAt 4 cfg0.N = gated m c := by
  refine (dats m 0 c).arrAt_eq_of_covers 4 _ (by decide +kernel) fun t hf y => ?_
  blk_simp
  refine (block4_apply m c t y).trans ?_
  refine congrArg (gated m c) ?_
  blk_ext [idx t, place]

/-- Taken at once and cut to the right half of the columns, the product is what the points compute. -/
theorem slice_eq (x : FVec Ideal Cert.Reference13Ideal.S16384x1024 .f32) (w : FVec Ideal Cert.Reference13Ideal.S1024x5632 .f32)
    (hx : x = argX m c) (hw : w = argW m c) :
    (extractStridedSlice Cert.Reference13Ideal.S16384x2816 ![0, 2816] (Host.dotGeneral (φ₁ := .f32) (φ₂ := .f32)
      Cert.Reference13Ideal.dot_S16384x1024_S1024x5632_S16384x5632_1_0_0_1_n_n none x w)
      Cert.Reference13Ideal.Facts₀.slices_S16384x5632_S16384x2816_0_2816 : FVec Ideal S16384x2816 .f32) = product m c := by
  funext y
  subst hx hw
  pointwise [product]

/-- The gate through the logistic as the reference writes it, times the product cut to the right half, is what the points compute. -/
theorem gated_eq (x : FVec Ideal Cert.Reference13Ideal.S16384x1024 .f32) (w : FVec Ideal Cert.Reference13Ideal.S1024x5632 .f32)
    (g : FVec Ideal Cert.Reference13Ideal.S16384x2816 .f32)
    (hx : x = argX m c) (hw : w = argW m c) (hg : g = argGate m c) :
    (truncf .bf16 (mulf (mulf g (Host.divf
        (broadcastInDim Cert.Reference13Ideal.S16384x2816 ![] Cert.Reference13Ideal.Facts₀.bcast_S_S16384x2816 (constant Cert.Reference13Ideal.S_ .f32 0x3F800000#32))
        (addf (broadcastInDim Cert.Reference13Ideal.S16384x2816 ![] Cert.Reference13Ideal.Facts₀.bcast_S_S16384x2816 (constant Cert.Reference13Ideal.S_ .f32 0x3F800000#32))
          (Host.exp (Host.negf g)))))
      (extractStridedSlice Cert.Reference13Ideal.S16384x2816 ![0, 2816] (Host.dotGeneral (φ₁ := .f32) (φ₂ := .f32)
        Cert.Reference13Ideal.dot_S16384x1024_S1024x5632_S16384x5632_1_0_0_1_n_n none x w)
        Cert.Reference13Ideal.Facts₀.slices_S16384x5632_S16384x2816_0_2816)) Cert.Reference13Ideal.Facts₀.bitsLt_bf16_f32
      : FVec Ideal S16384x2816 .bf16) = gated m c := by
  rw [slice_eq m c x w hx hw]
  subst hg
  funext y
  pointwise [gated, Ideal.logistic]

/-- The value claim, for both results. -/
theorem agree : Cert.algebraic_Kernel13Ideal_Reference13Ideal (hKernel13Ideal := Cert.Kernel13Ideal.Gen.facts)
    (hReference13Ideal := Cert.Reference13Ideal.Gen.facts) := by
  pair_intro
  · run_from Cert.Kernel13Ideal.Value.run_blocks m g
  · refine (θ_run _ _ _).mono (fun r h c => ?_) (Cert.Reference13Ideal.Value.run (F := Ideal) m' g')
    obtain ⟨h0, h1, h2⟩ := hagree c
    refine ⟨?_, ?_, (h c).2.2⟩
    · rw [(h c).1, final3 m c]
      exact slice_eq m c _ _ h0 h1
    · rw [(h c).2.1, final4 m c]
      exact gated_eq m c _ _ _ h0 h1 h2

end Cert.Kernel13Ideal.FfnUp

end
-- ==== Proof.BOut.lean ====
/- The scan branch of the mixer, its product with the weights, and the two branches joined through their gates: block by block they
are what the reference takes at once. -/
module

public import proofs.«01_k».proof.Defs
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel14Ideal.BOut

open Cert.Kernel14Ideal Cert.Kernel14Ideal.Gen Idealize.ShloMosaic Idealize.ShloMosaic.TcCoe Idealize.SL.Sem
open Finset

variable (m : (ℓ : Loc nD τ sig) → Buf (Elt Ideal) ℓ) (c : Dev nD)

/-- The blocks each point works on: a block of 512 tokens, the whole weights, and the two gates' columns of the projection. -/
theorem idx : ∀ t : Fin grid0.N, win0_0.index t = ![t.val, 0] ∧ win0_1.index t = ![0, 0]
    ∧ win0_2.index t = ![t.val, 2] ∧ win0_3.index t = ![t.val, 3] ∧ win0_4.index t = ![t.val, 0]
    ∧ win0_5.index t = ![t.val, 0] ∧ win0_6.index t = ![t.val, 0] :=
  (by decide +kernel : ∀ t : Fin grid0.N, _)

/-- The scan's normalised output, tokens by channels. -/
def argY : FVec Ideal S16384x2048 .f32 := m ((c : Thread nD τ).loc main_arg0)
/-- The weights. -/
def argW : FVec Ideal S2048x1024 .f32 := m ((c : Thread nD τ).loc main_arg1)
/-- The input projection, tokens by columns; its columns from 2048 and from 3072 are the two gates. -/
def argProj : FVec Ideal S16384x10240 .f32 := m ((c : Thread nD τ).loc main_arg2)
/-- The convolution branch's output. -/
def argYa : FVec Ideal S16384x1024 .f32 := m ((c : Thread nD τ).loc main_arg3)

/-- For a token and a column, the sum over the channels. -/
def product : FVec Ideal S16384x1024 .f32 := fun y =>
  ∑ k : Fin 2048, argY m c (ix2 (y 0) k) * argW m c (ix2 k (y 1))

/-- The first gate at a token and a column. -/
def gateA : FVec Ideal S16384x1024 .f32 := fun y => argProj m c (ix2 (y 0) ⟨2048 + (y 1).val, by
  have h : (y 1).val < 1024 := (y 1).isLt
  omega⟩)

/-- The second gate at a token and a column. -/
def gateB : FVec Ideal S16384x1024 .f32 := fun y => argProj m c (ix2 (y 0) ⟨3072 + (y 1).val, by
  have h : (y 1).val < 1024 := (y 1).isLt
  omega⟩)

/-- The two branches, each weighted by its gate's logistic. -/
def merged : FVec Ideal S16384x1024 .f32 := fun y =>
  Ideal.logistic (gateA m c y) * argYa m c y + Ideal.logistic (gateB m c y) * product m c y

theorem V_v0 : (V m c main_v0 : FVec Ideal S16384x10240 .bf16) = argProj m c := by
  simp only [V, hostOps0, List.flatten_cons, List.flatten_nil, List.append_nil, List.cons_append, List.nil_append]
  after_reads_simp
  rfl

theorem V_v1 : (V m c main_v1 : FVec Ideal S16384x2048 .bf16) = argY m c := by
  simp only [V, hostOps0, List.flatten_cons, List.flatten_nil, List.append_nil, List.cons_append, List.nil_append]
  after_reads_simp
  rfl

theorem V_v2 : (V m c main_v2 : FVec Ideal S2048x1024 .bf16) = argW m c := by
  simp only [V, hostOps0, List.flatten_cons, List.flatten_nil, List.append_nil, List.cons_append, List.nil_append]
  after_reads_simp
  rfl

theorem V_arg3 : (V m c main_arg3 : FVec Ideal S16384x1024 .f32) = argYa m c := V_main_arg3 m c

/-- One point's product at an index. -/
theorem pay1_apply (a : FVec Ideal S512x2048 .bf16) (b : FVec Ideal S2048x1024 .bf16) (j : S512x1024.Idx) :
    k0_pay1 (F := Ideal) a b j = ∑ k : Fin 2048, a (ix2 (j 0) k) * b (ix2 k (j 1)) := by
  pointwise [k0_pay1]

/-- The place in the whole result of an entry of a point's block. -/
def place (t : Fin cfg0.N) (j : S512x1024.Idx) : S16384x1024.Idx :=
  ix2 ⟨512 * t.val + (j 0).val, by
    have h : t.val < 32 := t.isLt
    have h0 : (j 0).val < 512 := (j 0).isLt
    omega⟩ ⟨(j 1).val, (j 1).isLt⟩

/-- A point's product, at an entry of its block, is the product at the entry's place. -/
theorem point_apply (t : Fin cfg0.N) (j : S512x1024.Idx) :
    k0_pay1 (F := Ideal) (iblk m c 0 t) (iblk m c 1 t) j = product m c (place t j) := by
  rw [pay1_apply]
  refine Fin.sum_fin_congr fun k => ?_
  refine congrArg₂ (fun a b : EReal => a * b) ?_ ?_
  · refine Eq.trans ?_ (congrFun (V_v1 m c) _)
    blk_ext [iblk, idx, place]
  · refine Eq.trans ?_ (congrFun (V_v2 m c) _)
    blk_ext [iblk, idx, place]

/-- A point's merged block at an entry. -/
theorem pay2_apply (a : FVec Ideal S512x2048 .bf16) (b : FVec Ideal S2048x1024 .bf16) (ga gb : FVec Ideal S512x1024 .bf16)
    (ya : FVec Ideal S512x1024 .f32) (j : S512x1024.Idx) :
    k0_pay2 (F := Ideal) a b ga gb ya j
      = Ideal.logistic (ga j) * ya j + Ideal.logistic (gb j) * k0_pay1 (F := Ideal) a b j := by
  pointwise [k0_pay2]

theorem block5_apply (t : Fin cfg0.N) (j : S512x1024.Idx) : (dats m 0 c).after 5 t j = product m c (place t j) := by
  rw [after0_5]
  frame_out
  exact point_apply m c t j

theorem final5 : (dats m 0 c).arrAt 5 cfg0.N = product m c := by
  refine (dats m 0 c).arrAt_eq_of_covers 5 _ (by decide +kernel) fun t hf y => ?_
  blk_simp
  refine (block5_apply m c t y).trans ?_
  refine congrArg (product m c) ?_
  blk_ext [idx t, place]

theorem block6_apply (t : Fin cfg0.N) (j : S512x1024.Idx) : (dats m 0 c).after 6 t j = merged m c (place t j) := by
  rw [after0_6]
  frame_out
  rw [pay2_apply, point_apply]
  have ea : (iblk m c 2 t : FVec Ideal S512x1024 .bf16) j = gateA m c (place t j) := by
    refine Eq.trans ?_ (congrFun (V_v0 m c) _)
    blk_ext [iblk, idx, place]
  have eb : (iblk m c 3 t : FVec Ideal S512x1024 .bf16) j = gateB m c (place t j) := by
    refine Eq.trans ?_ (congrFun (V_v0 m c) _)
    blk_ext [iblk, idx, place]
  have ey : (iblk m c 4 t : FVec Ideal S512x1024 .f32) j = argYa m c (place t j) := by
    refine Eq.trans ?_ (congrFun (V_arg3 m c) _)
    blk_ext [iblk, idx, place]
  rw [ea, eb, ey]
  rfl

theorem final6 : (dats m 0 c).arrAt 6 cfg0.N = merged m c := by
  refine (dats m 0 c).arrAt_eq_of_covers 6 _ (by decide +kernel) fun t hf y => ?_
  blk_simp
  refine (block6_apply m c t y).trans ?_
  refine congrArg (merged m c) ?_
  blk_ext [idx t, place]

/-- Taken at once, the product is what the points compute. -/
theorem product_eq (x : FVec Ideal Cert.Reference14Ideal.S16384x2048 .f32) (w : FVec Ideal Cert.Reference14Ideal.S2048x1024 .f32)
    (hx : x = argY m c) (hw : w = argW m c) :
    (Host.dotGeneral (φ₁ := .f32) (φ₂ := .f32)
      Cert.Reference14Ideal.dot_S16384x2048_S2048x1024_S16384x1024_1_0_0_1_n_n none x w : FVec Ideal S16384x1024 .f32)
      = product m c := by
  funext y
  subst hx hw
  pointwise [product]

/-- The two branches through the logistics as the reference writes them are what the points compute. -/
theorem merged_eq (x : FVec Ideal Cert.Reference14Ideal.S16384x2048 .f32) (w : FVec Ideal Cert.Reference14Ideal.S2048x1024 .f32)
    (p : FVec Ideal Cert.Reference14Ideal.S16384x10240 .f32) (ya : FVec Ideal Cert.Reference14Ideal.S16384x1024 .f32)
    (hx : x = argY m c) (hw : w = argW m c) (hp : p = argProj m c) (hy : ya = argYa m c) :
    (truncf .bf16 (addf (mulf (Host.divf
        (broadcastInDim Cert.Reference14Ideal.S16384x1024 ![] Cert.Reference14Ideal.Facts₀.bcast_S_S16384x1024 (constant Cert.Reference14Ideal.S_ .f32 0x3F800000#32))
        (addf (broadcastInDim Cert.Reference14Ideal.S16384x1024 ![] Cert.Reference14Ideal.Facts₀.bcast_S_S16384x1024 (constant Cert.Reference14Ideal.S_ .f32 0x3F800000#32))
          (Host.exp (Host.negf (extractStridedSlice Cert.Reference14Ideal.S16384x1024 ![0, 2048] p Cert.Reference14Ideal.Facts₀.slices_S16384x10240_S16384x1024_0_2048))))) ya) (mulf (Host.divf
        (broadcastInDim Cert.Reference14Ideal.S16384x1024 ![] Cert.Reference14Ideal.Facts₀.bcast_S_S16384x1024 (constant Cert.Reference14Ideal.S_ .f32 0x3F800000#32))
        (addf (broadcastInDim Cert.Reference14Ideal.S16384x1024 ![] Cert.Reference14Ideal.Facts₀.bcast_S_S16384x1024 (constant Cert.Reference14Ideal.S_ .f32 0x3F800000#32))
          (Host.exp (Host.negf (extractStridedSlice Cert.Reference14Ideal.S16384x1024 ![0, 3072] p Cert.Reference14Ideal.Facts₀.slices_S16384x10240_S16384x1024_0_3072)))))
      (Host.dotGeneral (φ₁ := .f32) (φ₂ := .f32)
        Cert.Reference14Ideal.dot_S16384x2048_S2048x1024_S16384x1024_1_0_0_1_n_n none x w))) Cert.Reference14Ideal.Facts₀.bitsLt_bf16_f32
      : FVec Ideal S16384x1024 .bf16) = merged m c := by
  rw [product_eq m c x w hx hw]
  subst hp hy
  funext y
  pointwise [merged, gateA, gateB, Ideal.logistic]

/-- The value claim, for both results. -/
theorem agree : Cert.algebraic_Kernel14Ideal_Reference14Ideal (hKernel14Ideal := Cert.Kernel14Ideal.Gen.facts)
    (hReference14Ideal := Cert.Reference14Ideal.Gen.facts) := by
  pair_intro
  · run_from Cert.Kernel14Ideal.Value.run_blocks m g
  · refine (θ_run _ _ _).mono (fun r h c => ?_) (Cert.Reference14Ideal.Value.run (F := Ideal) m' g')
    obtain ⟨h0, h1, h2, h3⟩ := hagree c
    refine ⟨?_, ?_, (h c).2.2⟩
    · rw [(h c).1, final5 m c]
      exact product_eq m c _ _ h0 h1
    · rw [(h c).2.1, final6 m c]
      exact merged_eq m c _ _ _ _ h0 h1 h2 h3

end Cert.Kernel14Ideal.BOut

end
-- ==== Proof.GateFinite.lean ====
/- What the precondition of the gate's gradient says: the gradient that reaches the gate is finite everywhere. -/
module

public import proofs.«01_k».proof.Pre_gate_gradient_finite
public import Idealize.ShloMosaic.Lib.Pointwise

@[expose] public section

set_option maxRecDepth 16384

noncomputable section

namespace Cert.Pre_gate_gradient_finite

open Idealize.ShloMosaic

theorem facts : Facts := ⟨by decide, by decide, by decide⟩

variable [Facts]

/-- The predicate, at an index. -/
theorem finite_of (x : FVec Ideal S16384x1024 .f32) (w : FVec Ideal S2816x1024 .f32) (g u : FVec Ideal S16384x2816 .f32)
    (h : fn x w g u = fun _ => 1#1) (s : Fin 16384) (k : Fin 2816) :
    (∑ i : Fin 1024, x (ix2 s i) * w (ix2 k i)) * u (ix2 s k) ≠ ⊥
      ∧ (∑ i : Fin 1024, x (ix2 s i) * w (ix2 k i)) * u (ix2 s k) ≠ ⊤ := by
  have h' := congrFun h (ix2 s k)
  unfold fn at h'
  revert h'
  pointwise []
  intro h'
  constructor
  · intro e
    rw [e] at h'
    exact absurd h' (by simp [Ideal.absf_def])
  · intro e
    rw [e] at h'
    exact absurd h' (by simp [Ideal.absf_def])

end Cert.Pre_gate_gradient_finite
-- ==== Proof.DDown.lean ====
/- The gradients of the gate and of what it multiplies, from the gradient of the feed-forward part: block by block they are what
the reference takes at once. -/
module

public import proofs.«01_k».proof.Defs
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.GateFinite
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel15Ideal.DDown

open Cert.Kernel15Ideal Cert.Kernel15Ideal.Gen Idealize.ShloMosaic Idealize.ShloMosaic.TcCoe Idealize.SL.Sem
open Finset

variable (m : (ℓ : Loc nD τ sig) → Buf (Elt Ideal) ℓ) (c : Dev nD)

/-- The blocks each point works on: the thirty-two blocks of tokens are walked inside each of the two blocks of columns. -/
theorem idx : ∀ t : Fin grid0.N, win0_0.index t = ![t.val % 32, 0] ∧ win0_1.index t = ![0, t.val / 32]
    ∧ win0_2.index t = ![t.val % 32, t.val / 32] ∧ win0_3.index t = ![t.val % 32, t.val / 32]
    ∧ win0_4.index t = ![t.val % 32, t.val / 32] ∧ win0_5.index t = ![t.val % 32, t.val / 32] :=
  (by decide +kernel : ∀ t : Fin grid0.N, _)

/-- The gradient of the feed-forward part's output, tokens by channels. -/
def argD : FVec Ideal S16384x1024 .f32 := m ((c : Thread nD τ).loc main_arg0)
/-- The weights, columns by channels. -/
def argW : FVec Ideal S2816x1024 .f32 := m ((c : Thread nD τ).loc main_arg1)
/-- The gate, tokens by columns. -/
def argG : FVec Ideal S16384x2816 .f32 := m ((c : Thread nD τ).loc main_arg2)
/-- What the gate multiplies, tokens by columns. -/
def argU : FVec Ideal S16384x2816 .f32 := m ((c : Thread nD τ).loc main_arg3)

/-- For a token and a column, the sum over the channels. -/
def product : FVec Ideal S16384x2816 .f32 := fun y =>
  ∑ k : Fin 1024, argD m c (ix2 (y 0) k) * argW m c (ix2 (y 1) k)

/-- The gradient of the gate as the kernel writes it: the derivative of the gate's silu is one product. -/
def gateGrad : FVec Ideal S16384x2816 .f32 := fun y =>
  product m c y * argU m c y
    * (Ideal.logistic (argG m c y) * (1 + argG m c y * (1 - Ideal.logistic (argG m c y))))

/-- The gradient of what the gate multiplies. -/
def upGrad : FVec Ideal S16384x2816 .f32 := fun y =>
  product m c y * (argG m c y * Ideal.logistic (argG m c y))

theorem V_v0 : (V m c main_v0 : FVec Ideal S16384x1024 .bf16) = argD m c := by
  simp only [V, hostOps0, List.flatten_cons, List.flatten_nil, List.append_nil, List.cons_append, List.nil_append]
  after_reads_simp
  rfl

theorem V_v2 : (V m c main_v2 : FVec Ideal S1024x2816 .bf16) = fun y => argW m c (ix2 (y 1) (y 0)) := by
  funext y
  simp only [V, hostOps0, List.flatten_cons, List.flatten_nil, List.append_nil, List.cons_append, List.nil_append]
  after_reads_simp
  pointwise [argW]

theorem V_v3 : (V m c main_v3 : FVec Ideal S16384x2816 .bf16) = argG m c := by
  simp only [V, hostOps0, List.flatten_cons, List.flatten_nil, List.append_nil, List.cons_append, List.nil_append]
  after_reads_simp
  rfl

theorem V_v4 : (V m c main_v4 : FVec Ideal S16384x2816 .bf16) = argU m c := by
  simp only [V, hostOps0, List.flatten_cons, List.flatten_nil, List.append_nil, List.cons_append, List.nil_append]
  after_reads_simp
  rfl

/-- One point's product at an index. -/
theorem pay1_apply (a : FVec Ideal S512x1024 .bf16) (b : FVec Ideal S1024x1408 .bf16) (j : S512x1408.Idx) :
    k0_pay1 (F := Ideal) a b j = ∑ k : Fin 1024, a (ix2 (j 0) k) * b (ix2 k (j 1)) := by
  pointwise [k0_pay1]

/-- The place in the whole result of an entry of a point's block. -/
def place (t : Fin cfg0.N) (j : S512x1408.Idx) : S16384x2816.Idx :=
  ix2 ⟨512 * (t.val % 32) + (j 0).val, by
    have h0 : (j 0).val < 512 := (j 0).isLt
    omega⟩ ⟨1408 * (t.val / 32) + (j 1).val, by
    have h : t.val < 64 := t.isLt
    have h1 : (j 1).val < 1408 := (j 1).isLt
    omega⟩

/-- A point's product, at an entry of its block, is the product at the entry's place. -/
theorem point_apply (t : Fin cfg0.N) (j : S512x1408.Idx) :
    k0_pay1 (F := Ideal) (iblk m c 0 t) (iblk m c 1 t) j = product m c (place t j) := by
  rw [pay1_apply]
  refine Fin.sum_fin_congr fun k => ?_
  refine congrArg₂ (fun a b : EReal => a * b) ?_ ?_
  · refine Eq.trans ?_ (congrFun (V_v0 m c) _)
    blk_ext [iblk, idx, place]
  · refine Eq.trans ?_ (congrFun (V_v2 m c) (ix2 k (place t j 1)))
    blk_ext [iblk, idx, place]

/-- A point's gradient of the gate at an entry. -/
theorem pay4_apply (a : FVec Ideal S512x1024 .bf16) (b : FVec Ideal S1024x1408 .bf16) (g u : FVec Ideal S512x1408 .bf16)
    (j : S512x1408.Idx) :
    k0_pay4 (F := Ideal) a b g u j
      = k0_pay1 (F := Ideal) a b j * u j * (Ideal.logistic (g j) * (1 + g j * (1 - Ideal.logistic (g j)))) := by
  pointwise [k0_pay4, k0_pay3, k0_pay2]

/-- A point's gradient of what the gate multiplies at an entry. -/
theorem pay5_apply (a : FVec Ideal S512x1024 .bf16) (b : FVec Ideal S1024x1408 .bf16) (g : FVec Ideal S512x1408 .bf16)
    (j : S512x1408.Idx) :
    k0_pay5 (F := Ideal) a b g j = k0_pay1 (F := Ideal) a b j * (g j * Ideal.logistic (g j)) := by
  pointwise [k0_pay5, k0_pay3, k0_pay2]

theorem gate_block (t : Fin cfg0.N) (j : S512x1408.Idx) :
    (iblk m c 2 t : FVec Ideal S512x1408 .bf16) j = argG m c (place t j) := by
  refine Eq.trans ?_ (congrFun (V_v3 m c) _)
  blk_ext [iblk, idx, place]

theorem up_block (t : Fin cfg0.N) (j : S512x1408.Idx) :
    (iblk m c 3 t : FVec Ideal S512x1408 .bf16) j = argU m c (place t j) := by
  refine Eq.trans ?_ (congrFun (V_v4 m c) _)
  blk_ext [iblk, idx, place]

theorem block4_apply (t : Fin cfg0.N) (j : S512x1408.Idx) : (dats m 0 c).after 4 t j = gateGrad m c (place t j) := by
  rw [after0_4]
  frame_out
  rw [pay4_apply, point_apply, gate_block, up_block]
  rfl

theorem final4 : (dats m 0 c).arrAt 4 cfg0.N = gateGrad m c := by
  refine (dats m 0 c).arrAt_eq_of_covers 4 _ (by decide +kernel) fun t hf y => ?_
  blk_simp
  refine (block4_apply m c t y).trans ?_
  refine congrArg (gateGrad m c) ?_
  blk_ext [idx t, place]

theorem block5_apply (t : Fin cfg0.N) (j : S512x1408.Idx) : (dats m 0 c).after 5 t j = upGrad m c (place t j) := by
  rw [after0_5]
  frame_out
  rw [pay5_apply, point_apply, gate_block]
  rfl

theorem final5 : (dats m 0 c).arrAt 5 cfg0.N = upGrad m c := by
  refine (dats m 0 c).arrAt_eq_of_covers 5 _ (by decide +kernel) fun t hf y => ?_
  blk_simp
  refine (block5_apply m c t y).trans ?_
  refine congrArg (upGrad m c) ?_
  blk_ext [idx t, place]

/-- The two ways of writing the gradient through the silu agree when what arrives is finite, whatever the gate. -/
theorem silu_grad (ct g : EReal) (hb : ct ≠ ⊥) (ht : ct ≠ ⊤) :
    ct * Ideal.logistic g + g * ct * (Ideal.logistic g * (1 - Ideal.logistic g))
      = ct * (Ideal.logistic g * (1 + g * (1 - Ideal.logistic g))) := by
  have one : (1 : EReal) - 1 = 0 := by
    have h : ((1 : ℝ) : EReal) - ((1 : ℝ) : EReal) = ((1 - 1 : ℝ) : EReal) := (EReal.coe_sub 1 1).symm
    simpa using h
  lift ct to ℝ using ⟨ht, hb⟩
  induction g using EReal.rec with
  | bot => simp
  | top => simp [one]
  | coe r =>
    rw [Ideal.logistic_coe]
    generalize (1 + Real.exp (-r))⁻¹ = s
    have e : ct * s + r * ct * (s * (1 - s)) = ct * (s * (1 + r * (1 - s))) := by ring
    exact_mod_cast congrArg (fun a : ℝ => (a : EReal)) e

/-- Taken at once, the product with the weights' rows is what the points compute. -/
theorem product_eq (x : FVec Ideal Cert.Reference15Ideal.S16384x1024 .f32) (w : FVec Ideal Cert.Reference15Ideal.S2816x1024 .f32)
    (hx : x = argD m c) (hw : w = argW m c) :
    (Host.dotGeneral (φ₁ := .f32) (φ₂ := .f32)
      Cert.Reference15Ideal.dot_S16384x1024_S2816x1024_S16384x2816_1_1_0_0_n_n none x w : FVec Ideal S16384x2816 .f32)
      = product m c := by
  funext y
  subst hx hw
  pointwise [product]

/-- The reference's gradient of the gate is what the points compute, where what arrives is finite. -/
theorem gate_eq (x : FVec Ideal Cert.Reference15Ideal.S16384x1024 .f32) (w : FVec Ideal Cert.Reference15Ideal.S2816x1024 .f32)
    (g u : FVec Ideal Cert.Reference15Ideal.S16384x2816 .f32)
    (hx : x = argD m c) (hw : w = argW m c) (hg : g = argG m c) (hu : u = argU m c)
    (hfin : ∀ y, product m c y * argU m c y ≠ ⊥ ∧ product m c y * argU m c y ≠ ⊤) :
    (truncf .bf16 (addf (mulf (mulf (Host.dotGeneral (φ₁ := .f32) (φ₂ := .f32)
        Cert.Reference15Ideal.dot_S16384x1024_S2816x1024_S16384x2816_1_1_0_0_n_n none x w) u)
      (Host.divf (broadcastInDim Cert.Reference15Ideal.S16384x2816 ![] Cert.Reference15Ideal.Facts₀.bcast_S_S16384x2816 (constant Cert.Reference15Ideal.S_ .f32 0x3F800000#32))
        (addf (broadcastInDim Cert.Reference15Ideal.S16384x2816 ![] Cert.Reference15Ideal.Facts₀.bcast_S_S16384x2816 (constant Cert.Reference15Ideal.S_ .f32 0x3F800000#32))
          (Host.exp (Host.negf g)))))
      (mulf (mulf g (mulf (Host.dotGeneral (φ₁ := .f32) (φ₂ := .f32)
        Cert.Reference15Ideal.dot_S16384x1024_S2816x1024_S16384x2816_1_1_0_0_n_n none x w) u))
      (mulf (Host.divf (broadcastInDim Cert.Reference15Ideal.S16384x2816 ![] Cert.Reference15Ideal.Facts₀.bcast_S_S16384x2816 (constant Cert.Reference15Ideal.S_ .f32 0x3F800000#32))
        (addf (broadcastInDim Cert.Reference15Ideal.S16384x2816 ![] Cert.Reference15Ideal.Facts₀.bcast_S_S16384x2816 (constant Cert.Reference15Ideal.S_ .f32 0x3F800000#32))
          (Host.exp (Host.negf g))))
      (subf (broadcastInDim Cert.Reference15Ideal.S16384x2816 ![] Cert.Reference15Ideal.Facts₀.bcast_S_S16384x2816 (constant Cert.Reference15Ideal.S_ .f32 0x3F800000#32))
      (Host.divf (broadcastInDim Cert.Reference15Ideal.S16384x2816 ![] Cert.Reference15Ideal.Facts₀.bcast_S_S16384x2816 (constant Cert.Reference15Ideal.S_ .f32 0x3F800000#32))
        (addf (broadcastInDim Cert.Reference15Ideal.S16384x2816 ![] Cert.Reference15Ideal.Facts₀.bcast_S_S16384x2816 (constant Cert.Reference15Ideal.S_ .f32 0x3F800000#32))
          (Host.exp (Host.negf g)))))))) Cert.Reference15Ideal.Facts₀.bitsLt_bf16_f32
      : FVec Ideal S16384x2816 .bf16) = gateGrad m c := by
  rw [product_eq m c x w hx hw]
  subst hg hu
  funext y
  refine Eq.trans ?_ (silu_grad _ (argG m c y) (hfin y).1 (hfin y).2)
  pointwise [Ideal.logistic]

/-- The reference's gradient of what the gate multiplies is what the points compute. -/
theorem up_eq (x : FVec Ideal Cert.Reference15Ideal.S16384x1024 .f32) (w : FVec Ideal Cert.Reference15Ideal.S2816x1024 .f32)
    (g : FVec Ideal Cert.Reference15Ideal.S16384x2816 .f32)
    (hx : x = argD m c) (hw : w = argW m c) (hg : g = argG m c) :
    (truncf .bf16 (mulf (mulf g
      (Host.divf (broadcastInDim Cert.Reference15Ideal.S16384x2816 ![] Cert.Reference15Ideal.Facts₀.bcast_S_S16384x2816 (constant Cert.Reference15Ideal.S_ .f32 0x3F800000#32))
        (addf (broadcastInDim Cert.Reference15Ideal.S16384x2816 ![] Cert.Reference15Ideal.Facts₀.bcast_S_S16384x2816 (constant Cert.Reference15Ideal.S_ .f32 0x3F800000#32))
          (Host.exp (Host.negf g)))))
      (Host.dotGeneral (φ₁ := .f32) (φ₂ := .f32)
        Cert.Reference15Ideal.dot_S16384x1024_S2816x1024_S16384x2816_1_1_0_0_n_n none x w)) Cert.Reference15Ideal.Facts₀.bitsLt_bf16_f32
      : FVec Ideal S16384x2816 .bf16) = upGrad m c := by
  rw [product_eq m c x w hx hw]
  subst hg
  funext y
  refine Eq.trans ?_ (mul_comm _ _)
  pointwise [Ideal.logistic]

attribute [local instance] Cert.Pre_gate_gradient_finite.facts

/-- The value claim, for both results. -/
theorem agree : Cert.algebraic_Kernel15Ideal_Reference15Ideal (hKernel15Ideal := Cert.Kernel15Ideal.Gen.facts)
    (hReference15Ideal := Cert.Reference15Ideal.Gen.facts)
    (hPre_gate_gradient_finite := Cert.Pre_gate_gradient_finite.facts) := by
  pair_intro
  · run_from Cert.Kernel15Ideal.Value.run_blocks m g
  · refine (θ_run _ _ _).mono (fun r h c => ?_) (Cert.Reference15Ideal.Value.run (F := Ideal) m' g')
    obtain ⟨h0, h1, h2, h3⟩ := hagree c
    refine ⟨?_, ?_, (h c).2.2⟩
    · rw [(h c).1, final4 m c]
      refine gate_eq m c _ _ _ _ h0 h1 h2 h3 fun y => ?_
      obtain ⟨s, k, rfl⟩ : ∃ (s : Fin 16384) (k : Fin 2816), y = ix2 s k := ⟨y 0, y 1, by funext a; fin_cases a <;> rfl⟩
      exact Cert.Pre_gate_gradient_finite.finite_of _ _ _ _ (hpre c) s k
    · rw [(h c).2.1, final5 m c]
      exact up_eq m c _ _ _ h0 h1 h2

end Cert.Kernel15Ideal.DDown

end
-- ==== Proof.OMix.lean ====
/- The mixer's output product added to the scaled layer input, and its normalisation: block by block they are what the reference takes
at once. -/
module

public import proofs.«01_k».proof.Defs
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel16Ideal.OMix

open Cert.Kernel16Ideal Cert.Kernel16Ideal.Gen Idealize.ShloMosaic Idealize.ShloMosaic.TcCoe Idealize.SL.Sem
open Finset

variable (m : (ℓ : Loc nD τ sig) → Buf (Elt Ideal) ℓ) (c : Dev nD)

/-- The blocks each point works on: a block of 512 tokens, the whole weights, and the normalisation's scale and shift. -/
theorem idx : ∀ t : Fin grid0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] :=
  (by decide +kernel : ∀ t : Fin grid0.N, _)

/-- The merged branches, tokens by channels. -/
def argM : FVec Ideal S16384x1024 .f32 := m ((c : Thread nD τ).loc main_arg0)
/-- The weights. -/
def argW : FVec Ideal S1024x1024 .f32 := m ((c : Thread nD τ).loc main_arg1)
/-- The layer's input. -/
def argX : FVec Ideal S16384x1024 .f32 := m ((c : Thread nD τ).loc main_arg2)
/-- The normalisation's scale. -/
def argG : FVec Ideal S1024 .f32 := m ((c : Thread nD τ).loc main_arg3)
/-- The normalisation's shift. -/
def argB : FVec Ideal S1024 .f32 := m ((c : Thread nD τ).loc main_arg4)

/-- The factor of the residual. -/
def scale : EReal := Ideal.ofBits .f32 0x3FB504F3#32

/-- The scaled input plus, for a token and a column, the sum over the channels. -/
def mixed : FVec Ideal S16384x1024 .f32 := fun y =>
  scale * argX m c y + ∑ k : Fin 1024, argM m c (ix2 (y 0) k) * argW m c (ix2 k (y 1))

/-- The mean of a row. -/
def mean (r : Fin 1024 → EReal) : EReal := Ideal.div (∑ k : Fin 1024, r k) (Ideal.ofBits .f32 0x44800000#32)

/-- The reciprocal of a row's deviation. -/
def recip (r : Fin 1024 → EReal) : EReal :=
  Ideal.rsqrt (Ideal.div (∑ k : Fin 1024, (r k - mean r) * (r k - mean r)) (Ideal.ofBits .f32 0x44800000#32)
    + Ideal.ofBits .f32 0x3727C5AC#32)

/-- A row's entry normalised, scaled and shifted. -/
def normal (r : Fin 1024 → EReal) (k : Fin 1024) (g b : EReal) : EReal := (r k - mean r) * recip r * g + b

/-- The normalised array. -/
def normed : FVec Ideal S16384x1024 .f32 := fun y =>
  normal (fun k => mixed m c (ix2 (y 0) k)) (y 1) (argG m c (ix1 (y 1))) (argB m c (ix1 (y 1)))

theorem V_v0 : (V m c main_v0 : FVec Ideal S16384x1024 .bf16) = argM m c := by
  simp only [V, hostOps0, List.flatten_cons, List.flatten_nil, List.append_nil, List.cons_append, List.nil_append]
  after_reads_simp
  rfl

theorem V_v1 : (V m c main_v1 : FVec Ideal S1024x1024 .bf16) = argW m c := by
  simp only [V, hostOps0, List.flatten_cons, List.flatten_nil, List.append_nil, List.cons_append, List.nil_append]
  after_reads_simp
  rfl

theorem V_arg2 : (V m c main_arg2 : FVec Ideal S16384x1024 .f32) = argX m c := V_main_arg2 m c

theorem V_v2 : (V m c main_v2 : FVec Ideal S1x1024 .f32) = fun y => argG m c (ix1 (y 1)) := by
  funext y
  simp only [V, hostOps0, List.flatten_cons, List.flatten_nil, List.append_nil, List.cons_append, List.nil_append]
  after_reads_simp
  pointwise [argG]

theorem V_v3 : (V m c main_v3 : FVec Ideal S1x1024 .f32) = fun y => argB m c (ix1 (y 1)) := by
  funext y
  simp only [V, hostOps0, List.flatten_cons, List.flatten_nil, List.append_nil, List.cons_append, List.nil_append]
  after_reads_simp
  pointwise [argB]

/-- One point's sum at an index. -/
theorem pay1_apply (a : FVec Ideal S512x1024 .bf16) (b : FVec Ideal S1024x1024 .bf16) (x : FVec Ideal S512x1024 .f32) (j : S512x1024.Idx) :
    k0_pay1 (F := Ideal) a b x j = scale * x j + ∑ k : Fin 1024, a (ix2 (j 0) k) * b (ix2 k (j 1)) := by
  pointwise [k0_pay1, scale]

/-- The place in the whole result of an entry of a point's block. -/
def place (t : Fin cfg0.N) (j : S512x1024.Idx) : S16384x1024.Idx :=
  ix2 ⟨512 * t.val + (j 0).val, by
    have h : t.val < 32 := t.isLt
    have h0 : (j 0).val < 512 := (j 0).isLt
    omega⟩ ⟨(j 1).val, (j 1).isLt⟩

/-- A point's sum, at an entry of its block, is the sum at the entry's place. -/
theorem point_apply (t : Fin cfg0.N) (j : S512x1024.Idx) :
    k0_pay1 (F := Ideal) (iblk m c 0 t) (iblk m c 1 t) (iblk m c 2 t) j = mixed m c (place t j) := by
  rw [pay1_apply]
  refine congrArg₂ (fun a b : EReal => scale * a + b) ?_ (Fin.sum_fin_congr fun k => ?_)
  · refine Eq.trans ?_ (congrFun (V_arg2 m c) _)
    blk_ext [iblk, idx, place]
  · refine congrArg₂ (fun a b : EReal => a * b) ?_ ?_
    · refine Eq.trans ?_ (congrFun (V_v0 m c) _)
      blk_ext [iblk, idx, place]
    · refine Eq.trans ?_ (congrFun (V_v1 m c) _)
      blk_ext [iblk, idx, place]

/-- A point's normalised block at an entry, of the rows of its sum. -/
theorem pay2_apply (a : FVec Ideal S512x1024 .bf16) (b : FVec Ideal S1024x1024 .bf16) (x : FVec Ideal S512x1024 .f32)
    (g h : FVec Ideal S1x1024 .f32) (j : S512x1024.Idx) :
    k0_pay2 (F := Ideal) a b x g h j
      = normal (fun k => k0_pay1 (F := Ideal) a b x (ix2 (j 0) k)) (j 1) (g (ix2 0 (j 1))) (h (ix2 0 (j 1))) := by
  unfold k0_pay2
  generalize k0_pay1 (F := Ideal) a b x = q
  pointwise [normal, mean, recip]

theorem block5_apply (t : Fin cfg0.N) (j : S512x1024.Idx) : (dats m 0 c).after 5 t j = mixed m c (place t j) := by
  rw [after0_5]
  frame_out
  exact point_apply m c t j

theorem final5 : (dats m 0 c).arrAt 5 cfg0.N = mixed m c := by
  refine (dats m 0 c).arrAt_eq_of_covers 5 _ (by decide +kernel) fun t hf y => ?_
  blk_simp
  refine (block5_apply m c t y).trans ?_
  refine congrArg (mixed m c) ?_
  blk_ext [idx t, place]

theorem block6_apply (t : Fin cfg0.N) (j : S512x1024.Idx) : (dats m 0 c).after 6 t j = normed m c (place t j) := by
  rw [after0_6]
  frame_out
  rw [pay2_apply]
  have er : (fun k : Fin 1024 => k0_pay1 (F := Ideal) (iblk m c 0 t) (iblk m c 1 t) (iblk m c 2 t) (ix2 (j 0) k))
      = fun k => mixed m c (ix2 (place t j 0) k) := by
    funext k
    rw [point_apply]
    rfl
  have eg : (iblk m c 3 t : FVec Ideal S1x1024 .f32) (ix2 0 (j 1)) = argG m c (ix1 (place t j 1)) := by
    refine Eq.trans ?_ (congrFun (V_v2 m c) (ix2 0 (place t j 1)))
    blk_ext [iblk, idx, place]
  have eb : (iblk m c 4 t : FVec Ideal S1x1024 .f32) (ix2 0 (j 1)) = argB m c (ix1 (place t j 1)) := by
    refine Eq.trans ?_ (congrFun (V_v3 m c) (ix2 0 (place t j 1)))
    blk_ext [iblk, idx, place]
  rw [er, eg, eb]
  rfl

theorem final6 : (dats m 0 c).arrAt 6 cfg0.N = normed m c := by
  refine (dats m 0 c).arrAt_eq_of_covers 6 _ (by decide +kernel) fun t hf y => ?_
  blk_simp
  refine (block6_apply m c t y).trans ?_
  refine congrArg (normed m c) ?_
  blk_ext [idx t, place]

/-- Taken at once, the sum is what the points compute. -/
theorem mixed_eq (x : FVec Ideal Cert.Reference16Ideal.S16384x1024 .f32) (w : FVec Ideal Cert.Reference16Ideal.S1024x1024 .f32) (r : FVec Ideal Cert.Reference16Ideal.S16384x1024 .f32)
    (hx : x = argM m c) (hw : w = argW m c) (hr : r = argX m c) :
    ((addf (mulf (broadcastInDim Cert.Reference16Ideal.S16384x1024 ![] Cert.Reference16Ideal.Facts₀.bcast_S_S16384x1024 (constant Cert.Reference16Ideal.S_ .f32 0x3FB504F3#32)) r) (Host.dotGeneral (φ₁ := .f32) (φ₂ := .f32) Cert.Reference16Ideal.dot_S16384x1024_S1024x1024_S16384x1024_1_0_0_1_n_n none x w)) : FVec Ideal S16384x1024 .f32) = mixed m c := by
  funext y
  subst hx hw hr
  pointwise [mixed, scale]

/-- The reference's normalisation at an entry. -/
theorem normal_eq (q : FVec Ideal Cert.Reference16Ideal.S16384x1024 .f32) (g b : FVec Ideal Cert.Reference16Ideal.S1024 .f32) (y : S16384x1024.Idx) :
    (truncf .bf16 (addf (mulf (mulf (subf q (broadcastInDim Cert.Reference16Ideal.S16384x1024 ![0, 1] Cert.Reference16Ideal.Facts₀.bcast_S16384x1_S16384x1024_0_1 (Host.divf (broadcastInDim Cert.Reference16Ideal.S16384x1 ![0] Cert.Reference16Ideal.Facts₀.bcast_S16384_S16384x1_0 (Host.reduceAdd q (constant Cert.Reference16Ideal.S_ .f32 0x00000000#32) Cert.Reference16Ideal.Facts₀.reducesTo_S16384x1024_S16384_d1 Cert.Reference16Ideal.Facts₀.h_S_)) (broadcastInDim Cert.Reference16Ideal.S16384x1 ![] Cert.Reference16Ideal.Facts₀.bcast_S_S16384x1 (constant Cert.Reference16Ideal.S_ .f32 0x44800000#32))))) (broadcastInDim Cert.Reference16Ideal.S16384x1024 ![0, 1] Cert.Reference16Ideal.Facts₀.bcast_S16384x1_S16384x1024_0_1 (Host.rsqrt (addf (Host.divf (broadcastInDim Cert.Reference16Ideal.S16384x1 ![0] Cert.Reference16Ideal.Facts₀.bcast_S16384_S16384x1_0 (Host.reduceAdd (mulf (subf q (broadcastInDim Cert.Reference16Ideal.S16384x1024 ![0, 1] Cert.Reference16Ideal.Facts₀.bcast_S16384x1_S16384x1024_0_1 (Host.divf (broadcastInDim Cert.Reference16Ideal.S16384x1 ![0] Cert.Reference16Ideal.Facts₀.bcast_S16384_S16384x1_0 (Host.reduceAdd q (constant Cert.Reference16Ideal.S_ .f32 0x00000000#32) Cert.Reference16Ideal.Facts₀.reducesTo_S16384x1024_S16384_d1 Cert.Reference16Ideal.Facts₀.h_S_)) (broadcastInDim Cert.Reference16Ideal.S16384x1 ![] Cert.Reference16Ideal.Facts₀.bcast_S_S16384x1 (constant Cert.Reference16Ideal.S_ .f32 0x44800000#32))))) (subf q (broadcastInDim Cert.Reference16Ideal.S16384x1024 ![0, 1] Cert.Reference16Ideal.Facts₀.bcast_S16384x1_S16384x1024_0_1 (Host.divf (broadcastInDim Cert.Reference16Ideal.S16384x1 ![0] Cert.Reference16Ideal.Facts₀.bcast_S16384_S16384x1_0 (Host.reduceAdd q (constant Cert.Reference16Ideal.S_ .f32 0x00000000#32) Cert.Reference16Ideal.Facts₀.reducesTo_S16384x1024_S16384_d1 Cert.Reference16Ideal.Facts₀.h_S_)) (broadcastInDim Cert.Reference16Ideal.S16384x1 ![] Cert.Reference16Ideal.Facts₀.bcast_S_S16384x1 (constant Cert.Reference16Ideal.S_ .f32 0x44800000#32)))))) (constant Cert.Reference16Ideal.S_ .f32 0x00000000#32) Cert.Reference16Ideal.Facts₀.reducesTo_S16384x1024_S16384_d1 Cert.Reference16Ideal.Facts₀.h_S_)) (broadcastInDim Cert.Reference16Ideal.S16384x1 ![] Cert.Reference16Ideal.Facts₀.bcast_S_S16384x1 (constant Cert.Reference16Ideal.S_ .f32 0x44800000#32))) (broadcastInDim Cert.Reference16Ideal.S16384x1 ![] Cert.Reference16Ideal.Facts₀.bcast_S_S16384x1 (constant Cert.Reference16Ideal.S_ .f32 0x3727C5AC#32)))))) (broadcastInDim Cert.Reference16Ideal.S16384x1024 ![0, 1] Cert.Reference16Ideal.Facts₀.bcast_S1x1024_S16384x1024_0_1 (broadcastInDim Cert.Reference16Ideal.S1x1024 ![1] Cert.Reference16Ideal.Facts₀.bcast_S1024_S1x1024_1 g))) (broadcastInDim Cert.Reference16Ideal.S16384x1024 ![0, 1] Cert.Reference16Ideal.Facts₀.bcast_S1x1024_S16384x1024_0_1 (broadcastInDim Cert.Reference16Ideal.S1x1024 ![1] Cert.Reference16Ideal.Facts₀.bcast_S1024_S1x1024_1 b))) Cert.Reference16Ideal.Facts₀.bitsLt_bf16_f32 : FVec Ideal S16384x1024 .bf16) y
      = normal (fun k => q (ix2 (y 0) k)) (y 1) (g (ix1 (y 1))) (b (ix1 (y 1))) := by
  pointwise [normal, mean, recip]

/-- Taken at once, the normalised array is what the points compute. -/
theorem normed_eq (x : FVec Ideal Cert.Reference16Ideal.S16384x1024 .f32) (w : FVec Ideal Cert.Reference16Ideal.S1024x1024 .f32) (r : FVec Ideal Cert.Reference16Ideal.S16384x1024 .f32)
    (g b : FVec Ideal Cert.Reference16Ideal.S1024 .f32)
    (hx : x = argM m c) (hw : w = argW m c) (hr : r = argX m c) (hg : g = argG m c) (hb : b = argB m c) :
    (truncf .bf16 (addf (mulf (mulf (subf (addf (mulf (broadcastInDim Cert.Reference16Ideal.S16384x1024 ![] Cert.Reference16Ideal.Facts₀.bcast_S_S16384x1024 (constant Cert.Reference16Ideal.S_ .f32 0x3FB504F3#32)) r) (Host.dotGeneral (φ₁ := .f32) (φ₂ := .f32) Cert.Reference16Ideal.dot_S16384x1024_S1024x1024_S16384x1024_1_0_0_1_n_n none x w)) (broadcastInDim Cert.Reference16Ideal.S16384x1024 ![0, 1] Cert.Reference16Ideal.Facts₀.bcast_S16384x1_S16384x1024_0_1 (Host.divf (broadcastInDim Cert.Reference16Ideal.S16384x1 ![0] Cert.Reference16Ideal.Facts₀.bcast_S16384_S16384x1_0 (Host.reduceAdd (addf (mulf (broadcastInDim Cert.Reference16Ideal.S16384x1024 ![] Cert.Reference16Ideal.Facts₀.bcast_S_S16384x1024 (constant Cert.Reference16Ideal.S_ .f32 0x3FB504F3#32)) r) (Host.dotGeneral (φ₁ := .f32) (φ₂ := .f32) Cert.Reference16Ideal.dot_S16384x1024_S1024x1024_S16384x1024_1_0_0_1_n_n none x w)) (constant Cert.Reference16Ideal.S_ .f32 0x00000000#32) Cert.Reference16Ideal.Facts₀.reducesTo_S16384x1024_S16384_d1 Cert.Reference16Ideal.Facts₀.h_S_)) (broadcastInDim Cert.Reference16Ideal.S16384x1 ![] Cert.Reference16Ideal.Facts₀.bcast_S_S16384x1 (constant Cert.Reference16Ideal.S_ .f32 0x44800000#32))))) (broadcastInDim Cert.Reference16Ideal.S16384x1024 ![0, 1] Cert.Reference16Ideal.Facts₀.bcast_S16384x1_S16384x1024_0_1 (Host.rsqrt (addf (Host.divf (broadcastInDim Cert.Reference16Ideal.S16384x1 ![0] Cert.Reference16Ideal.Facts₀.bcast_S16384_S16384x1_0 (Host.reduceAdd (mulf (subf (addf (mulf (broadcastInDim Cert.Reference16Ideal.S16384x1024 ![] Cert.Reference16Ideal.Facts₀.bcast_S_S16384x1024 (constant Cert.Reference16Ideal.S_ .f32 0x3FB504F3#32)) r) (Host.dotGeneral (φ₁ := .f32) (φ₂ := .f32) Cert.Reference16Ideal.dot_S16384x1024_S1024x1024_S16384x1024_1_0_0_1_n_n none x w)) (broadcastInDim Cert.Reference16Ideal.S16384x1024 ![0, 1] Cert.Reference16Ideal.Facts₀.bcast_S16384x1_S16384x1024_0_1 (Host.divf (broadcastInDim Cert.Reference16Ideal.S16384x1 ![0] Cert.Reference16Ideal.Facts₀.bcast_S16384_S16384x1_0 (Host.reduceAdd (addf (mulf (broadcastInDim Cert.Reference16Ideal.S16384x1024 ![] Cert.Reference16Ideal.Facts₀.bcast_S_S16384x1024 (constant Cert.Reference16Ideal.S_ .f32 0x3FB504F3#32)) r) (Host.dotGeneral (φ₁ := .f32) (φ₂ := .f32) Cert.Reference16Ideal.dot_S16384x1024_S1024x1024_S16384x1024_1_0_0_1_n_n none x w)) (constant Cert.Reference16Ideal.S_ .f32 0x00000000#32) Cert.Reference16Ideal.Facts₀.reducesTo_S16384x1024_S16384_d1 Cert.Reference16Ideal.Facts₀.h_S_)) (broadcastInDim Cert.Reference16Ideal.S16384x1 ![] Cert.Reference16Ideal.Facts₀.bcast_S_S16384x1 (constant Cert.Reference16Ideal.S_ .f32 0x44800000#32))))) (subf (addf (mulf (broadcastInDim Cert.Reference16Ideal.S16384x1024 ![] Cert.Reference16Ideal.Facts₀.bcast_S_S16384x1024 (constant Cert.Reference16Ideal.S_ .f32 0x3FB504F3#32)) r) (Host.dotGeneral (φ₁ := .f32) (φ₂ := .f32) Cert.Reference16Ideal.dot_S16384x1024_S1024x1024_S16384x1024_1_0_0_1_n_n none x w)) (broadcastInDim Cert.Reference16Ideal.S16384x1024 ![0, 1] Cert.Reference16Ideal.Facts₀.bcast_S16384x1_S16384x1024_0_1 (Host.divf (broadcastInDim Cert.Reference16Ideal.S16384x1 ![0] Cert.Reference16Ideal.Facts₀.bcast_S16384_S16384x1_0 (Host.reduceAdd (addf (mulf (broadcastInDim Cert.Reference16Ideal.S16384x1024 ![] Cert.Reference16Ideal.Facts₀.bcast_S_S16384x1024 (constant Cert.Reference16Ideal.S_ .f32 0x3FB504F3#32)) r) (Host.dotGeneral (φ₁ := .f32) (φ₂ := .f32) Cert.Reference16Ideal.dot_S16384x1024_S1024x1024_S16384x1024_1_0_0_1_n_n none x w)) (constant Cert.Reference16Ideal.S_ .f32 0x00000000#32) Cert.Reference16Ideal.Facts₀.reducesTo_S16384x1024_S16384_d1 Cert.Reference16Ideal.Facts₀.h_S_)) (broadcastInDim Cert.Reference16Ideal.S16384x1 ![] Cert.Reference16Ideal.Facts₀.bcast_S_S16384x1 (constant Cert.Reference16Ideal.S_ .f32 0x44800000#32)))))) (constant Cert.Reference16Ideal.S_ .f32 0x00000000#32) Cert.Reference16Ideal.Facts₀.reducesTo_S16384x1024_S16384_d1 Cert.Reference16Ideal.Facts₀.h_S_)) (broadcastInDim Cert.Reference16Ideal.S16384x1 ![] Cert.Reference16Ideal.Facts₀.bcast_S_S16384x1 (constant Cert.Reference16Ideal.S_ .f32 0x44800000#32))) (broadcastInDim Cert.Reference16Ideal.S16384x1 ![] Cert.Reference16Ideal.Facts₀.bcast_S_S16384x1 (constant Cert.Reference16Ideal.S_ .f32 0x3727C5AC#32)))))) (broadcastInDim Cert.Reference16Ideal.S16384x1024 ![0, 1] Cert.Reference16Ideal.Facts₀.bcast_S1x1024_S16384x1024_0_1 (broadcastInDim Cert.Reference16Ideal.S1x1024 ![1] Cert.Reference16Ideal.Facts₀.bcast_S1024_S1x1024_1 g))) (broadcastInDim Cert.Reference16Ideal.S16384x1024 ![0, 1] Cert.Reference16Ideal.Facts₀.bcast_S1x1024_S16384x1024_0_1 (broadcastInDim Cert.Reference16Ideal.S1x1024 ![1] Cert.Reference16Ideal.Facts₀.bcast_S1024_S1x1024_1 b))) Cert.Reference16Ideal.Facts₀.bitsLt_bf16_f32 : FVec Ideal S16384x1024 .bf16) = normed m c := by
  rw [mixed_eq m c x w r hx hw hr]
  subst hg hb
  funext y
  exact normal_eq (mixed m c) (argG m c) (argB m c) y

/-- The value claim, for both results. -/
theorem agree : Cert.algebraic_Kernel16Ideal_Reference16Ideal (hKernel16Ideal := Cert.Kernel16Ideal.Gen.facts)
    (hReference16Ideal := Cert.Reference16Ideal.Gen.facts) := by
  pair_intro
  · run_from Cert.Kernel16Ideal.Value.run_blocks m g
  · refine (θ_run _ _ _).mono (fun r h c => ?_) (Cert.Reference16Ideal.Value.run (F := Ideal) m' g')
    obtain ⟨h0, h1, h2, h3, h4⟩ := hagree c
    refine ⟨?_, ?_, (h c).2.2⟩
    · rw [(h c).1, final5 m c]
      exact mixed_eq m c _ _ _ h0 h1 h2
    · rw [(h c).2.1, final6 m c]
      exact normed_eq m c _ _ _ _ _ h0 h1 h2 h3 h4

end Cert.Kernel16Ideal.OMix

end
-- ==== Proof.FfnDown.lean ====
/- The feed-forward part's output product added to the scaled normalised input, and its normalisation: block by block they are what
the reference takes at once. -/
module

public import proofs.«01_k».proof.Defs
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel17Ideal.FfnDown

open Cert.Kernel17Ideal Cert.Kernel17Ideal.Gen Idealize.ShloMosaic Idealize.ShloMosaic.TcCoe Idealize.SL.Sem
open Finset

variable (m : (ℓ : Loc nD τ sig) → Buf (Elt Ideal) ℓ) (c : Dev nD)

/-- The blocks each point works on: a block of 512 tokens, the whole weights, and the two normalisations' scales and shifts. -/
theorem idx : ∀ t : Fin grid0.N, win0_0.index t = ![t.val, 0] ∧ win0_1.index t = ![0, 0]
    ∧ win0_2.index t = ![t.val, 0] ∧ win0_3.index t = ![0, 0] ∧ win0_4.index t = ![0, 0]
    ∧ win0_5.index t = ![0, 0] ∧ win0_6.index t = ![0, 0]
    ∧ win0_7.index t = ![t.val, 0] ∧ win0_8.index t = ![t.val, 0] :=
  (by decide +kernel : ∀ t : Fin grid0.N, _)

/-- The feed-forward part's gated columns. -/
def argF : FVec Ideal S16384x2816 .f32 := m ((c : Thread nD τ).loc main_arg0)
/-- The weights. -/
def argW : FVec Ideal S2816x1024 .f32 := m ((c : Thread nD τ).loc main_arg1)
/-- The array before the first normalisation. -/
def argR : FVec Ideal S16384x1024 .f32 := m ((c : Thread nD τ).loc main_arg2)
/-- The first normalisation's scale. -/
def argG1 : FVec Ideal S1024 .f32 := m ((c : Thread nD τ).loc main_arg3)
/-- The first normalisation's shift. -/
def argB1 : FVec Ideal S1024 .f32 := m ((c : Thread nD τ).loc main_arg4)
/-- The second normalisation's scale. -/
def argG2 : FVec Ideal S1024 .f32 := m ((c : Thread nD τ).loc main_arg5)
/-- The second normalisation's shift. -/
def argB2 : FVec Ideal S1024 .f32 := m ((c : Thread nD τ).loc main_arg6)

/-- The factor of the residual. -/
def scale : EReal := Ideal.ofBits .f32 0x3FB504F3#32

/-- The mean of a row. -/
def mean (r : Fin 1024 → EReal) : EReal := Ideal.div (∑ k : Fin 1024, r k) (Ideal.ofBits .f32 0x44800000#32)

/-- The reciprocal of a row's deviation. -/
def recip (r : Fin 1024 → EReal) : EReal :=
  Ideal.rsqrt (Ideal.div (∑ k : Fin 1024, (r k - mean r) * (r k - mean r)) (Ideal.ofBits .f32 0x44800000#32)
    + Ideal.ofBits .f32 0x3727C5AC#32)

/-- A row's entry normalised, scaled and shifted. -/
def normal (r : Fin 1024 → EReal) (k : Fin 1024) (g b : EReal) : EReal := (r k - mean r) * recip r * g + b

/-- For a token and a column, the sum over the gated columns. -/
def product : FVec Ideal S16384x1024 .f32 := fun y =>
  ∑ k : Fin 2816, argF m c (ix2 (y 0) k) * argW m c (ix2 k (y 1))

/-- The first normalisation, scaled, plus the product. -/
def summed : FVec Ideal S16384x1024 .f32 := fun y =>
  scale * normal (fun k => argR m c (ix2 (y 0) k)) (y 1) (argG1 m c (ix1 (y 1))) (argB1 m c (ix1 (y 1))) + product m c y

/-- The normalised array. -/
def normed : FVec Ideal S16384x1024 .f32 := fun y =>
  normal (fun k => summed m c (ix2 (y 0) k)) (y 1) (argG2 m c (ix1 (y 1))) (argB2 m c (ix1 (y 1)))

theorem V_v0 : (V m c main_v0 : FVec Ideal S16384x2816 .bf16) = argF m c := by
  simp only [V, hostOps0, List.flatten_cons, List.flatten_nil, List.append_nil, List.cons_append, List.nil_append]
  after_reads_simp
  rfl

theorem V_v1 : (V m c main_v1 : FVec Ideal S2816x1024 .bf16) = argW m c := by
  simp only [V, hostOps0, List.flatten_cons, List.flatten_nil, List.append_nil, List.cons_append, List.nil_append]
  after_reads_simp
  rfl

theorem V_arg2 : (V m c main_arg2 : FVec Ideal S16384x1024 .f32) = argR m c := V_main_arg2 m c

theorem V_v2 : (V m c main_v2 : FVec Ideal S1x1024 .f32) = fun y => argG1 m c (ix1 (y 1)) := by
  funext y
  simp only [V, hostOps0, List.flatten_cons, List.flatten_nil, List.append_nil, List.cons_append, List.nil_append]
  after_reads_simp
  pointwise [argG1]

theorem V_v3 : (V m c main_v3 : FVec Ideal S1x1024 .f32) = fun y => argB1 m c (ix1 (y 1)) := by
  funext y
  simp only [V, hostOps0, List.flatten_cons, List.flatten_nil, List.append_nil, List.cons_append, List.nil_append]
  after_reads_simp
  pointwise [argB1]

theorem V_v4 : (V m c main_v4 : FVec Ideal S1x1024 .f32) = fun y => argG2 m c (ix1 (y 1)) := by
  funext y
  simp only [V, hostOps0, List.flatten_cons, List.flatten_nil, List.append_nil, List.cons_append, List.nil_append]
  after_reads_simp
  pointwise [argG2]

theorem V_v5 : (V m c main_v5 : FVec Ideal S1x1024 .f32) = fun y => argB2 m c (ix1 (y 1)) := by
  funext y
  simp only [V, hostOps0, List.flatten_cons, List.flatten_nil, List.append_nil, List.cons_append, List.nil_append]
  after_reads_simp
  pointwise [argB2]

/-- One point's product at an index. -/
theorem pay3_apply (a : FVec Ideal S512x2816 .bf16) (b : FVec Ideal S2816x1024 .bf16) (j : S512x1024.Idx) :
    k0_pay3 (F := Ideal) a b j = ∑ k : Fin 2816, a (ix2 (j 0) k) * b (ix2 k (j 1)) := by
  pointwise [k0_pay3]

/-- The first normalisation of a point's block, scaled, at an entry. -/
theorem pay6_apply (q : FVec Ideal S512x1024 .f32) (g h : FVec Ideal S1x1024 .f32) (j : S512x1024.Idx) :
    k0_pay6 (F := Ideal) q g h j
      = scale * normal (fun k => q (ix2 (j 0) k)) (j 1) (g (ix2 0 (j 1))) (h (ix2 0 (j 1))) := by
  pointwise [k0_pay6, normal, mean, recip, scale]

/-- A point's normalised block at an entry, of the rows of its sum. -/
theorem pay2_apply (p : FVec Ideal S512x1024 .f32) (g h : FVec Ideal S1x1024 .f32) (r : FVec Ideal S512x1024 .f32) (j : S512x1024.Idx) :
    k0_pay2 (F := Ideal) p g h r j
      = normal (fun k => k0_pay1 (F := Ideal) p r (ix2 (j 0) k)) (j 1) (g (ix2 0 (j 1))) (h (ix2 0 (j 1))) := by
  unfold k0_pay2
  generalize k0_pay1 (F := Ideal) p r = q
  pointwise [normal, mean, recip]

theorem pay4_eq (g : FVec Ideal S1x1024 .f32) : k0_pay4 (F := Ideal) g = g := by
  funext j
  pointwise [k0_pay4]

theorem pay5_eq (g : FVec Ideal S1x1024 .f32) : k0_pay5 (F := Ideal) g = g := by
  funext j
  pointwise [k0_pay5]

/-- The place in the whole result of an entry of a point's block. -/
def place (t : Fin cfg0.N) (j : S512x1024.Idx) : S16384x1024.Idx :=
  ix2 ⟨512 * t.val + (j 0).val, by
    have h : t.val < 32 := t.isLt
    have h0 : (j 0).val < 512 := (j 0).isLt
    omega⟩ ⟨(j 1).val, (j 1).isLt⟩

/-- A point's product, at an entry of its block, is the product at the entry's place. -/
theorem product_apply (t : Fin cfg0.N) (j : S512x1024.Idx) :
    k0_pay3 (F := Ideal) (iblk m c 0 t) (iblk m c 1 t) j = product m c (place t j) := by
  rw [pay3_apply]
  refine Fin.sum_fin_congr fun k => ?_
  refine congrArg₂ (fun a b : EReal => a * b) ?_ ?_
  · refine Eq.trans ?_ (congrFun (V_v0 m c) _)
    blk_ext [iblk, idx, place]
  · refine Eq.trans ?_ (congrFun (V_v1 m c) _)
    blk_ext [iblk, idx, place]

theorem vec3 (t : Fin cfg0.N) (j : S512x1024.Idx) :
    (iblk m c 3 t : FVec Ideal S1x1024 .f32) (ix2 0 (j 1)) = argG1 m c (ix1 (place t j 1)) := by
  refine Eq.trans ?_ (congrFun (V_v2 m c) (ix2 0 (place t j 1)))
  blk_ext [iblk, idx, place]

theorem vec4 (t : Fin cfg0.N) (j : S512x1024.Idx) :
    (iblk m c 4 t : FVec Ideal S1x1024 .f32) (ix2 0 (j 1)) = argB1 m c (ix1 (place t j 1)) := by
  refine Eq.trans ?_ (congrFun (V_v3 m c) (ix2 0 (place t j 1)))
  blk_ext [iblk, idx, place]

theorem vec5 (t : Fin cfg0.N) (j : S512x1024.Idx) :
    (iblk m c 5 t : FVec Ideal S1x1024 .f32) (ix2 0 (j 1)) = argG2 m c (ix1 (place t j 1)) := by
  refine Eq.trans ?_ (congrFun (V_v4 m c) (ix2 0 (place t j 1)))
  blk_ext [iblk, idx, place]

theorem vec6 (t : Fin cfg0.N) (j : S512x1024.Idx) :
    (iblk m c 6 t : FVec Ideal S1x1024 .f32) (ix2 0 (j 1)) = argB2 m c (ix1 (place t j 1)) := by
  refine Eq.trans ?_ (congrFun (V_v5 m c) (ix2 0 (place t j 1)))
  blk_ext [iblk, idx, place]

/-- A point's sum, at an entry of its block, is the sum at the entry's place. -/
theorem point_apply (t : Fin cfg0.N) (j : S512x1024.Idx) :
    k0_pay1 (F := Ideal) (k0_pay3 (F := Ideal) (iblk m c 0 t) (iblk m c 1 t))
      (k0_pay6 (F := Ideal) (iblk m c 2 t) (iblk m c 3 t) (iblk m c 4 t)) j = summed m c (place t j) := by
  have e : ∀ p r : FVec Ideal S512x1024 .f32, k0_pay1 (F := Ideal) p r j = r j + p j := fun p r => rfl
  rw [e, product_apply, pay6_apply, vec3, vec4]
  have er : (fun k : Fin 1024 => (iblk m c 2 t : FVec Ideal S512x1024 .f32) (ix2 (j 0) k))
      = fun k => argR m c (ix2 (place t j 0) k) := by
    funext k
    refine Eq.trans ?_ (congrFun (V_arg2 m c) _)
    blk_ext [iblk, idx, place]
  rw [er]
  rfl

theorem block7_apply (t : Fin cfg0.N) (j : S512x1024.Idx) : (dats m 0 c).after 7 t j = summed m c (place t j) := by
  rw [after0_7]
  unfold_out out0_7
  frame_out
  exact point_apply m c t j

theorem final7 : (dats m 0 c).arrAt 7 cfg0.N = summed m c := by
  refine (dats m 0 c).arrAt_eq_of_covers 7 _ (by decide +kernel) fun t hf y => ?_
  blk_simp
  refine (block7_apply m c t y).trans ?_
  refine congrArg (summed m c) ?_
  blk_ext [idx t, place]

theorem block8_apply (t : Fin cfg0.N) (j : S512x1024.Idx) : (dats m 0 c).after 8 t j = normed m c (place t j) := by
  rw [after0_8]
  unfold_out out0_8
  frame_out
  rw [pay2_apply, pay4_eq, pay5_eq, vec5, vec6]
  have er : (fun k : Fin 1024 => k0_pay1 (F := Ideal) (k0_pay3 (F := Ideal) (iblk m c 0 t) (iblk m c 1 t))
        (k0_pay6 (F := Ideal) (iblk m c 2 t) (iblk m c 3 t) (iblk m c 4 t)) (ix2 (j 0) k))
      = fun k => summed m c (ix2 (place t j 0) k) := by
    funext k
    rw [point_apply]
    rfl
  rw [er]
  rfl

theorem final8 : (dats m 0 c).arrAt 8 cfg0.N = normed m c := by
  refine (dats m 0 c).arrAt_eq_of_covers 8 _ (by decide +kernel) fun t hf y => ?_
  blk_simp
  refine (block8_apply m c t y).trans ?_
  refine congrArg (normed m c) ?_
  blk_ext [idx t, place]

/-- The reference's normalisation of a whole array. -/
def layerNorm (q : FVec Ideal Cert.Reference17Ideal.S16384x1024 .f32) (g b : FVec Ideal Cert.Reference17Ideal.S1024 .f32) : FVec Ideal Cert.Reference17Ideal.S16384x1024 .f32 :=
  addf
    (mulf (mulf (subf q
    (broadcastInDim Cert.Reference17Ideal.S16384x1024 ![0, 1] Cert.Reference17Ideal.Facts₀.bcast_S16384x1_S16384x1024_0_1 (Host.divf
    (broadcastInDim Cert.Reference17Ideal.S16384x1 ![0] Cert.Reference17Ideal.Facts₀.bcast_S16384_S16384x1_0 (Host.reduceAdd q (constant Cert.Reference17Ideal.S_ .f32 0x00000000#32) Cert.Reference17Ideal.Facts₀.reducesTo_S16384x1024_S16384_d1 Cert.Reference17Ideal.Facts₀.h_S_))
    (broadcastInDim Cert.Reference17Ideal.S16384x1 ![] Cert.Reference17Ideal.Facts₀.bcast_S_S16384x1 (constant Cert.Reference17Ideal.S_ .f32 0x44800000#32)))))
    (broadcastInDim Cert.Reference17Ideal.S16384x1024 ![0, 1] Cert.Reference17Ideal.Facts₀.bcast_S16384x1_S16384x1024_0_1 (Host.rsqrt (addf (Host.divf
    (broadcastInDim Cert.Reference17Ideal.S16384x1 ![0] Cert.Reference17Ideal.Facts₀.bcast_S16384_S16384x1_0 (Host.reduceAdd
    (mulf (subf q
    (broadcastInDim Cert.Reference17Ideal.S16384x1024 ![0, 1] Cert.Reference17Ideal.Facts₀.bcast_S16384x1_S16384x1024_0_1 (Host.divf
    (broadcastInDim Cert.Reference17Ideal.S16384x1 ![0] Cert.Reference17Ideal.Facts₀.bcast_S16384_S16384x1_0 (Host.reduceAdd q (constant Cert.Reference17Ideal.S_ .f32 0x00000000#32) Cert.Reference17Ideal.Facts₀.reducesTo_S16384x1024_S16384_d1 Cert.Reference17Ideal.Facts₀.h_S_))
    (broadcastInDim Cert.Reference17Ideal.S16384x1 ![] Cert.Reference17Ideal.Facts₀.bcast_S_S16384x1 (constant Cert.Reference17Ideal.S_ .f32 0x44800000#32))))) (subf q
    (broadcastInDim Cert.Reference17Ideal.S16384x1024 ![0, 1] Cert.Reference17Ideal.Facts₀.bcast_S16384x1_S16384x1024_0_1 (Host.divf
    (broadcastInDim Cert.Reference17Ideal.S16384x1 ![0] Cert.Reference17Ideal.Facts₀.bcast_S16384_S16384x1_0 (Host.reduceAdd q (constant Cert.Reference17Ideal.S_ .f32 0x00000000#32) Cert.Reference17Ideal.Facts₀.reducesTo_S16384x1024_S16384_d1 Cert.Reference17Ideal.Facts₀.h_S_))
    (broadcastInDim Cert.Reference17Ideal.S16384x1 ![] Cert.Reference17Ideal.Facts₀.bcast_S_S16384x1 (constant Cert.Reference17Ideal.S_ .f32 0x44800000#32)))))) (constant Cert.Reference17Ideal.S_ .f32 0x00000000#32) Cert.Reference17Ideal.Facts₀.reducesTo_S16384x1024_S16384_d1 Cert.Reference17Ideal.Facts₀.h_S_))
    (broadcastInDim Cert.Reference17Ideal.S16384x1 ![] Cert.Reference17Ideal.Facts₀.bcast_S_S16384x1 (constant Cert.Reference17Ideal.S_ .f32 0x44800000#32)))
    (broadcastInDim Cert.Reference17Ideal.S16384x1 ![] Cert.Reference17Ideal.Facts₀.bcast_S_S16384x1 (constant Cert.Reference17Ideal.S_ .f32 0x3727C5AC#32))))))
    (broadcastInDim Cert.Reference17Ideal.S16384x1024 ![0, 1] Cert.Reference17Ideal.Facts₀.bcast_S1x1024_S16384x1024_0_1
    (broadcastInDim Cert.Reference17Ideal.S1x1024 ![1] Cert.Reference17Ideal.Facts₀.bcast_S1024_S1x1024_1 g)))
    (broadcastInDim Cert.Reference17Ideal.S16384x1024 ![0, 1] Cert.Reference17Ideal.Facts₀.bcast_S1x1024_S16384x1024_0_1
    (broadcastInDim Cert.Reference17Ideal.S1x1024 ![1] Cert.Reference17Ideal.Facts₀.bcast_S1024_S1x1024_1 b))

/-- The reference's normalisation at an entry. -/
theorem layerNorm_apply (q : FVec Ideal Cert.Reference17Ideal.S16384x1024 .f32) (g b : FVec Ideal Cert.Reference17Ideal.S1024 .f32) (y : S16384x1024.Idx) :
    layerNorm q g b y = normal (fun k => q (ix2 (y 0) k)) (y 1) (g (ix1 (y 1))) (b (ix1 (y 1))) := by
  pointwise [layerNorm, normal, mean, recip]

/-- Taken at once, the product is what the points compute. -/
theorem product_eq (x : FVec Ideal Cert.Reference17Ideal.S16384x2816 .f32) (w : FVec Ideal Cert.Reference17Ideal.S2816x1024 .f32) (hx : x = argF m c) (hw : w = argW m c) :
    ((Host.dotGeneral (φ₁ := .f32) (φ₂ := .f32) Cert.Reference17Ideal.dot_S16384x2816_S2816x1024_S16384x1024_1_0_0_1_n_n none x w) : FVec Ideal S16384x1024 .f32) = product m c := by
  funext y
  subst hx hw
  pointwise [product]

/-- Taken at once, the sum is what the points compute. -/
theorem summed_eq (x : FVec Ideal Cert.Reference17Ideal.S16384x2816 .f32) (w : FVec Ideal Cert.Reference17Ideal.S2816x1024 .f32) (r : FVec Ideal Cert.Reference17Ideal.S16384x1024 .f32)
    (g1 b1 : FVec Ideal Cert.Reference17Ideal.S1024 .f32)
    (hx : x = argF m c) (hw : w = argW m c) (hr : r = argR m c) (hg : g1 = argG1 m c) (hb : b1 = argB1 m c) :
    (addf (mulf (broadcastInDim Cert.Reference17Ideal.S16384x1024 ![] Cert.Reference17Ideal.Facts₀.bcast_S_S16384x1024 (constant Cert.Reference17Ideal.S_ .f32 0x3FB504F3#32))
      (layerNorm r g1 b1)) (Host.dotGeneral (φ₁ := .f32) (φ₂ := .f32) Cert.Reference17Ideal.dot_S16384x2816_S2816x1024_S16384x1024_1_0_0_1_n_n none x w) : FVec Ideal S16384x1024 .f32) = summed m c := by
  rw [product_eq m c x w hx hw]
  subst hr hg hb
  funext y
  have e := layerNorm_apply (argR m c) (argG1 m c) (argB1 m c) y
  generalize layerNorm (argR m c) (argG1 m c) (argB1 m c) = l at e ⊢
  refine Eq.trans (b := scale * l y + product m c y) (by pointwise [scale]) ?_
  rw [e]
  rfl

/-- Taken at once, the normalised array is what the points compute. -/
theorem normed_eq (x : FVec Ideal Cert.Reference17Ideal.S16384x2816 .f32) (w : FVec Ideal Cert.Reference17Ideal.S2816x1024 .f32) (r : FVec Ideal Cert.Reference17Ideal.S16384x1024 .f32)
    (g1 b1 g2 b2 : FVec Ideal Cert.Reference17Ideal.S1024 .f32)
    (hx : x = argF m c) (hw : w = argW m c) (hr : r = argR m c) (hg : g1 = argG1 m c) (hb : b1 = argB1 m c)
    (hg' : g2 = argG2 m c) (hb' : b2 = argB2 m c) :
    (truncf .bf16 (layerNorm (addf (mulf (broadcastInDim Cert.Reference17Ideal.S16384x1024 ![] Cert.Reference17Ideal.Facts₀.bcast_S_S16384x1024 (constant Cert.Reference17Ideal.S_ .f32 0x3FB504F3#32))
      (layerNorm r g1 b1)) (Host.dotGeneral (φ₁ := .f32) (φ₂ := .f32) Cert.Reference17Ideal.dot_S16384x2816_S2816x1024_S16384x1024_1_0_0_1_n_n none x w)) g2 b2) Cert.Reference17Ideal.Facts₀.bitsLt_bf16_f32 : FVec Ideal S16384x1024 .bf16) = normed m c := by
  rw [summed_eq m c x w r g1 b1 hx hw hr hg hb]
  subst hg' hb'
  funext y
  exact layerNorm_apply (summed m c) (argG2 m c) (argB2 m c) y

/-- The value claim, for both results. -/
theorem agree : Cert.algebraic_Kernel17Ideal_Reference17Ideal (hKernel17Ideal := Cert.Kernel17Ideal.Gen.facts)
    (hReference17Ideal := Cert.Reference17Ideal.Gen.facts) := by
  pair_intro
  · run_from Cert.Kernel17Ideal.Value.run_blocks m g
  · refine (θ_run _ _ _).mono (fun r h c => ?_) (Cert.Reference17Ideal.Value.run (F := Ideal) m' g')
    obtain ⟨h0, h1, h2, h3, h4, h5, h6⟩ := hagree c
    refine ⟨?_, ?_, (h c).2.2⟩
    · rw [(h c).1, final7 m c]
      exact summed_eq m c _ _ _ _ _ h0 h1 h2 h3 h4
    · rw [(h c).2.1, final8 m c]
      exact normed_eq m c _ _ _ _ _ _ _ h0 h1 h2 h3 h4 h5 h6

end Cert.Kernel17Ideal.FfnDown

end
-- ==== Proof.NormGradient.lean ====
/- The gradient through a layer normalisation, for one row of finite numbers: the closed form with two means is what differentiating
   the mean, the variance and the scaling step by step gives. -/
module

public import Idealize.ShloMosaic.Lib.Pointwise

@[expose] public section

set_option maxRecDepth 16384

noncomputable section

namespace Cert.NormGradient

open Idealize.ShloMosaic Finset

/-- The mean of a row. -/
def mean (f : Fin 1024 → EReal) : EReal := Ideal.div (∑ k, f k) (Ideal.ofBits .f32 0x44800000#32)
/-- A row less its mean. -/
def centred (r : Fin 1024 → EReal) (k : Fin 1024) : EReal := r k - mean r
/-- The variance of a row, and the small constant added to it. -/
def spread (r : Fin 1024 → EReal) : EReal := mean (fun k => centred r k * centred r k) + Ideal.ofBits .f32 0x3727C5AC#32
/-- The reciprocal of the standard deviation. -/
def scale (r : Fin 1024 → EReal) : EReal := Ideal.rsqrt (spread r)

/-- The closed form: of the row `q` that reaches the normalised values, less its mean and its part along the normalised row. -/
def closed (r q : Fin 1024 → EReal) (i : Fin 1024) : EReal :=
  scale r * (q i - mean q - centred r i * scale r * mean (fun k => q k * (centred r k * scale r)))

/-- What reaches the centred row through the variance. -/
def through (r q : Fin 1024 → EReal) (i : Fin 1024) : EReal :=
  Ideal.div ((∑ k, centred r k * q k) * (Ideal.ofBits .f32 0xBF000000#32 * Ideal.div (scale r) (spread r))) (Ideal.ofBits .f32 0x44800000#32)
    * (Ideal.ofBits .f32 0x40000000#32 * centred r i)

/-- The form differentiating step by step gives: what reaches the row directly, through the variance, and through the mean. -/
def stepwise (r q : Fin 1024 → EReal) (i : Fin 1024) : EReal :=
  q i * scale r + through r q i
    + Ideal.div ((∑ k, -(q k * scale r)) + ∑ k, -through r q k) (Ideal.ofBits .f32 0x44800000#32)

theorem count : Ideal.ofBits .f32 0x44800000#32 = ((1024 : ℝ) : EReal) := by
  simp [Ideal.ofBits, Ideal.ieee, -EReal.coe_mul]; norm_num

theorem minus_half : Ideal.ofBits .f32 0xBF000000#32 = ((-1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem small : Ideal.ofBits .f32 0x3727C5AC#32 = ((10995116 / 2 ^ 40 : ℝ) : EReal) := by
  simp [Ideal.ofBits, Ideal.ieee, -EReal.coe_mul]; norm_num

/-- A sum of real numbers. -/
theorem sum_real (f : Fin 1024 → ℝ) : (∑ k, ((f k : ℝ) : EReal)) = ((∑ k, f k : ℝ) : EReal) := by
  have h : ∀ s : Finset (Fin 1024), (∑ k ∈ s, ((f k : ℝ) : EReal)) = ((∑ k ∈ s, f k : ℝ) : EReal) := fun s => by
    induction s using Finset.induction_on with
    | empty => simp
    | insert a s ha ih => rw [Finset.sum_insert ha, Finset.sum_insert ha, ih, EReal.coe_add]
  exact h Finset.univ

theorem div_real (a b : ℝ) (h : b ≠ 0) : Ideal.div (a : EReal) (b : EReal) = ((a / b : ℝ) : EReal) := by
  rw [Ideal.div_coe h, ← EReal.coe_mul]
  congr 1
  ring

theorem mean_real (f : Fin 1024 → ℝ) : mean (fun k => ((f k : ℝ) : EReal)) = (((∑ k, f k) / 1024 : ℝ) : EReal) := by
  rw [mean, sum_real, count, div_real _ _ (by norm_num)]

/-- The identity over the real numbers. -/
theorem identity (x q : Fin 1024 → ℝ) (s v : ℝ) (hx : ∑ k, x k = 0) (hv : v ≠ 0) (hs : s * s * v = 1) (i : Fin 1024) :
    s * (q i - (∑ k, q k) / 1024 - x i * s * ((∑ k, q k * (x k * s)) / 1024))
      = q i * s + (∑ k, x k * q k) * (-1 / 2 * (s / v)) / 1024 * (2 * x i)
        + ((∑ k, -(q k * s)) + ∑ k, -((∑ k, x k * q k) * (-1 / 2 * (s / v)) / 1024 * (2 * x k))) / 1024 := by
  have e1 : (∑ k, q k * (x k * s)) = (∑ k, x k * q k) * s := by
    rw [Finset.sum_mul]
    exact Finset.sum_congr rfl fun k _ => by ring
  have e2 : (∑ k, -(q k * s)) = -((∑ k, q k) * s) := by
    rw [Finset.sum_neg_distrib, Finset.sum_mul]
  have e3 : ∀ B : ℝ, (∑ k, -(B * (2 * x k))) = 0 := fun B => by
    rw [Finset.sum_neg_distrib, ← Finset.mul_sum, ← Finset.mul_sum, hx]
    ring
  have e4 : s / v = s * s * s := by
    rw [div_eq_iff hv]
    linear_combination (-s) * hs
  rw [e1, e2, e3, e4]
  ring

/-- The two forms agree on finite rows. -/
theorem closed_eq_stepwise (r q : Fin 1024 → EReal) (hr : ∀ k, r k ≠ ⊥ ∧ r k ≠ ⊤) (hq : ∀ k, q k ≠ ⊥ ∧ q k ≠ ⊤) (i : Fin 1024) :
    closed r q i = stepwise r q i := by
  obtain ⟨R, rfl⟩ : ∃ R : Fin 1024 → ℝ, r = fun k => ((R k : ℝ) : EReal) :=
    ⟨fun k => (r k).toReal, funext fun k => (EReal.coe_toReal (hr k).2 (hr k).1).symm⟩
  obtain ⟨Q, rfl⟩ : ∃ Q : Fin 1024 → ℝ, q = fun k => ((Q k : ℝ) : EReal) :=
    ⟨fun k => (q k).toReal, funext fun k => (EReal.coe_toReal (hq k).2 (hq k).1).symm⟩
  obtain ⟨X, hX⟩ : ∃ X : Fin 1024 → ℝ, X = fun k => R k - (∑ k, R k) / 1024 := ⟨_, rfl⟩
  have hc : ∀ k, centred (fun k => ((R k : ℝ) : EReal)) k = ((X k : ℝ) : EReal) := fun k => by
    rw [centred, mean_real, hX, EReal.coe_sub]
  have h0 : ∑ k, X k = 0 := by
    rw [hX, Finset.sum_sub_distrib, Finset.sum_const, Finset.card_univ, Fintype.card_fin, nsmul_eq_mul]
    push_cast
    ring
  obtain ⟨v, hv⟩ : ∃ v : ℝ, v = (∑ k, X k * X k) / 1024 + 10995116 / 2 ^ 40 := ⟨_, rfl⟩
  have hp : 0 < v := by
    have h : 0 ≤ ∑ k, X k * X k := Finset.sum_nonneg fun k _ => mul_self_nonneg _
    rw [hv]
    positivity
  have hsp : spread (fun k => ((R k : ℝ) : EReal)) = (v : EReal) := by
    rw [spread]
    simp only [hc, ← EReal.coe_mul]
    rw [mean_real, small, ← EReal.coe_add, hv]
  obtain ⟨s, hs⟩ : ∃ s : ℝ, s = (Real.sqrt v)⁻¹ := ⟨_, rfl⟩
  have hsc : scale (fun k => ((R k : ℝ) : EReal)) = (s : EReal) := by
    rw [scale, hsp, Ideal.rsqrt_coe, if_neg (not_lt.mpr hp.le), if_neg hp.ne', hs]
  have hss : s * s * v = 1 := by
    rw [hs, ← mul_inv, Real.mul_self_sqrt hp.le, inv_mul_cancel₀ hp.ne']
  rw [closed, stepwise]
  simp only [through, hc, hsc, hsp, count, minus_half, two, ← EReal.coe_mul, div_real _ _ hp.ne', sum_real, mean_real, ← EReal.coe_sub,
    div_real _ _ (show (1024 : ℝ) ≠ 0 by norm_num), ← EReal.coe_neg, ← EReal.coe_add]
  rw [identity X Q s v h0 hp.ne' hss i]

/-- A row with an infinite entry has an infinite variance. -/
theorem spread_top (r : Fin 1024 → EReal) (k : Fin 1024) (h : r k = ⊥ ∨ r k = ⊤) : spread r = ⊤ := by
  have hc : centred r k = ⊥ ∨ centred r k = ⊤ := by
    rw [centred]
    rcases h with h | h
    · exact Or.inl (by rw [h, EReal.bot_sub])
    · rw [h]
      induction mean r using EReal.rec with
      | bot => exact Or.inr rfl
      | coe x => exact Or.inr (EReal.top_sub_coe x)
      | top => exact Or.inl rfl
  have hsq : centred r k * centred r k = ⊤ := by
    rcases hc with hc | hc <;> rw [hc]
    · exact EReal.bot_mul_bot
    · exact EReal.top_mul_top
  have hn : ∀ x : EReal, 0 ≤ x * x := fun x => by
    rcases le_total 0 x with hx | hx
    · exact mul_nonneg hx hx
    · rw [← neg_mul_neg]
      exact mul_nonneg (EReal.neg_nonneg.mpr hx) (EReal.neg_nonneg.mpr hx)
  have hs : (∑ k, centred r k * centred r k) = ⊤ :=
    top_le_iff.mp (hsq.symm.le.trans (Finset.single_le_sum (f := fun k => centred r k * centred r k) (fun k _ => hn _) (Finset.mem_univ k)))
  rw [spread, mean, hs, count, small, Ideal.div_coe (by norm_num), EReal.top_mul_coe_of_pos (by norm_num)]
  rfl

/-- On a row with an infinite entry both forms are zero. -/
theorem closed_eq_stepwise_infinite (r q : Fin 1024 → EReal) (k : Fin 1024) (h : r k = ⊥ ∨ r k = ⊤) (i : Fin 1024) :
    closed r q i = stepwise r q i := by
  have hv := spread_top r k h
  have hs : scale r = 0 := by
    rw [scale, hv, Ideal.rsqrt_top]
  have hz : Ideal.div (0 : EReal) ((1024 : ℝ) : EReal) = 0 := by
    rw [Ideal.div_coe (by norm_num), zero_mul]
  have hd : Ideal.div (scale r) (spread r) = 0 := by
    rw [hs, hv]
    simp [Ideal.div]
  have ht : ∀ i, through r q i = 0 := fun i => by
    rw [through, hd, mul_zero, mul_zero, count, hz, zero_mul]
  rw [closed, stepwise]
  simp only [ht, hs, count, mul_zero, zero_mul, neg_zero, Finset.sum_const_zero, add_zero, hz]

/-- The two forms agree on every row, once what reaches it is finite. -/
theorem closed_eq_stepwise_of_finite (r q : Fin 1024 → EReal) (hq : ∀ k, q k ≠ ⊥ ∧ q k ≠ ⊤) (i : Fin 1024) :
    closed r q i = stepwise r q i := by
  by_cases h : ∃ k, r k = ⊥ ∨ r k = ⊤
  · obtain ⟨k, h⟩ := h
    exact closed_eq_stepwise_infinite r q k h i
  · push Not at h
    exact closed_eq_stepwise r q h hq i

abbrev S16384x1024 : Shape := ⟨2, ![16384, 1024]⟩
abbrev S16384x1 : Shape := ⟨2, ![16384, 1]⟩
abbrev S16384 : Shape := ⟨1, ![16384]⟩
abbrev S1x1024 : Shape := ⟨2, ![1, 1024]⟩
abbrev S1024 : Shape := ⟨1, ![1024]⟩
abbrev S_ : Shape := ⟨0, ![]⟩

theorem wide : S16384x1.BroadcastsInDim S16384x1024 (![0, 1] : Fin 2 → Fin S16384x1024.rank) := by decide
theorem column : S16384.BroadcastsInDim S16384x1 (![0] : Fin 1 → Fin S16384x1.rank) := by decide
theorem across : S16384.BroadcastsInDim S16384x1024 (![0] : Fin 1 → Fin S16384x1024.rank) := by decide
theorem one : S_.BroadcastsInDim S16384x1 (![] : Fin 0 → Fin S16384x1.rank) := by decide
theorem all : S_.BroadcastsInDim S16384x1024 (![] : Fin 0 → Fin S16384x1024.rank) := by decide
theorem line : S1024.BroadcastsInDim S1x1024 (![1] : Fin 1 → Fin S1x1024.rank) := by decide
theorem lines : S1x1024.BroadcastsInDim S16384x1024 (![0, 1] : Fin 2 → Fin S16384x1024.rank) := by decide
theorem rows : S16384x1024.ReducesTo [1] S16384 := by decide
theorem rows1 : S16384x1.ReducesTo [1] S16384 := by decide
theorem cast1 : S16384.ShapeCasts S16384x1 := by decide
theorem point : 0 < S_.numel := by decide

/-- A column of a constant. -/
def fill (b : BitVec 32) : FVec Ideal S16384x1 .f32 := broadcastInDim S16384x1 ![] one (constant S_ .f32 b)
/-- The sums of the rows. -/
def total (x : FVec Ideal S16384x1024 .f32) : FVec Ideal S16384 .f32 := Host.reduceAdd x (constant S_ .f32 0x00000000#32) rows point

/-- The rows less their means. -/
def arrCentred (r : FVec Ideal S16384x1024 .f32) : FVec Ideal S16384x1024 .f32 :=
  subf r (broadcastInDim S16384x1024 ![0, 1] wide (Host.divf (broadcastInDim S16384x1 ![0] column (total r)) (fill 0x44800000#32)))
/-- The rows' variances and the small constant. -/
def arrSpread (r : FVec Ideal S16384x1024 .f32) : FVec Ideal S16384x1 .f32 :=
  addf (Host.divf (broadcastInDim S16384x1 ![0] column (total (mulf (arrCentred r) (arrCentred r)))) (fill 0x44800000#32)) (fill 0x3727C5AC#32)
/-- What reaches the normalised rows. -/
def arrGain (d : FVec Ideal S16384x1024 .f32) (g : FVec Ideal S1024 .f32) : FVec Ideal S16384x1024 .f32 :=
  mulf d (broadcastInDim S16384x1024 ![0, 1] lines (broadcastInDim S1x1024 ![1] line g))
/-- What reaches the rows directly. -/
def arrDirect (r q : FVec Ideal S16384x1024 .f32) : FVec Ideal S16384x1024 .f32 :=
  mulf q (broadcastInDim S16384x1024 ![0, 1] wide (Host.rsqrt (arrSpread r)))
/-- What reaches the rows through the variances. -/
def arrThrough (r q : FVec Ideal S16384x1024 .f32) : FVec Ideal S16384x1024 .f32 :=
  mulf (broadcastInDim S16384x1024 ![0] across (Host.reduceAdd (Host.divf (mulf (shapeCast S16384x1 (total (mulf (arrCentred r) q)) cast1)
    (mulf (fill 0xBF000000#32) (Host.divf (Host.rsqrt (arrSpread r)) (arrSpread r)))) (fill 0x44800000#32))
      (constant S_ .f32 0x00000000#32) rows1 point))
    (mulf (broadcastInDim S16384x1024 ![] all (constant S_ .f32 0x40000000#32)) (arrCentred r))
/-- The gradient of the rows. -/
def arrStepwise (r q : FVec Ideal S16384x1024 .f32) : FVec Ideal S16384x1024 .f32 :=
  addf (addf (arrDirect r q) (arrThrough r q)) (broadcastInDim S16384x1024 ![0] across (Host.reduceAdd (Host.divf
    (addf (shapeCast S16384x1 (total (Host.negf (arrDirect r q))) cast1) (shapeCast S16384x1 (total (Host.negf (arrThrough r q))) cast1))
      (fill 0x44800000#32)) (constant S_ .f32 0x00000000#32) rows1 point))

theorem total_apply (x : FVec Ideal S16384x1024 .f32) (s : Fin 16384) : total x (ix1 s) = ∑ k : Fin 1024, x (ix2 s k) := by
  pointwise [total]

theorem arrCentred_apply (r : FVec Ideal S16384x1024 .f32) (s : Fin 16384) (k : Fin 1024) :
    arrCentred r (ix2 s k) = centred (fun k => r (ix2 s k)) k := by
  pointwise [arrCentred, fill, total, centred, mean]

theorem arrSpread_apply (r : FVec Ideal S16384x1024 .f32) (s : Fin 16384) (z : Fin 1) :
    arrSpread r (ix2 s z) = spread (fun k => r (ix2 s k)) := by
  have e : arrSpread r (ix2 s z) = Ideal.div (∑ k : Fin 1024, arrCentred r (ix2 s k) * arrCentred r (ix2 s k)) (Ideal.ofBits .f32 0x44800000#32)
      + Ideal.ofBits .f32 0x3727C5AC#32 := by
    unfold arrSpread
    generalize arrCentred r = q
    pointwise [fill, total]
  rw [e]
  simp only [arrCentred_apply]
  rfl

theorem arrGain_apply (d : FVec Ideal S16384x1024 .f32) (g : FVec Ideal S1024 .f32) (s : Fin 16384) (k : Fin 1024) :
    arrGain d g (ix2 s k) = d (ix2 s k) * g (ix1 k) := by
  pointwise [arrGain]

theorem arrDirect_apply (r q : FVec Ideal S16384x1024 .f32) (s : Fin 16384) (k : Fin 1024) :
    arrDirect r q (ix2 s k) = q (ix2 s k) * scale (fun k => r (ix2 s k)) := by
  have e : arrDirect r q (ix2 s k) = q (ix2 s k) * Ideal.rsqrt (arrSpread r (ix2 s 0)) := by
    unfold arrDirect
    generalize arrSpread r = v
    pointwise []
  rw [e, arrSpread_apply]
  rfl

theorem arrThrough_apply (r q : FVec Ideal S16384x1024 .f32) (s : Fin 16384) (k : Fin 1024) :
    arrThrough r q (ix2 s k) = through (fun k => r (ix2 s k)) (fun k => q (ix2 s k)) k := by
  have e : arrThrough r q (ix2 s k) = Ideal.div ((∑ k : Fin 1024, arrCentred r (ix2 s k) * q (ix2 s k))
      * (Ideal.ofBits .f32 0xBF000000#32 * Ideal.div (Ideal.rsqrt (arrSpread r (ix2 s 0))) (arrSpread r (ix2 s 0)))) (Ideal.ofBits .f32 0x44800000#32)
        * (Ideal.ofBits .f32 0x40000000#32 * arrCentred r (ix2 s k)) := by
    unfold arrThrough
    generalize arrCentred r = x
    generalize arrSpread r = v
    pointwise [fill, total]
    exact congrArg (fun a : EReal => a * _) (Fin.sum_univ_one _)
  rw [e]
  simp only [arrCentred_apply, arrSpread_apply]
  rfl

theorem arrStepwise_apply (r q : FVec Ideal S16384x1024 .f32) (s : Fin 16384) (k : Fin 1024) :
    arrStepwise r q (ix2 s k) = stepwise (fun k => r (ix2 s k)) (fun k => q (ix2 s k)) k := by
  have e : arrStepwise r q (ix2 s k) = arrDirect r q (ix2 s k) + arrThrough r q (ix2 s k)
      + Ideal.div ((∑ k : Fin 1024, -arrDirect r q (ix2 s k)) + ∑ k : Fin 1024, -arrThrough r q (ix2 s k)) (Ideal.ofBits .f32 0x44800000#32) := by
    unfold arrStepwise
    generalize arrDirect r q = a
    generalize arrThrough r q = b
    pointwise [fill, total]
    exact congrArg (fun a : EReal => _ + a) (Fin.sum_univ_one _)
  rw [e]
  simp only [arrDirect_apply, arrThrough_apply]
  rfl

end Cert.NormGradient

end
-- ==== Proof.NormFinite.lean ====
/- What the preconditions of the two normalisations' gradients say: the array before the normalisation, its scale, and what reaches
   its result are finite everywhere. -/
module

public import proofs.«01_k».proof.Pre_first_norm_gradient_finite
public import proofs.«01_k».proof.Pre_second_norm_gradient_finite
public import Idealize.ShloMosaic.Lib.Pointwise

@[expose] public section

set_option maxRecDepth 16384

noncomputable section

namespace Cert.NormGradient

open Idealize.ShloMosaic

/-- A number whose absolute value is below infinity is finite. -/
theorem finite_of_abs (x : EReal) (h : FloatOps.absf (F := Ideal) (φ := .f32) x < Ideal.ofBits .f32 0x7F800000#32) : x ≠ ⊥ ∧ x ≠ ⊤ := by
  constructor
  · intro e
    rw [e] at h
    exact absurd h (by simp [Ideal.absf_def])
  · intro e
    rw [e] at h
    exact absurd h (by simp [Ideal.absf_def])

/-- A test that holds. -/
theorem holds {p : Prop} [Decidable p] (h : BitVec.ofBool (decide p) = 1#1) : p := by
  by_cases hp : p
  · exact hp
  · simp [hp] at h

end Cert.NormGradient

namespace Cert.Pre_first_norm_gradient_finite

open Idealize.ShloMosaic

theorem facts : Facts := ⟨by decide, by decide, by decide, by decide, by decide, by decide, by decide⟩

variable [Facts]

/-- The predicate, at an index. -/
theorem finite_of (a b : FVec Ideal S16384x2816 .f32) (d r : FVec Ideal S16384x1024 .f32) (g : FVec Ideal S1024 .f32) (w : FVec Ideal S1024x5632 .f32)
    (h : fn a b d r g w = fun _ => 1#1) (s : Fin 16384) (k : Fin 1024) :
    (Ideal.ofBits .f32 0x3FB504F3#32 * d (ix2 s k) + ((∑ x : Fin 2816, a (ix2 s x) * w (ix2 k ⟨x.val, by omega⟩))
        + ∑ x : Fin 2816, b (ix2 s x) * w (ix2 k ⟨2816 + x.val, by omega⟩))) * g (ix1 k) ≠ ⊥
      ∧ (Ideal.ofBits .f32 0x3FB504F3#32 * d (ix2 s k) + ((∑ x : Fin 2816, a (ix2 s x) * w (ix2 k ⟨x.val, by omega⟩))
        + ∑ x : Fin 2816, b (ix2 s x) * w (ix2 k ⟨2816 + x.val, by omega⟩))) * g (ix1 k) ≠ ⊤ := by
  have h' := congrFun h (ix2 s k)
  unfold fn at h'
  revert h'
  pointwise []
  intro h'
  exact Cert.NormGradient.finite_of_abs _ (Cert.NormGradient.holds h')

end Cert.Pre_first_norm_gradient_finite

namespace Cert.Pre_second_norm_gradient_finite

open Idealize.ShloMosaic

theorem facts : Facts := ⟨by decide, by decide, by decide, by decide, by decide, by decide⟩

variable [Facts]

/-- The predicate, at an index. -/
theorem finite_of (a d r : FVec Ideal S16384x1024 .f32) (g : FVec Ideal S1024 .f32) (w : FVec Ideal S1024x1024 .f32)
    (h : fn a d r g w = fun _ => 1#1) (s : Fin 16384) (k : Fin 1024) :
    (d (ix2 s k) + ∑ x : Fin 1024, a (ix2 s x) * w (ix2 k x)) * g (ix1 k) ≠ ⊥
      ∧ (d (ix2 s k) + ∑ x : Fin 1024, a (ix2 s x) * w (ix2 k x)) * g (ix1 k) ≠ ⊤ := by
  have h' := congrFun h (ix2 s k)
  unfold fn at h'
  revert h'
  pointwise []
  intro h'
  exact Cert.NormGradient.finite_of_abs _ (Cert.NormGradient.holds h')

end Cert.Pre_second_norm_gradient_finite

end
-- ==== Proof.FirstNorm.lean ====
/- The gradient through a layer's first normalisation, of the feed-forward part and the residual: block by block it is what
   differentiating the reference takes at once. -/
module

public import proofs.«01_k».proof.Defs
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.NormGradient
public import proofs.«01_k».proof.Proof.NormFinite
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel18Ideal.FirstNorm

open Cert.Kernel18Ideal Cert.Kernel18Ideal.Gen Idealize.ShloMosaic Idealize.ShloMosaic.TcCoe Idealize.SL.Sem
open Finset Cert.NormGradient

variable (m : (ℓ : Loc nD τ sig) → Buf (Elt Ideal) ℓ) (c : Dev nD)

/-- The blocks each point works on: a block of 512 tokens, the whole weights, and the normalisation's scale. -/
theorem idx : ∀ t : Fin grid0.N, win0_0.index t = ![t.val, 0] ∧ win0_1.index t = ![0, 0]
    ∧ win0_2.index t = ![t.val, 0] ∧ win0_3.index t = ![0, 0]
    ∧ win0_4.index t = ![t.val, 0] ∧ win0_5.index t = ![t.val, 0] ∧ win0_6.index t = ![0, 0]
    ∧ win0_7.index t = ![t.val, 0] ∧ win0_8.index t = ![t.val, 0] :=
  (by decide +kernel : ∀ t : Fin grid0.N, _)

/-- The gradient of the gate's columns. -/
def argGate : FVec Ideal S16384x2816 .f32 := m ((c : Thread nD τ).loc main_arg0)
/-- The gradient of the other columns. -/
def argUp : FVec Ideal S16384x2816 .f32 := m ((c : Thread nD τ).loc main_arg1)
/-- The gradient that comes along the residual. -/
def argD : FVec Ideal S16384x1024 .f32 := m ((c : Thread nD τ).loc main_arg2)
/-- The array before the normalisation. -/
def argR : FVec Ideal S16384x1024 .f32 := m ((c : Thread nD τ).loc main_arg3)
/-- The normalisation's scale. -/
def argG : FVec Ideal S1024 .f32 := m ((c : Thread nD τ).loc main_arg4)
/-- The weights, the gate's columns first. -/
def argW : FVec Ideal S1024x5632 .f32 := m ((c : Thread nD τ).loc main_arg5)

/-- The factor of the residual. -/
def factor : EReal := Ideal.ofBits .f32 0x3FB504F3#32

/-- What reaches the normalisation's result at a token and a channel. -/
def reach : FVec Ideal S16384x1024 .f32 := fun y =>
  factor * argD m c y +
    ((∑ k : Fin 2816, argGate m c (ix2 (y 0) k) * argW m c (ix2 (y 1) ⟨k.val, by omega⟩)) +
      ∑ k : Fin 2816, argUp m c (ix2 (y 0) k) * argW m c (ix2 (y 1) ⟨2816 + k.val, by omega⟩))

/-- The gradient of the array before the normalisation. -/
def normGrad : FVec Ideal S16384x1024 .f32 := fun y =>
  closed (fun k => argR m c (ix2 (y 0) k)) (fun k => reach m c (ix2 (y 0) k) * argG m c (ix1 k)) (y 1)

theorem V_v1 : (V m c main_v1 : FVec Ideal S16384x2816 .bf16) = argGate m c := by
  simp only [V, hostOps0, List.flatten_cons, List.flatten_nil, List.append_nil, List.cons_append, List.nil_append]
  after_reads_simp
  rfl

theorem V_v4 : (V m c main_v4 : FVec Ideal S16384x2816 .bf16) = argUp m c := by
  simp only [V, hostOps0, List.flatten_cons, List.flatten_nil, List.append_nil, List.cons_append, List.nil_append]
  after_reads_simp
  rfl

/-- The gate's weights, transposed. -/
theorem V_v3 (k : Fin 2816) (i : Fin 1024) : (V m c main_v3 : FVec Ideal S2816x1024 .bf16) (ix2 k i) = argW m c (ix2 i ⟨k.val, by omega⟩) := by
  have e : (V m c main_v3 : FVec Ideal S2816x1024 .bf16) = transpose S2816x1024 [1, 0] (extractStridedSlice S1024x2816 ![0, 0] (argW m c)
      slices_S1024x5632_S1024x2816_0_0) transposes_S1024x2816_S2816x1024_1_0 := by
    simp only [V, hostOps0, List.flatten_cons, List.flatten_nil, List.append_nil, List.cons_append, List.nil_append]
    after_reads_simp
    rfl
  rw [e]
  pointwise []

/-- The other weights, transposed. -/
theorem V_v6 (k : Fin 2816) (i : Fin 1024) : (V m c main_v6 : FVec Ideal S2816x1024 .bf16) (ix2 k i) = argW m c (ix2 i ⟨2816 + k.val, by omega⟩) := by
  have e : (V m c main_v6 : FVec Ideal S2816x1024 .bf16) = transpose S2816x1024 [1, 0] (extractStridedSlice S1024x2816 ![0, 2816] (argW m c)
      slices_S1024x5632_S1024x2816_0_2816) transposes_S1024x2816_S2816x1024_1_0 := by
    simp only [V, hostOps0, List.flatten_cons, List.flatten_nil, List.append_nil, List.cons_append, List.nil_append]
    after_reads_simp
    rfl
  rw [e]
  pointwise []

theorem V_arg2 : (V m c main_arg2 : FVec Ideal S16384x1024 .f32) = argD m c := V_main_arg2 m c

theorem V_arg3 : (V m c main_arg3 : FVec Ideal S16384x1024 .f32) = argR m c := V_main_arg3 m c

theorem V_v7 : (V m c main_v7 : FVec Ideal S1x1024 .f32) = fun y => argG m c (ix1 (y 1)) := by
  funext y
  simp only [V, hostOps0, List.flatten_cons, List.flatten_nil, List.append_nil, List.cons_append, List.nil_append]
  after_reads_simp
  pointwise [argG]

/-- One point's two products and the scaled residual at an index. -/
theorem pay2_apply (a : FVec Ideal S512x2816 .bf16) (b : FVec Ideal S2816x1024 .bf16) (a' : FVec Ideal S512x2816 .bf16)
    (b' : FVec Ideal S2816x1024 .bf16) (d : FVec Ideal S512x1024 .f32) (j : S512x1024.Idx) :
    k0_pay2 (F := Ideal) a b a' b' d j = factor * d j + ((∑ k : Fin 2816, a (ix2 (j 0) k) * b (ix2 k (j 1)))
      + ∑ k : Fin 2816, a' (ix2 (j 0) k) * b' (ix2 k (j 1))) := by
  pointwise [k0_pay2, factor]

/-- One point's centred rows. -/
theorem pay3_apply (r : FVec Ideal S512x1024 .f32) (s : Fin 512) (k : Fin 1024) :
    k0_pay3 (F := Ideal) r (ix2 s k) = centred (fun k => r (ix2 s k)) k := by
  pointwise [k0_pay3, centred, mean]

/-- The reciprocals of their deviations. -/
theorem pay4_apply (r : FVec Ideal S512x1024 .f32) (s : Fin 512) (z : Fin 1) :
    k0_pay4 (F := Ideal) r (ix2 s z) = scale (fun k => r (ix2 s k)) := by
  have e : k0_pay4 (F := Ideal) r (ix2 s z) = Ideal.rsqrt (Ideal.div (∑ k : Fin 1024, k0_pay3 (F := Ideal) r (ix2 s k) * k0_pay3 (F := Ideal) r (ix2 s k))
      (Ideal.ofBits .f32 0x44800000#32) + Ideal.ofBits .f32 0x3727C5AC#32) := by
    unfold k0_pay4
    generalize k0_pay3 (F := Ideal) r = q
    pointwise []
  rw [e]
  simp only [pay3_apply]
  rfl

/-- The normalised rows. -/
theorem pay5_apply (r : FVec Ideal S512x1024 .f32) (s : Fin 512) (k : Fin 1024) :
    k0_pay5 (F := Ideal) r (ix2 s k) = centred (fun k => r (ix2 s k)) k * scale (fun k => r (ix2 s k)) := by
  have e : k0_pay5 (F := Ideal) r (ix2 s k) = k0_pay3 (F := Ideal) r (ix2 s k) * k0_pay4 (F := Ideal) r (ix2 s 0) := by
    unfold k0_pay5
    generalize k0_pay3 (F := Ideal) r = q
    generalize k0_pay4 (F := Ideal) r = v
    pointwise []
  rw [e, pay3_apply, pay4_apply]

theorem pay6_apply (g : FVec Ideal S1x1024 .f32) (s : Fin 512) (k : Fin 1024) : k0_pay6 (F := Ideal) g (ix2 s k) = g (ix2 0 k) := by
  pointwise [k0_pay6]

/-- One point's gradient at an index. -/
theorem pay7_apply (d : FVec Ideal S512x1024 .f32) (v : FVec Ideal S512x1 .f32) (x g : FVec Ideal S512x1024 .f32) (s : Fin 512) (k : Fin 1024) :
    k0_pay7 (F := Ideal) d v x g (ix2 s k) = v (ix2 s 0) * (d (ix2 s k) * g (ix2 s k) - mean (fun k => d (ix2 s k) * g (ix2 s k))
      - x (ix2 s k) * mean (fun k => d (ix2 s k) * g (ix2 s k) * x (ix2 s k))) := by
  pointwise [k0_pay7, mean]

/-- The place in the whole result of an entry of a point's block. -/
def place (t : Fin cfg0.N) (j : S512x1024.Idx) : S16384x1024.Idx :=
  ix2 ⟨512 * t.val + (j 0).val, by
    have h : t.val < 32 := t.isLt
    have h0 : (j 0).val < 512 := (j 0).isLt
    omega⟩ ⟨(j 1).val, (j 1).isLt⟩

/-- What reaches a point's rows, at the entry's place. -/
theorem reach_apply (t : Fin cfg0.N) (j : S512x1024.Idx) :
    k0_pay2 (F := Ideal) (iblk m c 0 t) (iblk m c 1 t) (iblk m c 2 t) (iblk m c 3 t) (iblk m c 4 t) j = reach m c (place t j) := by
  rw [pay2_apply]
  refine congrArg₂ (fun a b : EReal => factor * a + b) ?_
    (congrArg₂ (fun a b : EReal => a + b) (Fin.sum_fin_congr fun k => ?_) (Fin.sum_fin_congr fun k => ?_))
  · refine Eq.trans ?_ (congrFun (V_arg2 m c) _)
    blk_ext [iblk, idx, place]
  · refine congrArg₂ (fun a b : EReal => a * b) ?_ ?_
    · refine Eq.trans ?_ (congrFun (V_v1 m c) _)
      blk_ext [iblk, idx, place]
    · refine Eq.trans ?_ (V_v3 m c k (j 1))
      blk_ext [iblk, idx]
  · refine congrArg₂ (fun a b : EReal => a * b) ?_ ?_
    · refine Eq.trans ?_ (congrFun (V_v4 m c) _)
      blk_ext [iblk, idx, place]
    · refine Eq.trans ?_ (V_v6 m c k (j 1))
      blk_ext [iblk, idx]

/-- A point's gradient, at an entry of its block, is the gradient at the entry's place. -/
theorem point_apply (t : Fin cfg0.N) (j : S512x1024.Idx) :
    k0_pay7 (F := Ideal) (k0_pay2 (F := Ideal) (iblk m c 0 t) (iblk m c 1 t) (iblk m c 2 t) (iblk m c 3 t) (iblk m c 4 t))
      (k0_pay4 (F := Ideal) (iblk m c 5 t)) (k0_pay5 (F := Ideal) (iblk m c 5 t)) (k0_pay6 (F := Ideal) (iblk m c 6 t)) j
      = normGrad m c (place t j) := by
  obtain ⟨s, i, rfl⟩ : ∃ (s : Fin 512) (i : Fin 1024), j = ix2 s i := ⟨j 0, j 1, by funext a; fin_cases a <;> rfl⟩
  have er : (fun k : Fin 1024 => (iblk m c 5 t : FVec Ideal S512x1024 .f32) (ix2 s k)) = fun k => argR m c (ix2 (place t (ix2 s i) 0) k) := by
    funext k
    refine Eq.trans ?_ (congrFun (V_arg3 m c) _)
    blk_ext [iblk, idx, place]
  have eg : ∀ k : Fin 1024, (iblk m c 6 t : FVec Ideal S1x1024 .f32) (ix2 0 k) = argG m c (ix1 k) := fun k => by
    refine Eq.trans ?_ (congrFun (V_v7 m c) (ix2 0 k))
    blk_ext [iblk, idx]
  rw [pay7_apply, pay4_apply, er]
  simp only [pay5_apply, pay6_apply, reach_apply, eg]
  rw [er]
  rfl

theorem block7_apply (t : Fin cfg0.N) (j : S512x1024.Idx) : (dats m 0 c).after 7 t j = normGrad m c (place t j) := by
  rw [after0_7]
  by_cases h : t.val = 0
  · rw [outsAt0_A m c t (by omega) (by omega) (by omega) (by omega)]
    frame_out
    exact point_apply m c t j
  · have ht : t.val < 32 := t.isLt
    rw [outsAt0_B m c t (by omega) (by omega) (by omega) (by omega)]
    frame_out
    exact point_apply m c t j

theorem final7 : (dats m 0 c).arrAt 7 cfg0.N = normGrad m c := by
  refine (dats m 0 c).arrAt_eq_of_covers 7 _ (by decide +kernel) fun t hf y => ?_
  blk_simp
  refine (block7_apply m c t y).trans ?_
  refine congrArg (normGrad m c) ?_
  blk_ext [idx t, place]

theorem block8_apply (t : Fin cfg0.N) (j : S512x1024.Idx) : (dats m 0 c).after 8 t j = normGrad m c (place t j) := by
  rw [after0_8]
  by_cases h : t.val = 0
  · rw [outsAt0_A m c t (by omega) (by omega) (by omega) (by omega)]
    frame_out
    exact point_apply m c t j
  · have ht : t.val < 32 := t.isLt
    rw [outsAt0_B m c t (by omega) (by omega) (by omega) (by omega)]
    frame_out
    exact point_apply m c t j

theorem final8 : (dats m 0 c).arrAt 8 cfg0.N = normGrad m c := by
  refine (dats m 0 c).arrAt_eq_of_covers 8 _ (by decide +kernel) fun t hf y => ?_
  blk_simp
  refine (block8_apply m c t y).trans ?_
  refine congrArg (normGrad m c) ?_
  blk_ext [idx t, place]

/-- Taken at once, what reaches the normalisation's result is what the points compute. -/
theorem reach_eq (a b : FVec Ideal Cert.Reference18Ideal.S16384x2816 .f32) (d : FVec Ideal Cert.Reference18Ideal.S16384x1024 .f32) (w : FVec Ideal Cert.Reference18Ideal.S1024x5632 .f32)
    (ha : a = argGate m c) (hb : b = argUp m c) (hd : d = argD m c) (hw : w = argW m c) :
    (addf (Host.dotGeneral (φ₁ := .f32) (φ₂ := .f32) Cert.Reference18Ideal.dot_S16384x5632_S1024x5632_S16384x1024_1_1_0_0_n_n none
      (concatenate Cert.Reference18Ideal.S16384x5632 1 [⟨Cert.Reference18Ideal.S16384x2816, a⟩, ⟨Cert.Reference18Ideal.S16384x2816, b⟩]
        Cert.Reference18Ideal.Facts₀.concatenates_S16384x2816_S16384x2816_S16384x5632_d1) w)
      (mulf (broadcastInDim Cert.Reference18Ideal.S16384x1024 ![] Cert.Reference18Ideal.Facts₀.bcast_S_S16384x1024 (constant Cert.Reference18Ideal.S_ .f32 0x3FB504F3#32)) d)
      : FVec Ideal S16384x1024 .f32) = reach m c := by
  funext y
  subst ha hb hd hw
  rw [reach, add_comm]
  pointwise []
  rfl

/-- The reference's first result, step by step. -/
theorem stepwise_eq (m' : (ℓ : Loc Cert.Reference18Ideal.nD Cert.Reference18Ideal.τ Cert.Reference18Ideal.sig) → Buf (Elt Ideal) ℓ) (c' : Dev Cert.Reference18Ideal.nD) :
    (Cert.Reference18Ideal.Value.res_main_v63 (F := Ideal) m' c' : FVec Ideal S16384x1024 .f32)
      = arrStepwise (m' ((c'.tc : Thread Cert.Reference18Ideal.nD Cert.Reference18Ideal.τ).loc Cert.Reference18Ideal.main_arg3)) (arrGain (addf (Host.dotGeneral (φ₁ := .f32) (φ₂ := .f32) Cert.Reference18Ideal.dot_S16384x5632_S1024x5632_S16384x1024_1_1_0_0_n_n none
        (concatenate Cert.Reference18Ideal.S16384x5632 1 [⟨Cert.Reference18Ideal.S16384x2816, m' ((c'.tc : Thread Cert.Reference18Ideal.nD Cert.Reference18Ideal.τ).loc Cert.Reference18Ideal.main_arg0)⟩, ⟨Cert.Reference18Ideal.S16384x2816, m' ((c'.tc : Thread Cert.Reference18Ideal.nD Cert.Reference18Ideal.τ).loc Cert.Reference18Ideal.main_arg1)⟩]
          Cert.Reference18Ideal.Facts₀.concatenates_S16384x2816_S16384x2816_S16384x5632_d1) (m' ((c'.tc : Thread Cert.Reference18Ideal.nD Cert.Reference18Ideal.τ).loc Cert.Reference18Ideal.main_arg5)))
        (mulf (broadcastInDim Cert.Reference18Ideal.S16384x1024 ![] Cert.Reference18Ideal.Facts₀.bcast_S_S16384x1024 (constant Cert.Reference18Ideal.S_ .f32 0x3FB504F3#32)) (m' ((c'.tc : Thread Cert.Reference18Ideal.nD Cert.Reference18Ideal.τ).loc Cert.Reference18Ideal.main_arg2))))
          (m' ((c'.tc : Thread Cert.Reference18Ideal.nD Cert.Reference18Ideal.τ).loc Cert.Reference18Ideal.main_arg4))) := rfl

/-- The reference's second result is its first. -/
theorem second_eq (m' : (ℓ : Loc Cert.Reference18Ideal.nD Cert.Reference18Ideal.τ Cert.Reference18Ideal.sig) → Buf (Elt Ideal) ℓ) (c' : Dev Cert.Reference18Ideal.nD) :
    (Cert.Reference18Ideal.Value.res_main_v64 (F := Ideal) m' c' : FVec Ideal S16384x1024 .f32) = Cert.Reference18Ideal.Value.res_main_v63 (F := Ideal) m' c' := rfl

/-- When what reaches the normalised rows is finite, the gradient step by step is what the points compute. -/
theorem grad_eq (r d : FVec Ideal Cert.Reference18Ideal.S16384x1024 .f32) (g : FVec Ideal Cert.Reference18Ideal.S1024 .f32)
    (hr : r = argR m c) (hd : d = reach m c) (hg : g = argG m c)
    (hf : ∀ (s : Fin 16384) (k : Fin 1024), (reach m c (ix2 s k) * argG m c (ix1 k) : EReal) ≠ ⊥ ∧ (reach m c (ix2 s k) * argG m c (ix1 k) : EReal) ≠ ⊤) :
    (arrStepwise r (arrGain d g) : FVec Ideal S16384x1024 .f32) = normGrad m c := by
  subst hr hd hg
  funext y
  obtain ⟨s, k, rfl⟩ : ∃ (s : Fin 16384) (k : Fin 1024), y = ix2 s k := ⟨y 0, y 1, by funext a; fin_cases a <;> rfl⟩
  refine (arrStepwise_apply (argR m c) (arrGain (reach m c) (argG m c)) s k).trans ?_
  simp only [arrGain_apply]
  rw [← closed_eq_stepwise_of_finite _ _ (hf s)]
  rfl

/-- The value claim, for both results. -/
theorem agree : Cert.algebraic_Kernel18Ideal_Reference18Ideal (hKernel18Ideal := Cert.Kernel18Ideal.Gen.facts)
    (hReference18Ideal := Cert.Reference18Ideal.Gen.facts)
    (hPre_first_norm_gradient_finite := Cert.Pre_first_norm_gradient_finite.facts) := by
  pair_intro
  · run_from Cert.Kernel18Ideal.Value.run_blocks m g
  · refine (θ_run _ _ _).mono (fun r h c => ?_) (Cert.Reference18Ideal.Value.run (F := Ideal) m' g')
    obtain ⟨h0, h1, h2, h3, h4, h5⟩ := hagree c
    haveI := Cert.Pre_first_norm_gradient_finite.facts
    have e := grad_eq m c _ _ _ h3 (reach_eq m c _ _ _ _ h0 h1 h2 h5) h4 (fun s k =>
      Cert.Pre_first_norm_gradient_finite.finite_of _ _ _ _ _ _ (hpre c) s k)
    refine ⟨?_, ?_, (h c).2.2⟩
    · rw [(h c).1, final7 m c]
      exact (stepwise_eq m' c).trans e
    · rw [(h c).2.1, final8 m c]
      exact (second_eq m' c).trans ((stepwise_eq m' c).trans e)

end Cert.Kernel18Ideal.FirstNorm

end
-- ==== Proof.SecondNorm.lean ====
/- The gradient through a layer's second normalisation, of the gate and the residual: block by block it is what differentiating
   the reference takes at once. -/
module

public import proofs.«01_k».proof.Defs
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.NormGradient
public import proofs.«01_k».proof.Proof.NormFinite
public import Idealize.ShloMosaic.Lib.Claim
public import Idealize.ShloMosaic.Lib.Pipeline.ValueKit
public import Idealize.ShloMosaic.Lib.Pointwise
public import Idealize.ShloMosaic.Lib.WholeRead
public import Idealize.ShloMosaic.Lib.StableHlo.RunRead

@[expose] public section

set_option maxRecDepth 16384

noncomputable section

namespace Cert.Kernel19Ideal.SecondNorm

open Cert.Kernel19Ideal Cert.Kernel19Ideal.Gen Idealize.ShloMosaic Idealize.ShloMosaic.TcCoe Idealize.SL.Sem
open Finset Cert.NormGradient

variable (m : (ℓ : Loc nD τ sig) → Buf (Elt Ideal) ℓ) (c : Dev nD)

/-- The blocks each point works on: a block of 512 tokens, the whole weights, and the normalisation's scale. -/
theorem idx : ∀ t : Fin grid0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![t.val, 0] :=
  (by decide +kernel : ∀ t : Fin grid0.N, _)

/-- The gradient of the gate's projection. -/
def argT : FVec Ideal S16384x1024 .f32 := m ((c : Thread nD τ).loc main_arg0)
/-- The gradient that comes along the residual. -/
def argD : FVec Ideal S16384x1024 .f32 := m ((c : Thread nD τ).loc main_arg1)
/-- The array before the normalisation. -/
def argR : FVec Ideal S16384x1024 .f32 := m ((c : Thread nD τ).loc main_arg2)
/-- The normalisation's scale. -/
def argG : FVec Ideal S1024 .f32 := m ((c : Thread nD τ).loc main_arg3)
/-- The gate's weights. -/
def argW : FVec Ideal S1024x1024 .f32 := m ((c : Thread nD τ).loc main_arg4)

/-- What reaches the normalisation's result at a token and a channel. -/
def reach : FVec Ideal S16384x1024 .f32 := fun y =>
  argD m c y + ∑ k : Fin 1024, argT m c (ix2 (y 0) k) * argW m c (ix2 (y 1) k)

/-- The gradient of the array before the normalisation. -/
def normGrad : FVec Ideal S16384x1024 .f32 := fun y =>
  closed (fun k => argR m c (ix2 (y 0) k)) (fun k => reach m c (ix2 (y 0) k) * argG m c (ix1 k)) (y 1)

theorem V_v0 : (V m c main_v0 : FVec Ideal S16384x1024 .bf16) = argT m c := by
  simp only [V, hostOps0, List.flatten_cons, List.flatten_nil, List.append_nil, List.cons_append, List.nil_append]
  after_reads_simp
  rfl

/-- The gate's weights, transposed. -/
theorem V_v2 (k i : Fin 1024) : (V m c main_v2 : FVec Ideal S1024x1024 .bf16) (ix2 k i) = argW m c (ix2 i k) := by
  have e : (V m c main_v2 : FVec Ideal S1024x1024 .bf16) = transpose S1024x1024 [1, 0] (argW m c) transposes_S1024x1024_S1024x1024_1_0 := by
    simp only [V, hostOps0, List.flatten_cons, List.flatten_nil, List.append_nil, List.cons_append, List.nil_append]
    after_reads_simp
    rfl
  rw [e]
  pointwise []

theorem V_arg1 : (V m c main_arg1 : FVec Ideal S16384x1024 .f32) = argD m c := V_main_arg1 m c

theorem V_arg2 : (V m c main_arg2 : FVec Ideal S16384x1024 .f32) = argR m c := V_main_arg2 m c

theorem V_v3 : (V m c main_v3 : FVec Ideal S1x1024 .f32) = fun y => argG m c (ix1 (y 1)) := by
  funext y
  simp only [V, hostOps0, List.flatten_cons, List.flatten_nil, List.append_nil, List.cons_append, List.nil_append]
  after_reads_simp
  pointwise [argG]

/-- One point's product and residual at an index. -/
theorem pay7_apply (a : FVec Ideal S512x1024 .bf16) (b : FVec Ideal S1024x1024 .bf16) (d : FVec Ideal S512x1024 .f32) (j : S512x1024.Idx) :
    k0_pay7 (F := Ideal) a b d j = d j + ∑ k : Fin 1024, a (ix2 (j 0) k) * b (ix2 k (j 1)) := by
  pointwise [k0_pay7]

/-- One point's centred rows. -/
theorem pay8_apply (r : FVec Ideal S512x1024 .f32) (s : Fin 512) (k : Fin 1024) :
    k0_pay8 (F := Ideal) r (ix2 s k) = centred (fun k => r (ix2 s k)) k := by
  pointwise [k0_pay8, centred, mean]

/-- The reciprocals of their deviations. -/
theorem pay9_apply (r : FVec Ideal S512x1024 .f32) (s : Fin 512) (z : Fin 1) :
    k0_pay9 (F := Ideal) r (ix2 s z) = scale (fun k => r (ix2 s k)) := by
  have e : k0_pay9 (F := Ideal) r (ix2 s z) = Ideal.rsqrt (Ideal.div (∑ k : Fin 1024, k0_pay8 (F := Ideal) r (ix2 s k) * k0_pay8 (F := Ideal) r (ix2 s k))
      (Ideal.ofBits .f32 0x44800000#32) + Ideal.ofBits .f32 0x3727C5AC#32) := by
    unfold k0_pay9
    generalize k0_pay8 (F := Ideal) r = q
    pointwise []
  rw [e]
  simp only [pay8_apply]
  rfl

/-- The normalised rows. -/
theorem pay10_apply (r : FVec Ideal S512x1024 .f32) (s : Fin 512) (k : Fin 1024) :
    k0_pay10 (F := Ideal) r (ix2 s k) = centred (fun k => r (ix2 s k)) k * scale (fun k => r (ix2 s k)) := by
  have e : k0_pay10 (F := Ideal) r (ix2 s k) = k0_pay8 (F := Ideal) r (ix2 s k) * k0_pay9 (F := Ideal) r (ix2 s 0) := by
    unfold k0_pay10
    generalize k0_pay8 (F := Ideal) r = q
    generalize k0_pay9 (F := Ideal) r = v
    pointwise []
  rw [e, pay8_apply, pay9_apply]

/-- What reaches the normalised rows. -/
theorem pay11_apply (a : FVec Ideal S512x1024 .bf16) (b : FVec Ideal S1024x1024 .bf16) (d : FVec Ideal S512x1024 .f32) (g : FVec Ideal S1x1024 .f32)
    (s : Fin 512) (k : Fin 1024) :
    k0_pay11 (F := Ideal) a b d g (ix2 s k) = k0_pay7 (F := Ideal) a b d (ix2 s k) * g (ix2 0 k) := by
  unfold k0_pay11
  generalize k0_pay7 (F := Ideal) a b d = q
  pointwise []

/-- Its means. -/
theorem pay12_apply (a : FVec Ideal S512x1024 .bf16) (b : FVec Ideal S1024x1024 .bf16) (d : FVec Ideal S512x1024 .f32) (g : FVec Ideal S1x1024 .f32)
    (s : Fin 512) (z : Fin 1) :
    k0_pay12 (F := Ideal) a b d g (ix2 s z) = mean (fun k => k0_pay11 (F := Ideal) a b d g (ix2 s k)) := by
  unfold k0_pay12
  generalize k0_pay11 (F := Ideal) a b d g = q
  pointwise [mean]

/-- The sums of its products with the normalised rows. -/
theorem pay13_apply (a : FVec Ideal S512x1024 .bf16) (b : FVec Ideal S1024x1024 .bf16) (d r : FVec Ideal S512x1024 .f32) (g : FVec Ideal S1x1024 .f32)
    (s : Fin 512) (z : Fin 1) :
    k0_pay13 (F := Ideal) a b d r g (ix2 s z) = ∑ k : Fin 1024, k0_pay11 (F := Ideal) a b d g (ix2 s k) * k0_pay10 (F := Ideal) r (ix2 s k) := by
  unfold k0_pay13
  generalize k0_pay11 (F := Ideal) a b d g = q
  generalize k0_pay10 (F := Ideal) r = x
  pointwise []

/-- One point's gradient at an index. -/
theorem pay1_apply (v : FVec Ideal S512x1 .f32) (x q : FVec Ideal S512x1024 .f32) (u w : FVec Ideal S512x1 .f32) (s : Fin 512) (k : Fin 1024) :
    k0_pay1 (F := Ideal) v x q u w (ix2 s k) = v (ix2 s 0) * (q (ix2 s k) - u (ix2 s 0)
      - x (ix2 s k) * Ideal.div (w (ix2 s 0)) (Ideal.ofBits .f32 0x44800000#32)) := by
  pointwise [k0_pay1]

/-- The place in the whole result of an entry of a point's block. -/
def place (t : Fin cfg0.N) (j : S512x1024.Idx) : S16384x1024.Idx :=
  ix2 ⟨512 * t.val + (j 0).val, by
    have h : t.val < 32 := t.isLt
    have h0 : (j 0).val < 512 := (j 0).isLt
    omega⟩ ⟨(j 1).val, (j 1).isLt⟩

/-- What reaches a point's rows, at the entry's place. -/
theorem reach_apply (t : Fin cfg0.N) (j : S512x1024.Idx) :
    k0_pay7 (F := Ideal) (iblk m c 0 t) (iblk m c 1 t) (iblk m c 2 t) j = reach m c (place t j) := by
  rw [pay7_apply]
  refine congrArg₂ (fun a b : EReal => a + b) ?_ (Fin.sum_fin_congr fun k => ?_)
  · refine Eq.trans ?_ (congrFun (V_arg1 m c) _)
    blk_ext [iblk, idx, place]
  · refine congrArg₂ (fun a b : EReal => a * b) ?_ ?_
    · refine Eq.trans ?_ (congrFun (V_v0 m c) _)
      blk_ext [iblk, idx, place]
    · refine Eq.trans ?_ (V_v2 m c k (j 1))
      blk_ext [iblk, idx]

/-- A point's gradient, at an entry of its block, is the gradient at the entry's place. -/
theorem point_apply (t : Fin cfg0.N) (j : S512x1024.Idx) :
    k0_pay1 (F := Ideal) (k0_pay9 (F := Ideal) (iblk m c 3 t)) (k0_pay10 (F := Ideal) (iblk m c 3 t))
      (k0_pay11 (F := Ideal) (iblk m c 0 t) (iblk m c 1 t) (iblk m c 2 t) (iblk m c 4 t))
      (k0_pay12 (F := Ideal) (iblk m c 0 t) (iblk m c 1 t) (iblk m c 2 t) (iblk m c 4 t))
      (k0_pay13 (F := Ideal) (iblk m c 0 t) (iblk m c 1 t) (iblk m c 2 t) (iblk m c 3 t) (iblk m c 4 t)) j
      = normGrad m c (place t j) := by
  obtain ⟨s, i, rfl⟩ : ∃ (s : Fin 512) (i : Fin 1024), j = ix2 s i := ⟨j 0, j 1, by funext a; fin_cases a <;> rfl⟩
  have er : (fun k : Fin 1024 => (iblk m c 3 t : FVec Ideal S512x1024 .f32) (ix2 s k)) = fun k => argR m c (ix2 (place t (ix2 s i) 0) k) := by
    funext k
    refine Eq.trans ?_ (congrFun (V_arg2 m c) _)
    blk_ext [iblk, idx, place]
  have eg : ∀ k : Fin 1024, (iblk m c 4 t : FVec Ideal S1x1024 .f32) (ix2 0 k) = argG m c (ix1 k) := fun k => by
    refine Eq.trans ?_ (congrFun (V_v3 m c) (ix2 0 k))
    blk_ext [iblk, idx]
  rw [pay1_apply, pay9_apply, er, pay12_apply, pay13_apply]
  simp only [pay10_apply, pay11_apply, reach_apply, eg]
  rw [er]
  rfl

theorem block5_apply (t : Fin cfg0.N) (j : S512x1024.Idx) : (dats m 0 c).after 5 t j = normGrad m c (place t j) := by
  rw [after0_5]
  by_cases h : t.val = 0
  · rw [outsAt0_A m c t (by omega) (by omega) (by omega) (by omega)]
    frame_out
    exact point_apply m c t j
  · have ht : t.val < 32 := t.isLt
    rw [outsAt0_B m c t (by omega) (by omega) (by omega) (by omega)]
    frame_out
    exact point_apply m c t j

theorem final5 : (dats m 0 c).arrAt 5 cfg0.N = normGrad m c := by
  refine (dats m 0 c).arrAt_eq_of_covers 5 _ (by decide +kernel) fun t hf y => ?_
  blk_simp
  refine (block5_apply m c t y).trans ?_
  refine congrArg (normGrad m c) ?_
  blk_ext [idx t, place]

theorem block6_apply (t : Fin cfg0.N) (j : S512x1024.Idx) : (dats m 0 c).after 6 t j = normGrad m c (place t j) := by
  rw [after0_6]
  by_cases h : t.val = 0
  · rw [outsAt0_A m c t (by omega) (by omega) (by omega) (by omega)]
    frame_out
    exact point_apply m c t j
  · have ht : t.val < 32 := t.isLt
    rw [outsAt0_B m c t (by omega) (by omega) (by omega) (by omega)]
    frame_out
    exact point_apply m c t j

theorem final6 : (dats m 0 c).arrAt 6 cfg0.N = normGrad m c := by
  refine (dats m 0 c).arrAt_eq_of_covers 6 _ (by decide +kernel) fun t hf y => ?_
  blk_simp
  refine (block6_apply m c t y).trans ?_
  refine congrArg (normGrad m c) ?_
  blk_ext [idx t, place]

/-- Taken at once, what reaches the normalisation's result is what the points compute. -/
theorem reach_eq (a d : FVec Ideal Cert.Reference19Ideal.S16384x1024 .f32) (w : FVec Ideal Cert.Reference19Ideal.S1024x1024 .f32)
    (ha : a = argT m c) (hd : d = argD m c) (hw : w = argW m c) :
    (addf d (Host.dotGeneral (φ₁ := .f32) (φ₂ := .f32) Cert.Reference19Ideal.dot_S16384x1024_S1024x1024_S16384x1024_1_1_0_0_n_n none a w) : FVec Ideal S16384x1024 .f32) = reach m c := by
  funext y
  subst ha hd hw
  rw [reach]
  pointwise []
  try rfl

/-- The reference's first result, step by step. -/
theorem stepwise_eq (m' : (ℓ : Loc Cert.Reference19Ideal.nD Cert.Reference19Ideal.τ Cert.Reference19Ideal.sig) → Buf (Elt Ideal) ℓ) (c' : Dev Cert.Reference19Ideal.nD) :
    (Cert.Reference19Ideal.Value.res_main_v58 (F := Ideal) m' c' : FVec Ideal S16384x1024 .f32)
      = arrStepwise (m' ((c'.tc : Thread Cert.Reference19Ideal.nD Cert.Reference19Ideal.τ).loc Cert.Reference19Ideal.main_arg2)) (arrGain (addf (m' ((c'.tc : Thread Cert.Reference19Ideal.nD Cert.Reference19Ideal.τ).loc Cert.Reference19Ideal.main_arg1))
        (Host.dotGeneral (φ₁ := .f32) (φ₂ := .f32) Cert.Reference19Ideal.dot_S16384x1024_S1024x1024_S16384x1024_1_1_0_0_n_n none (m' ((c'.tc : Thread Cert.Reference19Ideal.nD Cert.Reference19Ideal.τ).loc Cert.Reference19Ideal.main_arg0)) (m' ((c'.tc : Thread Cert.Reference19Ideal.nD Cert.Reference19Ideal.τ).loc Cert.Reference19Ideal.main_arg4)))) (m' ((c'.tc : Thread Cert.Reference19Ideal.nD Cert.Reference19Ideal.τ).loc Cert.Reference19Ideal.main_arg3))) := rfl

/-- The reference's second result is its first. -/
theorem second_eq (m' : (ℓ : Loc Cert.Reference19Ideal.nD Cert.Reference19Ideal.τ Cert.Reference19Ideal.sig) → Buf (Elt Ideal) ℓ) (c' : Dev Cert.Reference19Ideal.nD) :
    (Cert.Reference19Ideal.Value.res_main_v59 (F := Ideal) m' c' : FVec Ideal S16384x1024 .f32) = Cert.Reference19Ideal.Value.res_main_v58 (F := Ideal) m' c' := rfl

/-- When what reaches the normalised rows is finite, the gradient step by step is what the points compute. -/
theorem grad_eq (r d : FVec Ideal Cert.Reference19Ideal.S16384x1024 .f32) (g : FVec Ideal Cert.Reference19Ideal.S1024 .f32)
    (hr : r = argR m c) (hd : d = reach m c) (hg : g = argG m c)
    (hf : ∀ (s : Fin 16384) (k : Fin 1024), (reach m c (ix2 s k) * argG m c (ix1 k) : EReal) ≠ ⊥ ∧ (reach m c (ix2 s k) * argG m c (ix1 k) : EReal) ≠ ⊤) :
    (arrStepwise r (arrGain d g) : FVec Ideal S16384x1024 .f32) = normGrad m c := by
  subst hr hd hg
  funext y
  obtain ⟨s, k, rfl⟩ : ∃ (s : Fin 16384) (k : Fin 1024), y = ix2 s k := ⟨y 0, y 1, by funext a; fin_cases a <;> rfl⟩
  refine (arrStepwise_apply (argR m c) (arrGain (reach m c) (argG m c)) s k).trans ?_
  simp only [arrGain_apply]
  rw [← closed_eq_stepwise_of_finite _ _ (hf s)]
  rfl

/-- The value claim, for both results. -/
theorem agree : Cert.algebraic_Kernel19Ideal_Reference19Ideal (hKernel19Ideal := Cert.Kernel19Ideal.Gen.facts)
    (hReference19Ideal := Cert.Reference19Ideal.Gen.facts)
    (hPre_second_norm_gradient_finite := Cert.Pre_second_norm_gradient_finite.facts) := by
  pair_intro
  · run_from Cert.Kernel19Ideal.Value.run_blocks m g
  · refine (θ_run _ _ _).mono (fun r h c => ?_) (Cert.Reference19Ideal.Value.run (F := Ideal) m' g')
    obtain ⟨h0, h1, h2, h3, h4⟩ := hagree c
    haveI := Cert.Pre_second_norm_gradient_finite.facts
    have e := grad_eq m c _ _ _ h2 (reach_eq m c _ _ _ h0 h1 h4) h3 (fun s k =>
      Cert.Pre_second_norm_gradient_finite.finite_of _ _ _ _ _ (hpre c) s k)
    refine ⟨?_, ?_, (h c).2.2⟩
    · rw [(h c).1, final5 m c]
      exact (stepwise_eq m' c).trans e
    · rw [(h c).2.1, final6 m c]
      exact (second_eq m' c).trans ((stepwise_eq m' c).trans e)

end Cert.Kernel19Ideal.SecondNorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Agree
public import proofs.«01_k».proof.Proof.Dx
public import proofs.«01_k».proof.Proof.Dw
public import proofs.«01_k».proof.Proof.DwGate
public import proofs.«01_k».proof.Proof.DwDown
public import proofs.«01_k».proof.Proof.DwBOut
public import proofs.«01_k».proof.Proof.DwO
public import proofs.«01_k».proof.Proof.DwPle
public import proofs.«01_k».proof.Proof.InProj
public import proofs.«01_k».proof.Proof.AOut
public import proofs.«01_k».proof.Proof.PleProj
public import proofs.«01_k».proof.Proof.FfnGate
public import proofs.«01_k».proof.Proof.FfnUp
public import proofs.«01_k».proof.Proof.BOut
public import proofs.«01_k».proof.Proof.DDown
public import proofs.«01_k».proof.Proof.OMix
public import proofs.«01_k».proof.Proof.FfnDown
public import proofs.«01_k».proof.Proof.FirstNorm
public import proofs.«01_k».proof.Proof.SecondNorm
public import Idealize.ShloMosaic.Adequacy
public import Idealize.ShloMosaic.Init

@[expose] public section

noncomputable section

namespace Cert.Proof

open Idealize.ShloMosaic Idealize.SL.Sem

/-- The reference ends with every argument as it was, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference of claim 2 ends with every argument as it was, and it declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The reference of claim 3 ends with every argument as it was, and it declares no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The reference of claim 4 ends with every argument as it was, and it declares no semaphore. -/
theorem frame_reference4 : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The reference of claim 5 ends with every argument as it was, and it declares no semaphore. -/
theorem frame_reference5 : Cert.quiescent_Reference5Ideal (hReference5Ideal := Cert.Reference5Ideal.Gen.facts) := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The reference of claim 6 ends with every argument as it was, and it declares no semaphore. -/
theorem frame_reference6 : Cert.quiescent_Reference6Ideal (hReference6Ideal := Cert.Reference6Ideal.Gen.facts) := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The reference of claim 7 ends with every argument as it was, and it declares no semaphore. -/
theorem frame_reference7 : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The reference of claim 8 ends with every argument as it was, and it declares no semaphore. -/
theorem frame_reference8 : Cert.quiescent_Reference8Ideal (hReference8Ideal := Cert.Reference8Ideal.Gen.facts) := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The reference of claim 9 ends with every argument as it was, and it declares no semaphore. -/
theorem frame_reference9 : Cert.quiescent_Reference9Ideal (hReference9Ideal := Cert.Reference9Ideal.Gen.facts) := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The reference of claim 10 ends with every argument as it was, and it declares no semaphore. -/
theorem frame_reference10 : Cert.quiescent_Reference10Ideal (hReference10Ideal := Cert.Reference10Ideal.Gen.facts) := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- The reference of claim 11 ends with every argument as it was, and it declares no semaphore. -/
theorem frame_reference11 : Cert.quiescent_Reference11Ideal (hReference11Ideal := Cert.Reference11Ideal.Gen.facts) := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- The reference of claim 12 ends with every argument as it was, and it declares no semaphore. -/
theorem frame_reference12 : Cert.quiescent_Reference12Ideal (hReference12Ideal := Cert.Reference12Ideal.Gen.facts) := fun m ρ _ =>
  (θ_run Cert.Reference12Ideal.defs _ _).mono (fun r h => ⟨fun c => (h c).2.2,
      Idealize.ShloMosaic.sem_eq_zero_of_no_sems (by decide) r.2⟩)
    (Cert.Reference12Ideal.Value.run (F := Ideal) m ρ)

/-- The reference of claim 13 ends with every argument as it was, and it declares no semaphore. -/
theorem frame_reference13 : Cert.quiescent_Reference13Ideal (hReference13Ideal := Cert.Reference13Ideal.Gen.facts) := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)

/-- The reference of claim 14 ends with every argument as it was, and it declares no semaphore. -/
theorem frame_reference14 : Cert.quiescent_Reference14Ideal (hReference14Ideal := Cert.Reference14Ideal.Gen.facts) := fun m ρ _ =>
  (θ_run Cert.Reference14Ideal.defs _ _).mono (fun r h => ⟨fun c => (h c).2.2,
      Idealize.ShloMosaic.sem_eq_zero_of_no_sems (by decide) r.2⟩)
    (Cert.Reference14Ideal.Value.run (F := Ideal) m ρ)

/-- The reference of claim 15 ends with every argument as it was, and it declares no semaphore. -/
theorem frame_reference15 : Cert.quiescent_Reference15Ideal (hReference15Ideal := Cert.Reference15Ideal.Gen.facts) := fun m ρ _ =>
  (θ_run Cert.Reference15Ideal.defs _ _).mono (fun r h => ⟨fun c => (h c).2.2,
      Idealize.ShloMosaic.sem_eq_zero_of_no_sems (by decide) r.2⟩)
    (Cert.Reference15Ideal.Value.run (F := Ideal) m ρ)

/-- The reference of claim 16 ends with every argument as it was, and it declares no semaphore. -/
theorem frame_reference16 : Cert.quiescent_Reference16Ideal (hReference16Ideal := Cert.Reference16Ideal.Gen.facts) := fun m ρ _ =>
  (θ_run Cert.Reference16Ideal.defs _ _).mono (fun r h => ⟨fun c => (h c).2.2,
      Idealize.ShloMosaic.sem_eq_zero_of_no_sems (by decide) r.2⟩)
    (Cert.Reference16Ideal.Value.run (F := Ideal) m ρ)

/-- The reference of claim 17 ends with every argument as it was, and it declares no semaphore. -/
theorem frame_reference17 : Cert.quiescent_Reference17Ideal (hReference17Ideal := Cert.Reference17Ideal.Gen.facts) := fun m ρ _ =>
  (θ_run Cert.Reference17Ideal.defs _ _).mono (fun r h => ⟨fun c => (h c).2.2,
      Idealize.ShloMosaic.sem_eq_zero_of_no_sems (by decide) r.2⟩)
    (Cert.Reference17Ideal.Value.run (F := Ideal) m ρ)

/-- The reference of claim 18 ends with every argument as it was, and it declares no semaphore. -/
theorem frame_reference18 : Cert.quiescent_Reference18Ideal (hReference18Ideal := Cert.Reference18Ideal.Gen.facts) := fun m ρ _ =>
  (θ_run Cert.Reference18Ideal.defs _ _).mono (fun r h => ⟨fun c => (h c).2.2,
      Idealize.ShloMosaic.sem_eq_zero_of_no_sems (by decide) r.2⟩)
    (Cert.Reference18Ideal.Value.run (F := Ideal) m ρ)

/-- The reference of claim 19 ends with every argument as it was, and it declares no semaphore. -/
theorem frame_reference19 : Cert.quiescent_Reference19Ideal (hReference19Ideal := Cert.Reference19Ideal.Gen.facts) := fun m ρ _ =>
  (θ_run Cert.Reference19Ideal.defs _ _).mono (fun r h => ⟨fun c => (h c).2.2,
      Idealize.ShloMosaic.sem_eq_zero_of_no_sems (by decide) r.2⟩)
    (Cert.Reference19Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Pre_steps_finite.facts,
  Cert.Pre_gate_gradient_finite.facts,
  Cert.Pre_first_norm_gradient_finite.facts, Cert.Pre_second_norm_gradient_finite.facts,
  fun m ρ _ => Cert.Kernel.Gen.frame m ρ,
  fun m ρ _ => Cert.Kernel.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15.Gen.frame m ρ,
  fun m ρ _ => Cert.Kernel15Ideal.Gen.frame m ρ,
  frame_reference15,
  fun m ρ _ => frame_reference15 m ρ trivial,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel18.Gen.frame m ρ,
  fun m ρ _ => Cert.Kernel18.Gen.frame m ρ,
  fun m ρ _ => Cert.Kernel18Ideal.Gen.frame m ρ,
  frame_reference18,
  fun m ρ _ => frame_reference18 m ρ trivial,
  fun m ρ _ => Cert.Kernel19.Gen.frame m ρ,
  fun m ρ _ => Cert.Kernel19.Gen.frame m ρ,
  fun m ρ _ => Cert.Kernel19Ideal.Gen.frame m ρ,
  frame_reference19,
  fun m ρ _ => frame_reference19 m ρ trivial,
  IdealRules.named_const.statement Cert.KernelIdeal.κ "mask" .f32 0xF149F2CA#32 ⊥ rfl,
  agree,
  trivial,
  Cert.Kernel2Ideal.Dx.agree,
  trivial,
  Cert.Kernel3Ideal.Dw.agree,
  trivial,
  Cert.Kernel4Ideal.DwGate.agree,
  trivial,
  Cert.Kernel5Ideal.DwDown.agree,
  trivial,
  Cert.Kernel6Ideal.DwBOut.agree,
  trivial,
  Cert.Kernel7Ideal.DwO.agree,
  trivial,
  Cert.Kernel8Ideal.DwPle.agree,
  trivial,
  Cert.Kernel9Ideal.InProj.agree,
  trivial,
  Cert.Kernel10Ideal.AOut.agree,
  trivial,
  Cert.Kernel11Ideal.PleProj.agree,
  trivial,
  Cert.Kernel12Ideal.FfnGate.agree,
  trivial,
  Cert.Kernel13Ideal.FfnUp.agree,
  trivial,
  Cert.Kernel14Ideal.BOut.agree,
  trivial,
  Cert.Kernel15Ideal.DDown.agree,
  trivial,
  Cert.Kernel16Ideal.OMix.agree,
  trivial,
  Cert.Kernel17Ideal.FfnDown.agree,
  trivial,
  Cert.Kernel18Ideal.FirstNorm.agree,
  trivial,
  Cert.Kernel19Ideal.SecondNorm.agree⟩

end Cert.Proof

end
